-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)) (v7 : (c : Dev Cert.KernelIdeal.nD) → Buf (Elt Ideal) ((c.tc : Thread Cert.KernelIdeal.nD Cert.KernelIdeal.τ).loc Cert.KernelIdeal.main_v1_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_v1_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v105) = v3 c
          ∧ r.2.mem ((c.tc : Thread Cert.ReferenceIdeal.nD Cert.ReferenceIdeal.τ).loc Cert.ReferenceIdeal.main_v107) = v4 c
          ∧ r.2.mem ((c.tc : Thread Cert.ReferenceIdeal.nD Cert.ReferenceIdeal.τ).loc Cert.ReferenceIdeal.main_v108) = v5 c
          ∧ r.2.mem ((c.tc : Thread Cert.ReferenceIdeal.nD Cert.ReferenceIdeal.τ).loc Cert.ReferenceIdeal.main_v57) = v6 c
          ∧ r.2.mem ((c.tc : Thread Cert.ReferenceIdeal.nD Cert.ReferenceIdeal.τ).loc Cert.ReferenceIdeal.main_v90) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v37_0)) (v1 : (c : Dev Cert.Kernel4Ideal.nD) → Buf (Elt Ideal) ((c.tc : Thread Cert.Kernel4Ideal.nD Cert.Kernel4Ideal.τ).loc Cert.Kernel4Ideal.main_v37_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37_0) = v0 c
          ∧ r.2.mem ((c.tc : Thread Cert.Kernel4Ideal.nD Cert.Kernel4Ideal.τ).loc Cert.Kernel4Ideal.main_v37_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_v31) = v1 c
          ∧ r.2.mem ((c.tc : Thread Cert.Reference8Ideal.nD Cert.Reference8Ideal.τ).loc Cert.Reference8Ideal.main_v12) = v2 c
          ∧ r.2.mem ((c.tc : Thread Cert.Reference8Ideal.nD Cert.Reference8Ideal.τ).loc Cert.Reference8Ideal.main_v18) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
-- ==== Pre_finite.lean ====
abbrev S4096x1024 : Shape := ⟨2, ![4096, 1024]⟩
abbrev S4096x512 : Shape := ⟨2, ![4096, 512]⟩
abbrev S4096x3200 : Shape := ⟨2, ![4096, 3200]⟩
abbrev S1024x1024 : Shape := ⟨2, ![1024, 1024]⟩
abbrev S1x128 : Shape := ⟨2, ![1, 128]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  slices_S4096x3200_S4096x512_0_2560 : S4096x3200.Slices ![0, 2560] S4096x512
  bcast_S_S1024x1024 : S_.BroadcastsInDim S1024x1024 (![] : Fin 0 → Fin S1024x1024.rank)
  reducesTo_S1024x1024_S_d0_1 : S1024x1024.ReducesTo [0, 1] S_
  bcast_S_S1x128 : S_.BroadcastsInDim S1x128 (![] : Fin 0 → Fin S1x128.rank)
  reducesTo_S1x128_S_d0_1 : S1x128.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_v29 : IVec S_ 1) (main_v33 : IVec S_ 1) : IVec S_ 1 :=
  let main_v34 : IVec S_ 1 := andi main_v29 main_v33
  let main_v35 : FVec F S1x1024 .f32 := Host.absf main_arg7
  let main_cst_12 : FVec F S_ .f32 := constant S_ .f32 0x7F800000#32
  let main_v36 : FVec F S1x1024 .f32 := broadcastInDim S1x1024 ![] bcast_S_S1x1024 main_cst_12
  let main_v37 : IVec S1x1024 1 := cmpf .olt main_v35 main_v36
  let main_c_13 : IVec S_ 1 := constantI S_ 1 1#1
  let main_v38 : IVec S_ 1 := (fun x v => Host.reduce IntOp.andi x v reducesTo_S1x1024_S_d0_1 h_S_) main_v37 main_c_13
  let main_v39 : IVec S_ 1 := andi main_v34 main_v38
  main_v39

def fn_part1 {F : FTy → Type} [FloatOps F] (main_arg4 : FVec F S4096x1024 .f32) (main_arg5 : FVec F S1024x1024 .f32) (main_arg6 : FVec F S1x128 .f32) (main_arg7 : FVec F S1x1024 .f32) (main_v13 : IVec S_ 1) (main_v15 : FVec F S4096x512 .f32) (main_v16 : FVec F S4096x512 .f32) : IVec S_ 1 :=
  let main_v17 : IVec S4096x512 1 := cmpf .olt main_v15 main_v16
  let main_c_5 : IVec S_ 1 := constantI S_ 1 1#1
  let main_v18 : IVec S_ 1 := (fun x v => Host.reduce IntOp.andi x v reducesTo_S4096x512_S_d0_1 h_S_) main_v17 main_c_5
  let main_v19 : IVec S_ 1 := andi main_v13 main_v18
  let main_v20 : FVec F S4096x1024 .f32 := Host.absf main_arg4
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S_ 1 := andi main_v19 main_v23
  let main_v25 : FVec F S1024x1024 .f32 := Host.absf main_arg5
  let main_cst_8 : FVec F S_ .f32 := constant S_ .f32 0x7F800000#32
  let main_v26 : FVec F S1024x1024 .f32 := broadcastInDim S1024x1024 ![] bcast_S_S1024x1024 main_cst_8
  let main_v27 : IVec S1024x1024 1 := cmpf .olt main_v25 main_v26
  let main_c_9 : IVec S_ 1 := constantI S_ 1 1#1
  let main_v28 : IVec S_ 1 := (fun x v => Host.reduce IntOp.andi x v reducesTo_S1024x1024_S_d0_1 h_S_) main_v27 main_c_9
  let main_v29 : IVec S_ 1 := andi main_v24 main_v28
  let main_v30 : FVec F S1x128 .f32 := Host.absf main_arg6
  let main_cst_10 : FVec F S_ .f32 := constant S_ .f32 0x7F800000#32
  let main_v31 : FVec F S1x128 .f32 := broadcastInDim S1x128 ![] bcast_S_S1x128 main_cst_10
  let main_v32 : IVec S1x128 1 := cmpf .olt main_v30 main_v31
  let main_c_11 : IVec S_ 1 := constantI S_ 1 1#1
  let main_v33 : IVec S_ 1 := (fun x v => Host.reduce IntOp.andi x v reducesTo_S1x128_S_d0_1 h_S_) main_v32 main_c_11
  fn_part2 (F := F) main_arg7 main_v29 main_v33

def fn {F : FTy → Type} [FloatOps F] (main_arg0 : FVec F S4096x1024 .f32) (main_arg1 : FVec F S4096x512 .f32) (main_arg2 : FVec F S4096x512 .f32) (main_arg3 : FVec F S4096x3200 .f32) (main_arg4 : FVec F S4096x1024 .f32) (main_arg5 : FVec F S1024x1024 .f32) (main_arg6 : FVec F S1x128 .f32) (main_arg7 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := (extractStridedSlice S4096x512 ![0, 2560] · slices_S4096x3200_S4096x512_0_2560) main_arg3
  let main_v15 : FVec F S4096x512 .f32 := Host.absf main_v14
  let main_cst_4 : FVec F S_ .f32 := constant S_ .f32 0x7F800000#32
  let main_v16 : FVec F S4096x512 .f32 := broadcastInDim S4096x512 ![] bcast_S_S4096x512 main_cst_4
  fn_part1 (F := F) main_arg4 main_arg5 main_arg6 main_arg7 main_v13 main_v15 main_v16
-- ==== Pre_finite3.lean ====
abbrev S4096x1024 : Shape := ⟨2, ![4096, 1024]⟩
abbrev S1x1024 : Shape := ⟨2, ![1, 1024]⟩
abbrev S1024x3200 : Shape := ⟨2, ![1024, 3200]⟩
abbrev S4096x512 : Shape := ⟨2, ![4096, 512]⟩
abbrev S_ : Shape := ⟨0, ![]⟩
abbrev S4096x128 : Shape := ⟨2, ![4096, 128]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3200 : S_.BroadcastsInDim S1024x3200 (![] : Fin 0 → Fin S1024x3200.rank)
  reducesTo_S1024x3200_S_d0_1 : S1024x3200.ReducesTo [0, 1] S_
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  slices_S4096x512_S4096x128_0_0 : S4096x512.Slices ![0, 0] S4096x128
  bcast_S_S4096x128 : S_.BroadcastsInDim S4096x128 (![] : Fin 0 → Fin S4096x128.rank)
  reducesTo_S4096x128_S_d0_1 : S4096x128.ReducesTo [0, 1] S_

variable [Facts]

def fn_part3 {F : FTy → Type} [FloatOps F] (main_arg10 : FVec F S4096x512 .bf16) (main_v48 : IVec S_ 1) (main_v52 : IVec S4096x512 1) : IVec S_ 1 :=
  let main_c_17 : IVec S_ 1 := constantI S_ 1 1#1
  let main_v53 : IVec S_ 1 := (fun x v => Host.reduce IntOp.andi x v reducesTo_S4096x512_S_d0_1 h_S_) main_v52 main_c_17
  let main_v54 : IVec S_ 1 := andi main_v48 main_v53
  let main_v55 : FVec F S4096x128 .bf16 := (extractStridedSlice S4096x128 ![0, 0] · slices_S4096x512_S4096x128_0_0) main_arg10
  let main_v56 : FVec F S4096x128 .f32 := (extf .f32 · bitsLt_bf16_f32) main_v55
  let main_v57 : FVec F S4096x128 .f32 := Host.absf main_v56
  let main_cst_18 : FVec F S_ .f32 := constant S_ .f32 0x7F800000#32
  let main_v58 : FVec F S4096x128 .f32 := broadcastInDim S4096x128 ![] bcast_S_S4096x128 main_cst_18
  let main_v59 : IVec S4096x128 1 := cmpf .olt main_v57 main_v58
  let main_c_19 : IVec S_ 1 := constantI S_ 1 1#1
  let main_v60 : IVec S_ 1 := (fun x v => Host.reduce IntOp.andi x v reducesTo_S4096x128_S_d0_1 h_S_) main_v59 main_c_19
  let main_v61 : IVec S_ 1 := andi main_v54 main_v60
  main_v61

def fn_part2 {F : FTy → Type} [FloatOps F] (main_arg7 : FVec F S4096x512 .bf16) (main_arg8 : FVec F S4096x512 .bf16) (main_arg9 : FVec F S4096x512 .bf16) (main_arg10 : FVec F S4096x512 .bf16) (main_v30 : IVec S_ 1) (main_v34 : IVec S4096x512 1) : IVec S_ 1 :=
  let main_c_11 : IVec S_ 1 := constantI S_ 1 1#1
  let main_v35 : IVec S_ 1 := (fun x v => Host.reduce IntOp.andi x v reducesTo_S4096x512_S_d0_1 h_S_) main_v34 main_c_11
  let main_v36 : IVec S_ 1 := andi main_v30 main_v35
  let main_v37 : FVec F S4096x512 .f32 := (extf .f32 · bitsLt_bf16_f32) main_arg7
  let main_v38 : FVec F S4096x512 .f32 := Host.absf main_v37
  let main_cst_12 : FVec F S_ .f32 := constant S_ .f32 0x7F800000#32
  let main_v39 : FVec F S4096x512 .f32 := broadcastInDim S4096x512 ![] bcast_S_S4096x512 main_cst_12
  let main_v40 : IVec S4096x512 1 := cmpf .olt main_v38 main_v39
  let main_c_13 : IVec S_ 1 := constantI S_ 1 1#1
  let main_v41 : IVec S_ 1 := (fun x v => Host.reduce IntOp.andi x v reducesTo_S4096x512_S_d0_1 h_S_) main_v40 main_c_13
  let main_v42 : IVec S_ 1 := andi main_v36 main_v41
  let main_v43 : FVec F S4096x512 .f32 := (extf .f32 · bitsLt_bf16_f32) main_arg8
  let main_v44 : FVec F S4096x512 .f32 := Host.absf main_v43
  let main_cst_14 : FVec F S_ .f32 := constant S_ .f32 0x7F800000#32
  let main_v45 : FVec F S4096x512 .f32 := broadcastInDim S4096x512 ![] bcast_S_S4096x512 main_cst_14
  let main_v46 : IVec S4096x512 1 := cmpf .olt main_v44 main_v45
  let main_c_15 : IVec S_ 1 := constantI S_ 1 1#1
  let main_v47 : IVec S_ 1 := (fun x v => Host.reduce IntOp.andi x v reducesTo_S4096x512_S_d0_1 h_S_) main_v46 main_c_15
  let main_v48 : IVec S_ 1 := andi main_v42 main_v47
  let main_v49 : FVec F S4096x512 .f32 := (extf .f32 · bitsLt_bf16_f32) main_arg9
  let main_v50 : FVec F S4096x512 .f32 := Host.absf main_v49
  let main_cst_16 : FVec F S_ .f32 := constant S_ .f32 0x7F800000#32
  let main_v51 : FVec F S4096x512 .f32 := broadcastInDim S4096x512 ![] bcast_S_S4096x512 main_cst_16
  let main_v52 : IVec S4096x512 1 := cmpf .olt main_v50 main_v51
  fn_part3 (F := F) main_arg10 main_v48 main_v52

def fn_part1 {F : FTy → Type} [FloatOps F] (main_arg4 : FVec F S4096x512 .bf16) (main_arg5 : FVec F S4096x512 .bf16) (main_arg6 : FVec F S4096x512 .bf16) (main_arg7 : FVec F S4096x512 .bf16) (main_arg8 : FVec F S4096x512 .bf16) (main_arg9 : FVec F S4096x512 .bf16) (main_arg10 : FVec F S4096x512 .bf16) (main_v13 : IVec S_ 1) (main_v16 : IVec S1024x3200 1) : IVec S_ 1 :=
  let main_c_5 : IVec S_ 1 := constantI S_ 1 1#1
  let main_v17 : IVec S_ 1 := (fun x v => Host.reduce IntOp.andi x v reducesTo_S1024x3200_S_d0_1 h_S_) main_v16 main_c_5
  let main_v18 : IVec S_ 1 := andi main_v13 main_v17
  let main_v19 : FVec F S4096x512 .f32 := (extf .f32 · bitsLt_bf16_f32) main_arg4
  let main_v20 : FVec F S4096x512 .f32 := Host.absf main_v19
  let main_cst_6 : FVec F S_ .f32 := constant S_ .f32 0x7F800000#32
  let main_v21 : FVec F S4096x512 .f32 := broadcastInDim S4096x512 ![] bcast_S_S4096x512 main_cst_6
  let main_v22 : IVec S4096x512 1 := cmpf .olt main_v20 main_v21
  let main_c_7 : IVec S_ 1 := constantI S_ 1 1#1
  let main_v23 : IVec S_ 1 := (fun x v => Host.reduce IntOp.andi x v reducesTo_S4096x512_S_d0_1 h_S_) main_v22 main_c_7
  let main_v24 : IVec S_ 1 := andi main_v18 main_v23
  let main_v25 : FVec F S4096x512 .f32 := (extf .f32 · bitsLt_bf16_f32) main_arg5
  let main_v26 : FVec F S4096x512 .f32 := Host.absf main_v25
  let main_cst_8 : FVec F S_ .f32 := constant S_ .f32 0x7F800000#32
  let main_v27 : FVec F S4096x512 .f32 := broadcastInDim S4096x512 ![] bcast_S_S4096x512 main_cst_8
  let main_v28 : IVec S4096x512 1 := cmpf .olt main_v26 main_v27
  let main_c_9 : IVec S_ 1 := constantI S_ 1 1#1
  let main_v29 : IVec S_ 1 := (fun x v => Host.reduce IntOp.andi x v reducesTo_S4096x512_S_d0_1 h_S_) main_v28 main_c_9
  let main_v30 : IVec S_ 1 := andi main_v24 main_v29
  let main_v31 : FVec F S4096x512 .f32 := (extf .f32 · bitsLt_bf16_f32) main_arg6
  let main_v32 : FVec F S4096x512 .f32 := Host.absf main_v31
  let main_cst_10 : FVec F S_ .f32 := constant S_ .f32 0x7F800000#32
  let main_v33 : FVec F S4096x512 .f32 := broadcastInDim S4096x512 ![] bcast_S_S4096x512 main_cst_10
  let main_v34 : IVec S4096x512 1 := cmpf .olt main_v32 main_v33
  fn_part2 (F := F) main_arg7 main_arg8 main_arg9 main_arg10 main_v30 main_v34

def fn {F : FTy → Type} [FloatOps F] (main_arg0 : FVec F S4096x1024 .f32) (main_arg1 : FVec F S4096x1024 .f32) (main_arg2 : FVec F S1x1024 .f32) (main_arg3 : FVec F S1024x3200 .f32) (main_arg4 : FVec F S4096x512 .bf16) (main_arg5 : FVec F S4096x512 .bf16) (main_arg6 : FVec F S4096x512 .bf16) (main_arg7 : FVec F S4096x512 .bf16) (main_arg8 : FVec F S4096x512 .bf16) (main_arg9 : FVec F S4096x512 .bf16) (main_arg10 : FVec F S4096x512 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x3200 .f32 := Host.absf main_arg3
  let main_cst_4 : FVec F S_ .f32 := constant S_ .f32 0x7F800000#32
  let main_v15 : FVec F S1024x3200 .f32 := broadcastInDim S1024x3200 ![] bcast_S_S1024x3200 main_cst_4
  let main_v16 : IVec S1024x3200 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S4096x512 : Shape := ⟨2, ![4096, 512]⟩
abbrev S4096x3200 : Shape := ⟨2, ![4096, 3200]⟩
abbrev S1024x1024 : Shape := ⟨2, ![1024, 1024]⟩
abbrev S1x128 : Shape := ⟨2, ![1, 128]⟩
abbrev S1x1024 : Shape := ⟨2, ![1, 1024]⟩
abbrev S512x1024 : Shape := ⟨2, ![512, 1024]⟩
abbrev S512x512 : Shape := ⟨2, ![512, 512]⟩
abbrev S1024x512 : Shape := ⟨2, ![1024, 512]⟩
abbrev S256x512 : Shape := ⟨2, ![256, 512]⟩
abbrev S512x256 : Shape := ⟨2, ![512, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S256x1024 : Shape := ⟨2, ![256, 1024]⟩
abbrev S1 : Shape := ⟨1, ![1]⟩
abbrev S1x1 : Shape := ⟨2, ![1, 1]⟩
abbrev S1024 : Shape := ⟨1, ![1024]⟩
abbrev S128 : Shape := ⟨1, ![128]⟩

abbrev nBuf : Space → Nat
  | .hbm => 17
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x3200, .f32⟩
  | .hbm, ⟨4, _⟩ => ⟨S4096x1024, .f32⟩
  | .hbm, ⟨5, _⟩ => ⟨S1024x1024, .f32⟩
  | .hbm, ⟨6, _⟩ => ⟨S1x128, .f32⟩
  | .hbm, ⟨7, _⟩ => ⟨S1x1024, .f32⟩
  | .hbm, ⟨8, _⟩ => ⟨S1024x1024, .bf16⟩
  | .hbm, ⟨9, _⟩ => ⟨S1024x1024, .bf16⟩
  | .hbm, ⟨10, _⟩ => ⟨S4096x1024, .f32⟩
  | .hbm, ⟨11, _⟩ => ⟨S4096x512, .f32⟩
  | .hbm, ⟨12, _⟩ => ⟨S4096x512, .f32⟩
  | .hbm, ⟨13, _⟩ => ⟨S4096x512, .bf16⟩
  | .hbm, ⟨14, _⟩ => ⟨S1x128, .f32⟩
  | .hbm, ⟨15, _⟩ => ⟨S1x1024, .f32⟩
  | .hbm, ⟨16, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1x128, .f32⟩
  | .local _ .vmem, ⟨12, _⟩ => ⟨S1x1024, .f32⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S1x128, .f32⟩
  | .local _ .vmem, ⟨23, _⟩ => ⟨S1x1024, .f32⟩
  | .local _ .vmem, ⟨24, _⟩ => ⟨S1x128, .f32⟩
  | .local _ .vmem, ⟨25, _⟩ => ⟨S512x1024, .bf16⟩
  | .local _ .vmem, ⟨26, _⟩ => ⟨S1024x512, .bf16⟩
  | .local _ .vmem, ⟨27, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v689 : BitVec 1 := Scalar.cmpi .eq arg0 c7_i32
  let v690 : BitVec 32 := Scalar.extui v689
  let c0_i32_281 : BitVec 32 := 0#32
  let v691 : BitVec 1 := Scalar.cmpi .ne v690 c0_i32_281
  v691

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S4096x1024 : Shape := ⟨2, ![4096, 1024]⟩
abbrev S4096x512 : Shape := ⟨2, ![4096, 512]⟩
abbrev S4096x3200 : Shape := ⟨2, ![4096, 3200]⟩
abbrev S1024x1024 : Shape := ⟨2, ![1024, 1024]⟩
abbrev S1x128 : Shape := ⟨2, ![1, 128]⟩
abbrev S1x1024 : Shape := ⟨2, ![1, 1024]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S4096 : Shape := ⟨1, ![4096]⟩
abbrev S4096x1 : Shape := ⟨2, ![4096, 1]⟩
abbrev S1024 : Shape := ⟨1, ![1024]⟩
abbrev S128 : Shape := ⟨1, ![128]⟩

abbrev nBuf : Space → Nat
  | .hbm => 157
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x3200, .f32⟩
  | 4 => ⟨S4096x1024, .f32⟩
  | 5 => ⟨S1024x1024, .f32⟩
  | 6 => ⟨S1x128, .f32⟩
  | 7 => ⟨S1x1024, .f32⟩
  | 8 => ⟨S4096x512, .f32⟩
  | 9 => ⟨S4096x4x128, .f32⟩
  | 10 => ⟨S4096x4x128, .f32⟩
  | 11 => ⟨S_, .f32⟩
  | 12 => ⟨S4096x4, .f32⟩
  | 13 => ⟨S4096x4x1, .f32⟩
  | 14 => ⟨S_, .f32⟩
  | 15 => ⟨S4096x4x1, .f32⟩
  | 16 => ⟨S4096x4x1, .f32⟩
  | 17 => ⟨S_, .f32⟩
  | 18 => ⟨S4096x4x1, .f32⟩
  | 19 => ⟨S4096x4x1, .f32⟩
  | 20 => ⟨S4096x4x1, .f32⟩
  | 21 => ⟨S4096x4x1, .f32⟩
  | 22 => ⟨S_, .f32⟩
  | 23 => ⟨S4096x4x1, .f32⟩
  | 24 => ⟨S4096x4x1, .f32⟩
  | 25 => ⟨S4096x4x128, .f32⟩
  | 26 => ⟨S4096x4x128, .f32⟩
  | 27 => ⟨S1x1x128, .f32⟩
  | 28 => ⟨S4096x4x128, .f32⟩
  | 29 => ⟨S4096x4x128, .f32⟩
  | 30 => ⟨S4096x4x128, .f32⟩
  | 31 => ⟨S4096x4x128, .f32⟩
  | 32 => ⟨S4096x4x128, .f32⟩
  | 33 => ⟨S_, .f32⟩
  | 34 => ⟨S4096x4x128, .f32⟩
  | 35 => ⟨S4096x4x128, .f32⟩
  | 36 => ⟨S_, .f32⟩
  | 37 => ⟨S4096x4x128, .f32⟩
  | 38 => ⟨S4096x4x128, .f32⟩
  | 39 => ⟨S_, .f32⟩
  | 40 => ⟨S4096x4x128, .f32⟩
  | 41 => ⟨S4096x4x128, .f32⟩
  | 42 => ⟨S4096x4x128, .f32⟩
  | 43 => ⟨S4096x4x128, .f32⟩
  | 44 => ⟨S4096x4x128, .f32⟩
  | 45 => ⟨S4096x512, .f32⟩
  | 46 => ⟨S4096x1024, .f32⟩
  | 47 => ⟨S4096x1024, .f32⟩
  | 48 => ⟨S4096x1024, .f32⟩
  | 49 => ⟨S4096x1024, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S_, .f32⟩
  | 74 => ⟨S4096, .f32⟩
  | 75 => ⟨S_, .f32⟩
  | 76 => ⟨S4096, .f32⟩
  | 77 => ⟨S4096, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S4096, .f32⟩
  | 86 => ⟨S_, .f32⟩
  | 87 => ⟨S4096, .f32⟩
  | 88 => ⟨S4096, .f32⟩
  | 89 => ⟨S4096x1024, .f32⟩
  | 90 => ⟨S4096x1024, .f32⟩
  | 91 => ⟨S4096x1024, .f32⟩
  | 92 => ⟨S_, .f32⟩
  | 93 => ⟨S1024, .f32⟩
  | 94 => ⟨S1x1024, .f32⟩
  | 95 => ⟨S4096x1024, .f32⟩
  | 96 => ⟨S4096x1024, .f32⟩
  | 97 => ⟨S4096x1024, .f32⟩
  | 98 => ⟨S_, .f32⟩
  | 99 => ⟨S4096, .f32⟩
  | 100 => ⟨S4096x1, .f32⟩
  | 101 => ⟨S4096x1024, .f32⟩
  | 102 => ⟨S4096x1024, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S1024x1024, .f32⟩
  | 115 => ⟨S1024x1024, .f32⟩
  | 116 => ⟨S4096x1024, .f32⟩
  | 117 => ⟨S4096x512, .f32⟩
  | 118 => ⟨S4096x512, .f32⟩
  | 119 => ⟨S4096x4x128, .f32⟩
  | 120 => ⟨S4096x4x128, .f32⟩
  | 121 => ⟨S4096x4x128, .f32⟩
  | 122 => ⟨S4096x4x128, .f32⟩
  | 123 => ⟨S4096x4x128, .f32⟩
  | 124 => ⟨S4096x4x128, .f32⟩
  | 125 => ⟨S4096x4x128, .f32⟩
  | 126 => ⟨S4096x512, .f32⟩
  | 127 => ⟨S4096x4x128, .f32⟩
  | _ => ⟨S4096x1024, .f32⟩

abbrev hbmTy0_1 (i : Nat) : BufTy := match i % 128 with
  | 0 => ⟨S_, .f32⟩
  | 1 => ⟨S128, .f32⟩
  | 2 => ⟨S1x1x128, .f32⟩
  | 3 => ⟨S4096x4x128, .f32⟩
  | 4 => ⟨S4096x4x128, .f32⟩
  | 5 => ⟨S_, .f32⟩
  | 6 => ⟨S128, .f32⟩
  | 7 => ⟨S1x128, .f32⟩
  | 8 => ⟨S4096x4x128, .f32⟩
  | 9 => ⟨S_, .f32⟩
  | 10 => ⟨S4096x4, .f32⟩
  | 11 => ⟨S4096x4x1, .f32⟩
  | 12 => ⟨S4096x4x128, .f32⟩
  | 13 => ⟨S4096x4x128, .f32⟩
  | 14 => ⟨S4096x4x1, .f32⟩
  | 15 => ⟨S_, .f32⟩
  | 16 => ⟨S4096x4x1, .f32⟩
  | 17 => ⟨S4096x4x1, .f32⟩
  | 18 => ⟨S_, .f32⟩
  | 19 => ⟨S4096x4, .f32⟩
  | 20 => ⟨S4096x4x128, .f32⟩
  | 21 => ⟨S4096x4x128, .f32⟩
  | 22 => ⟨S4096x4x128, .f32⟩
  | 23 => ⟨S4096x4x128, .f32⟩
  | 24 => ⟨S4096x4x128, .f32⟩
  | 25 => ⟨S4096x512, .f32⟩
  | 26 => ⟨S1024x1024, .bf16⟩
  | 27 => ⟨S4096x512, .bf16⟩
  | 28 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v19_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v19_1 : Ref sig .tc := ⟨.hbm, 42, rfl⟩
abbrev main_v19_0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_cst_4 : Ref sig .tc := ⟨.hbm, 53, rfl⟩
abbrev main_v28 : Ref sig .tc := ⟨.hbm, 54, rfl⟩
abbrev main_v29 : Ref sig .tc := ⟨.hbm, 55, rfl⟩
abbrev main_cst_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_cst_11 : Ref sig .tc := ⟨.hbm, 80, rfl⟩
abbrev main_v48 : Ref sig .tc := ⟨.hbm, 81, rfl⟩
abbrev main_cst_12 : Ref sig .tc := ⟨.hbm, 82, rfl⟩
abbrev main_cst_13 : Ref sig .tc := ⟨.hbm, 83, rfl⟩
abbrev main_v49 : Ref sig .tc := ⟨.hbm, 84, rfl⟩
abbrev main_v50 : Ref sig .tc := ⟨.hbm, 85, rfl⟩
abbrev main_cst_14 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_15 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_16 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_17 : Ref sig .tc := ⟨.hbm, 104, rfl⟩
abbrev main_v66 : Ref sig .tc := ⟨.hbm, 105, rfl⟩
abbrev main_v67 : Ref sig .tc := ⟨.hbm, 106, rfl⟩
abbrev main_cst_18 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_19 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_20 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_21 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_22 : Ref sig .tc := ⟨.hbm, 143, rfl⟩
abbrev main_v97 : Ref sig .tc := ⟨.hbm, 144, rfl⟩
abbrev main_v98 : Ref sig .tc := ⟨.hbm, 145, rfl⟩
abbrev main_cst_23 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S8x128 : Shape := ⟨2, ![8, 128]⟩
abbrev S4x1024x896 : Shape := ⟨3, ![4, 1024, 896]⟩
abbrev S1024x1024 : Shape := ⟨2, ![1024, 1024]⟩
abbrev S1024x512 : Shape := ⟨2, ![1024, 512]⟩
abbrev S1024x3584 : Shape := ⟨2, ![1024, 3584]⟩
abbrev S1024x896 : Shape := ⟨2, ![1024, 896]⟩
abbrev S1x1024x896 : Shape := ⟨3, ![1, 1024, 896]⟩

abbrev nBuf : Space → Nat
  | .hbm => 29
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x4096, .f32⟩
  | .hbm, ⟨25, _⟩ => ⟨S1024x4096, .bf16⟩
  | .hbm, ⟨26, _⟩ => ⟨S_, .f32⟩
  | .hbm, ⟨27, _⟩ => ⟨S8x128, .f32⟩
  | .hbm, ⟨28, _⟩ => ⟨S4x1024x896, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S4x1024x896, .bf16⟩
  | .local _ .vmem, ⟨17, _⟩ => ⟨S1024x3584, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v54 : BitVec 1 := Scalar.cmpi .eq arg0 c3_i32
  let v55 : BitVec 32 := Scalar.extui v54
  let c0_i32_44 : BitVec 32 := 0#32
  let v56 : BitVec 1 := Scalar.cmpi .ne v55 c0_i32_44
  v56

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1024x896 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4096x1024 : Shape := ⟨2, ![4096, 1024]⟩
abbrev S1x1024 : Shape := ⟨2, ![1, 1024]⟩
abbrev S4096x512 : Shape := ⟨2, ![4096, 512]⟩
abbrev S4096x128 : Shape := ⟨2, ![4096, 128]⟩
abbrev S4096x3200 : Shape := ⟨2, ![4096, 3200]⟩
abbrev S_ : Shape := ⟨0, ![]⟩
abbrev S1024x3200 : Shape := ⟨2, ![1024, 3200]⟩
abbrev S4096 : Shape := ⟨1, ![4096]⟩
abbrev S4096x1 : Shape := ⟨2, ![4096, 1]⟩
abbrev S3200x1024 : Shape := ⟨2, ![3200, 1024]⟩
abbrev S1024x896 : Shape := ⟨2, ![1024, 896]⟩
abbrev S1024x0 : Shape := ⟨2, ![1024, 0]⟩
abbrev S1024x894 : Shape := ⟨2, ![1024, 894]⟩
abbrev S1024x2 : Shape := ⟨2, ![1024, 2]⟩
abbrev S1024x892 : Shape := ⟨2, ![1024, 892]⟩
abbrev S1024x4 : Shape := ⟨2, ![1024, 4]⟩
abbrev S1024x890 : Shape := ⟨2, ![1024, 890]⟩
abbrev S1024x6 : Shape := ⟨2, ![1024, 6]⟩
abbrev S1x1024x896 : Shape := ⟨3, ![1, 1024, 896]⟩
abbrev S4x1024x896 : Shape := ⟨3, ![4, 1024, 896]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x128, .bf16⟩
  | .hbm, ⟨10, _⟩ => ⟨S4096x3200, .bf16⟩
  | .hbm, ⟨11, _⟩ => ⟨S4096x3200, .f32⟩
  | .hbm, ⟨12, _⟩ => ⟨S_, .f32⟩
  | .hbm, ⟨13, _⟩ => ⟨S1024x3200, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x3200, .f32⟩
  | .hbm, ⟨30, _⟩ => ⟨S3200x1024, .f32⟩
  | .hbm, ⟨31, _⟩ => ⟨S1024x3200, .f32⟩
  | .hbm, ⟨32, _⟩ => ⟨S1024x896, .f32⟩
  | .hbm, ⟨33, _⟩ => ⟨S1024x0, .f32⟩
  | .hbm, ⟨34, _⟩ => ⟨S1024x896, .f32⟩
  | .hbm, ⟨35, _⟩ => ⟨S1024x894, .f32⟩
  | .hbm, ⟨36, _⟩ => ⟨S1024x2, .f32⟩
  | .hbm, ⟨37, _⟩ => ⟨S1024x896, .f32⟩
  | .hbm, ⟨38, _⟩ => ⟨S1024x892, .f32⟩
  | .hbm, ⟨39, _⟩ => ⟨S1024x4, .f32⟩
  | .hbm, ⟨40, _⟩ => ⟨S1024x896, .f32⟩
  | .hbm, ⟨41, _⟩ => ⟨S1024x890, .f32⟩
  | .hbm, ⟨42, _⟩ => ⟨S1024x6, .f32⟩
  | .hbm, ⟨43, _⟩ => ⟨S1024x896, .f32⟩
  | .hbm, ⟨44, _⟩ => ⟨S1x1024x896, .f32⟩
  | .hbm, ⟨45, _⟩ => ⟨S1x1024x896, .f32⟩
  | .hbm, ⟨46, _⟩ => ⟨S1x1024x896, .f32⟩
  | .hbm, ⟨47, _⟩ => ⟨S1x1024x896, .f32⟩
  | .hbm, ⟨48, _⟩ => ⟨S4x1024x896, .f32⟩
  | .hbm, ⟨49, _⟩ => ⟨S4x1024x896, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x3200 : Shape := ⟨2, ![1024, 3200]⟩
abbrev S4096x512 : Shape := ⟨2, ![4096, 512]⟩
abbrev S_ : Shape := ⟨0, ![]⟩
abbrev S8x128 : Shape := ⟨2, ![8, 128]⟩
abbrev S512x1024 : Shape := ⟨2, ![512, 1024]⟩
abbrev S512x512 : Shape := ⟨2, ![512, 512]⟩
abbrev S512x128 : Shape := ⟨2, ![512, 128]⟩
abbrev S7 : Shape := ⟨1, ![7]⟩
abbrev S1 : Shape := ⟨1, ![1]⟩
abbrev S1024x512 : Shape := ⟨2, ![1024, 512]⟩
abbrev S1024x128 : Shape := ⟨2, ![1024, 128]⟩
abbrev S512 : Shape := ⟨1, ![512]⟩
abbrev S512x1 : Shape := ⟨2, ![512, 1]⟩
abbrev S1024 : Shape := ⟨1, ![1024]⟩

abbrev nBuf : Space → Nat
  | .hbm => 16
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x3200, .f32⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S1024x3200, .bf16⟩
  | .hbm, ⟨12, _⟩ => ⟨S_, .f32⟩
  | .hbm, ⟨13, _⟩ => ⟨S8x128, .f32⟩
  | .hbm, ⟨14, _⟩ => ⟨S4096x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x128, .bf16⟩
  | .local _ .vmem, ⟨18, _⟩ => ⟨S512x128, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S1024x3200, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v3 : BitVec 32 := Scalar.extui v0
  let c0_i32_9 : BitVec 32 := 0#32
  let v4 : BitVec 1 := Scalar.cmpi .ne v3 c0_i32_9
  v4

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v5 : BitVec 1 := Scalar.xori v0 v_true
  let v6 : BitVec 32 := Scalar.extui v5
  let c0_i32_10 : BitVec 32 := 0#32
  let v7 : BitVec 1 := Scalar.cmpi .ne v6 c0_i32_10
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_1 : BitVec 32 := 0#32
  let v2 : BitVec 1 := Scalar.cmpi .ne v1 c0_i32_1
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S4096x1024 : Shape := ⟨2, ![4096, 1024]⟩
abbrev S1x1024 : Shape := ⟨2, ![1, 1024]⟩
abbrev S1024x3200 : Shape := ⟨2, ![1024, 3200]⟩
abbrev S4096x512 : Shape := ⟨2, ![4096, 512]⟩
abbrev S4096x128 : Shape := ⟨2, ![4096, 128]⟩
abbrev S4096x3200 : Shape := ⟨2, ![4096, 3200]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x3200, .f32⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x128, .bf16⟩
  | .hbm, ⟨12, _⟩ => ⟨S4096x3200, .bf16⟩
  | .hbm, ⟨13, _⟩ => ⟨S4096x3200, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x3200, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x3200 : Shape := ⟨2, ![1024, 3200]⟩
abbrev S4x1536 : Shape := ⟨2, ![4, 1536]⟩
abbrev S1x4 : Shape := ⟨2, ![1, 4]⟩
abbrev S4x128x128 : Shape := ⟨3, ![4, 128, 128]⟩
abbrev S1x512 : Shape := ⟨2, ![1, 512]⟩
abbrev S_ : Shape := ⟨0, ![]⟩
abbrev S8x128 : Shape := ⟨2, ![8, 128]⟩
abbrev S256x384 : Shape := ⟨2, ![256, 384]⟩
abbrev S1x256x384 : Shape := ⟨3, ![1, 256, 384]⟩
abbrev S4x256x384 : Shape := ⟨3, ![4, 256, 384]⟩
abbrev S4096x3200 : Shape := ⟨2, ![4096, 3200]⟩
abbrev S1024x4096 : Shape := ⟨2, ![1024, 4096]⟩
abbrev S4096x512 : Shape := ⟨2, ![4096, 512]⟩
abbrev S256x1024 : Shape := ⟨2, ![256, 1024]⟩
abbrev S256x3200 : Shape := ⟨2, ![256, 3200]⟩
abbrev S1024x256 : Shape := ⟨2, ![1024, 256]⟩
abbrev S256x512 : Shape := ⟨2, ![256, 512]⟩
abbrev S384x3200 : Shape := ⟨2, ![384, 3200]⟩
abbrev S256 : Shape := ⟨1, ![256]⟩
abbrev S256x1 : Shape := ⟨2, ![256, 1]⟩
abbrev S256x128 : Shape := ⟨2, ![256, 128]⟩
abbrev S8x512 : Shape := ⟨2, ![8, 512]⟩
abbrev S248x128 : Shape := ⟨2, ![248, 128]⟩
abbrev S4x128 : Shape := ⟨2, ![4, 128]⟩
abbrev S1x128 : Shape := ⟨2, ![1, 128]⟩
abbrev S128x512 : Shape := ⟨2, ![128, 512]⟩
abbrev S128x128 : Shape := ⟨2, ![128, 128]⟩
abbrev S1024x768 : Shape := ⟨2, ![1024, 768]⟩
abbrev S256x768 : Shape := ⟨2, ![256, 768]⟩
abbrev S1x128x128 : Shape := ⟨3, ![1, 128, 128]⟩
abbrev S384x128 : Shape := ⟨2, ![384, 128]⟩
abbrev S384x256 : Shape := ⟨2, ![384, 256]⟩
abbrev S256x256 : Shape := ⟨2, ![256, 256]⟩
abbrev S1024x128 : Shape := ⟨2, ![1024, 128]⟩
abbrev S1x1 : Shape := ⟨2, ![1, 1]⟩
abbrev S128x3200 : Shape := ⟨2, ![128, 3200]⟩

abbrev nBuf : Space → Nat
  | .hbm => 66
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3200, .f32⟩
  | .hbm, ⟨3, _⟩ => ⟨S4x1536, .f32⟩
  | .hbm, ⟨4, _⟩ => ⟨S1x4, .f32⟩
  | .hbm, ⟨5, _⟩ => ⟨S1x4, .f32⟩
  | .hbm, ⟨6, _⟩ => ⟨S4x128x128, .f32⟩
  | .hbm, ⟨7, _⟩ => ⟨S1x512, .f32⟩
  | .hbm, ⟨8, _⟩ => ⟨S1024x3200, .bf16⟩
  | .hbm, ⟨9, _⟩ => ⟨S_, .f32⟩
  | .hbm, ⟨10, _⟩ => ⟨S8x128, .f32⟩
  | .hbm, ⟨11, _⟩ => ⟨S256x384, .i32⟩
  | .hbm, ⟨12, _⟩ => ⟨S256x384, .i32⟩
  | .hbm, ⟨13, _⟩ => ⟨S256x384, .i32⟩
  | .hbm, ⟨14, _⟩ => ⟨S_, .i32⟩
  | .hbm, ⟨15, _⟩ => ⟨S256x384, .i32⟩
  | .hbm, ⟨16, _⟩ => ⟨S256x384, .i32⟩
  | .hbm, ⟨17, _⟩ => ⟨S_, .i32⟩
  | .hbm, ⟨18, _⟩ => ⟨S256x384, .i32⟩
  | .hbm, ⟨19, _⟩ => ⟨S256x384, .i1⟩
  | .hbm, ⟨20, _⟩ => ⟨S_, .i32⟩
  | .hbm, ⟨21, _⟩ => ⟨S256x384, .i32⟩
  | .hbm, ⟨22, _⟩ => ⟨S256x384, .i1⟩
  | .hbm, ⟨23, _⟩ => ⟨S256x384, .i1⟩
  | .hbm, ⟨24, _⟩ => ⟨S256x384, .f32⟩
  | .hbm, ⟨25, _⟩ => ⟨S_, .i32⟩
  | .hbm, ⟨26, _⟩ => ⟨S256x384, .i32⟩
  | .hbm, ⟨27, _⟩ => ⟨S256x384, .i1⟩
  | .hbm, ⟨28, _⟩ => ⟨S_, .i32⟩
  | .hbm, ⟨29, _⟩ => ⟨S256x384, .i32⟩
  | .hbm, ⟨30, _⟩ => ⟨S256x384, .i1⟩
  | .hbm, ⟨31, _⟩ => ⟨S256x384, .i1⟩
  | .hbm, ⟨32, _⟩ => ⟨S256x384, .f32⟩
  | .hbm, ⟨33, _⟩ => ⟨S_, .i32⟩
  | .hbm, ⟨34, _⟩ => ⟨S256x384, .i32⟩
  | .hbm, ⟨35, _⟩ => ⟨S256x384, .i1⟩
  | .hbm, ⟨36, _⟩ => ⟨S_, .i32⟩
  | .hbm, ⟨37, _⟩ => ⟨S256x384, .i32⟩
  | .hbm, ⟨38, _⟩ => ⟨S256x384, .i1⟩
  | .hbm, ⟨39, _⟩ => ⟨S256x384, .i1⟩
  | .hbm, ⟨40, _⟩ => ⟨S256x384, .f32⟩
  | .hbm, ⟨41, _⟩ => ⟨S_, .i32⟩
  | .hbm, ⟨42, _⟩ => ⟨S256x384, .i32⟩
  | .hbm, ⟨43, _⟩ => ⟨S256x384, .i1⟩
  | .hbm, ⟨44, _⟩ => ⟨S_, .i32⟩
  | .hbm, ⟨45, _⟩ => ⟨S256x384, .i32⟩
  | .hbm, ⟨46, _⟩ => ⟨S256x384, .i1⟩
  | .hbm, ⟨47, _⟩ => ⟨S256x384, .i1⟩
  | .hbm, ⟨48, _⟩ => ⟨S256x384, .f32⟩
  | .hbm, ⟨49, _⟩ => ⟨S1x256x384, .f32⟩
  | .hbm, ⟨50, _⟩ => ⟨S1x256x384, .f32⟩
  | .hbm, ⟨51, _⟩ => ⟨S1x256x384, .f32⟩
  | .hbm, ⟨52, _⟩ => ⟨S1x256x384, .f32⟩
  | .hbm, ⟨53, _⟩ => ⟨S4x256x384, .f32⟩
  | .hbm, ⟨54, _⟩ => ⟨S4x256x384, .bf16⟩
  | .hbm, ⟨55, _⟩ => ⟨S4096x3200, .f32⟩
  | .hbm, ⟨56, _⟩ => ⟨S1024x4096, .bf16⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S4096x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3200, .bf16⟩
  | .local _ .vmem, ⟨4, _⟩ => ⟨S4x1536, .f32⟩
  | .local _ .vmem, ⟨5, _⟩ => ⟨S1x4, .f32⟩
  | .local _ .vmem, ⟨6, _⟩ => ⟨S1x4, .f32⟩
  | .local _ .vmem, ⟨7, _⟩ => ⟨S4x128x128, .f32⟩
  | .local _ .vmem, ⟨8, _⟩ => ⟨S1x512, .f32⟩
  | .local _ .vmem, ⟨9, _⟩ => ⟨S4x256x384, .bf16⟩
  | .local _ .vmem, ⟨10, _⟩ => ⟨S256x3200, .f32⟩
  | .local _ .vmem, ⟨11, _⟩ => ⟨S256x3200, .f32⟩
  | .local _ .vmem, ⟨12, _⟩ => ⟨S1024x256, .bf16⟩
  | .local _ .vmem, ⟨13, _⟩ => ⟨S1024x256, .bf16⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S384x3200, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_v37_2 : Ref sig .tc := ⟨.hbm, 57, rfl⟩
abbrev main_v37_3 : Ref sig .tc := ⟨.hbm, 58, rfl⟩
abbrev main_v37_4 : Ref sig .tc := ⟨.hbm, 59, rfl⟩
abbrev main_v37_5 : Ref sig .tc := ⟨.hbm, 60, rfl⟩
abbrev main_v37_6 : Ref sig .tc := ⟨.hbm, 61, rfl⟩
abbrev main_v37_7 : Ref sig .tc := ⟨.hbm, 62, rfl⟩
abbrev main_v37_8 : Ref sig .tc := ⟨.hbm, 63, rfl⟩
abbrev main_v37_9 : Ref sig .tc := ⟨.hbm, 64, rfl⟩
abbrev main_v37_10 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_19 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_20 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x3200 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S4096x1024 : Shape := ⟨2, ![4096, 1024]⟩
abbrev S1x1024 : Shape := ⟨2, ![1, 1024]⟩
abbrev S1024x3200 : Shape := ⟨2, ![1024, 3200]⟩
abbrev S4x1536 : Shape := ⟨2, ![4, 1536]⟩
abbrev S1x4 : Shape := ⟨2, ![1, 4]⟩
abbrev S4x128x128 : Shape := ⟨3, ![4, 128, 128]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S4096x3200 : Shape := ⟨2, ![4096, 3200]⟩
abbrev S1024x4096 : Shape := ⟨2, ![1024, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3200, .f32⟩
  | .hbm, ⟨3, _⟩ => ⟨S4x1536, .f32⟩
  | .hbm, ⟨4, _⟩ => ⟨S1x4, .f32⟩
  | .hbm, ⟨5, _⟩ => ⟨S1x4, .f32⟩
  | .hbm, ⟨6, _⟩ => ⟨S4x128x128, .f32⟩
  | .hbm, ⟨7, _⟩ => ⟨S1x512, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x3200, .f32⟩
  | .hbm, ⟨24, _⟩ => ⟨S1024x4096, .f32⟩
  | .hbm, ⟨25, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== Kernel5.lean ====
abbrev S770x8x128 : Shape := ⟨3, ![770, 8, 128]⟩
abbrev S77x8x128 : Shape := ⟨3, ![77, 8, 128]⟩

abbrev nBuf : Space → Nat
  | .hbm => 7
  | .vmem => 14
  | .smem => 0
  | _ => 0

abbrev bufTy : (tb : Table) → Fin (tcTables nBuf tb) → BufTy
  | .hbm, ⟨0, _⟩ => ⟨S770x8x128, .f32⟩
  | .hbm, ⟨1, _⟩ => ⟨S770x8x128, .f32⟩
  | .hbm, ⟨2, _⟩ => ⟨S770x8x128, .f32⟩
  | .hbm, ⟨3, _⟩ => ⟨S770x8x128, .f32⟩
  | .hbm, ⟨4, _⟩ => ⟨S770x8x128, .f32⟩
  | .hbm, ⟨5, _⟩ => ⟨S770x8x128, .f32⟩
  | .hbm, ⟨6, _⟩ => ⟨S770x8x128, .f32⟩
  | .local _ .vmem, ⟨0, _⟩ => ⟨S77x8x128, .f32⟩
  | .local _ .vmem, ⟨1, _⟩ => ⟨S77x8x128, .f32⟩
  | .local _ .vmem, ⟨2, _⟩ => ⟨S77x8x128, .f32⟩
  | .local _ .vmem, ⟨3, _⟩ => ⟨S77x8x128, .f32⟩
  | .local _ .vmem, ⟨4, _⟩ => ⟨S77x8x128, .f32⟩
  | .local _ .vmem, ⟨5, _⟩ => ⟨S77x8x128, .f32⟩
  | .local _ .vmem, ⟨6, _⟩ => ⟨S77x8x128, .f32⟩
  | .local _ .vmem, ⟨7, _⟩ => ⟨S77x8x128, .f32⟩
  | .local _ .vmem, ⟨8, _⟩ => ⟨S77x8x128, .f32⟩
  | .local _ .vmem, ⟨9, _⟩ => ⟨S77x8x128, .f32⟩
  | .local _ .vmem, ⟨10, _⟩ => ⟨S77x8x128, .f32⟩
  | .local _ .vmem, ⟨11, _⟩ => ⟨S77x8x128, .f32⟩
  | .local _ .vmem, ⟨12, _⟩ => ⟨S77x8x128, .f32⟩
  | .local _ .vmem, ⟨13, _⟩ => ⟨S77x8x128, .f32⟩
  | _, _ => ⟨S770x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S77x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S77x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S77x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S77x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S77x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S77x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S77x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S770x8x128 : Shape := ⟨3, ![770, 8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S770x8x128, .f32⟩
  | .hbm, ⟨1, _⟩ => ⟨S770x8x128, .f32⟩
  | .hbm, ⟨2, _⟩ => ⟨S770x8x128, .f32⟩
  | .hbm, ⟨3, _⟩ => ⟨S770x8x128, .f32⟩
  | .hbm, ⟨4, _⟩ => ⟨S_, .f32⟩
  | .hbm, ⟨5, _⟩ => ⟨S770x8x128, .f32⟩
  | .hbm, ⟨6, _⟩ => ⟨S770x8x128, .f32⟩
  | .hbm, ⟨7, _⟩ => ⟨S_, .f32⟩
  | .hbm, ⟨8, _⟩ => ⟨S770x8x128, .f32⟩
  | .hbm, ⟨9, _⟩ => ⟨S770x8x128, .f32⟩
  | .hbm, ⟨10, _⟩ => ⟨S770x8x128, .f32⟩
  | .hbm, ⟨11, _⟩ => ⟨S_, .f32⟩
  | .hbm, ⟨12, _⟩ => ⟨S770x8x128, .f32⟩
  | .hbm, ⟨13, _⟩ => ⟨S770x8x128, .f32⟩
  | .hbm, ⟨14, _⟩ => ⟨S770x8x128, .f32⟩
  | .hbm, ⟨15, _⟩ => ⟨S_, .f32⟩
  | .hbm, ⟨16, _⟩ => ⟨S770x8x128, .f32⟩
  | .hbm, ⟨17, _⟩ => ⟨S770x8x128, .f32⟩
  | .hbm, ⟨18, _⟩ => ⟨S770x8x128, .f32⟩
  | .hbm, ⟨19, _⟩ => ⟨S_, .f32⟩
  | .hbm, ⟨20, _⟩ => ⟨S770x8x128, .f32⟩
  | .hbm, ⟨21, _⟩ => ⟨S770x8x128, .f32⟩
  | .hbm, ⟨22, _⟩ => ⟨S_, .f32⟩
  | .hbm, ⟨23, _⟩ => ⟨S770x8x128, .f32⟩
  | .hbm, ⟨24, _⟩ => ⟨S770x8x128, .f32⟩
  | .hbm, ⟨25, _⟩ => ⟨S770x8x128, .f32⟩
  | .hbm, ⟨26, _⟩ => ⟨S_, .f32⟩
  | .hbm, ⟨27, _⟩ => ⟨S770x8x128, .f32⟩
  | .hbm, ⟨28, _⟩ => ⟨S770x8x128, .f32⟩
  | .hbm, ⟨29, _⟩ => ⟨S770x8x128, .f32⟩
  | .hbm, ⟨30, _⟩ => ⟨S_, .f32⟩
  | .hbm, ⟨31, _⟩ => ⟨S770x8x128, .f32⟩
  | .hbm, ⟨32, _⟩ => ⟨S770x8x128, .f32⟩
  | .hbm, ⟨33, _⟩ => ⟨S770x8x128, .f32⟩
  | .hbm, ⟨34, _⟩ => ⟨S_, .f32⟩
  | .hbm, ⟨35, _⟩ => ⟨S770x8x128, .f32⟩
  | .hbm, ⟨36, _⟩ => ⟨S770x8x128, .f32⟩
  | _, _ => ⟨S770x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S1x8x128 : Shape := ⟨3, ![1, 8, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S1x8x128, .f32⟩
  | .hbm, ⟨5, _⟩ => ⟨S1x8x128, .f32⟩
  | .hbm, ⟨6, _⟩ => ⟨S1x8x128, .f32⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | _, _ => ⟨S1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference6Ideal.lean ====
abbrev S1x8x128 : Shape := ⟨3, ![1, 8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S_, .f32⟩
  | .hbm, ⟨5, _⟩ => ⟨S1x8x128, .f32⟩
  | .hbm, ⟨6, _⟩ => ⟨S1x8x128, .f32⟩
  | .hbm, ⟨7, _⟩ => ⟨S_, .f32⟩
  | .hbm, ⟨8, _⟩ => ⟨S1x8x128, .f32⟩
  | .hbm, ⟨9, _⟩ => ⟨S1x8x128, .f32⟩
  | .hbm, ⟨10, _⟩ => ⟨S1x8x128, .f32⟩
  | .hbm, ⟨11, _⟩ => ⟨S_, .f32⟩
  | .hbm, ⟨12, _⟩ => ⟨S1x8x128, .f32⟩
  | .hbm, ⟨13, _⟩ => ⟨S1x8x128, .f32⟩
  | .hbm, ⟨14, _⟩ => ⟨S1x8x128, .f32⟩
  | .hbm, ⟨15, _⟩ => ⟨S_, .f32⟩
  | .hbm, ⟨16, _⟩ => ⟨S1x8x128, .f32⟩
  | .hbm, ⟨17, _⟩ => ⟨S1x8x128, .f32⟩
  | .hbm, ⟨18, _⟩ => ⟨S1x8x128, .f32⟩
  | .hbm, ⟨19, _⟩ => ⟨S_, .f32⟩
  | .hbm, ⟨20, _⟩ => ⟨S1x8x128, .f32⟩
  | .hbm, ⟨21, _⟩ => ⟨S1x8x128, .f32⟩
  | .hbm, ⟨22, _⟩ => ⟨S_, .f32⟩
  | .hbm, ⟨23, _⟩ => ⟨S1x8x128, .f32⟩
  | .hbm, ⟨24, _⟩ => ⟨S1x8x128, .f32⟩
  | .hbm, ⟨25, _⟩ => ⟨S1x8x128, .f32⟩
  | .hbm, ⟨26, _⟩ => ⟨S_, .f32⟩
  | .hbm, ⟨27, _⟩ => ⟨S1x8x128, .f32⟩
  | .hbm, ⟨28, _⟩ => ⟨S1x8x128, .f32⟩
  | .hbm, ⟨29, _⟩ => ⟨S1x8x128, .f32⟩
  | .hbm, ⟨30, _⟩ => ⟨S_, .f32⟩
  | .hbm, ⟨31, _⟩ => ⟨S1x8x128, .f32⟩
  | .hbm, ⟨32, _⟩ => ⟨S1x8x128, .f32⟩
  | .hbm, ⟨33, _⟩ => ⟨S1x8x128, .f32⟩
  | .hbm, ⟨34, _⟩ => ⟨S_, .f32⟩
  | .hbm, ⟨35, _⟩ => ⟨S1x8x128, .f32⟩
  | .hbm, ⟨36, _⟩ => ⟨S1x8x128, .f32⟩
  | _, _ => ⟨S1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S1 : Shape := ⟨1, ![1]⟩
abbrev S1x256x1024 : Shape := ⟨3, ![1, 256, 1024]⟩
abbrev S128x1024 : Shape := ⟨2, ![128, 1024]⟩
abbrev S1x128x1024 : Shape := ⟨3, ![1, 128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .smem, ⟨0, _⟩ => ⟨S1, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S1 : Shape := ⟨1, ![1]⟩
abbrev S1x256x1024 : Shape := ⟨3, ![1, 256, 1024]⟩
abbrev S128x1024 : Shape := ⟨2, ![128, 1024]⟩
abbrev S_ : Shape := ⟨0, ![]⟩
abbrev S256x1024 : Shape := ⟨2, ![256, 1024]⟩

abbrev nBuf : Space → Nat
  | .hbm => 51
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x256x1024, .f32⟩
  | .hbm, ⟨2, _⟩ => ⟨S128x1024, .f32⟩
  | .hbm, ⟨3, _⟩ => ⟨S128x1024, .f32⟩
  | .hbm, ⟨4, _⟩ => ⟨S1x256x1024, .f32⟩
  | .hbm, ⟨5, _⟩ => ⟨S1x256x1024, .f32⟩
  | .hbm, ⟨6, _⟩ => ⟨S_, .i32⟩
  | .hbm, ⟨7, _⟩ => ⟨S1, .i32⟩
  | .hbm, ⟨8, _⟩ => ⟨S1, .i1⟩
  | .hbm, ⟨9, _⟩ => ⟨S128x1024, .i1⟩
  | .hbm, ⟨10, _⟩ => ⟨S128x1024, .f32⟩
  | .hbm, ⟨11, _⟩ => ⟨S_, .i32⟩
  | .hbm, ⟨12, _⟩ => ⟨S1, .i32⟩
  | .hbm, ⟨13, _⟩ => ⟨S1, .i1⟩
  | .hbm, ⟨14, _⟩ => ⟨S128x1024, .i1⟩
  | .hbm, ⟨15, _⟩ => ⟨S128x1024, .f32⟩
  | .hbm, ⟨16, _⟩ => ⟨S256x1024, .f32⟩
  | .hbm, ⟨17, _⟩ => ⟨S1x256x1024, .f32⟩
  | .hbm, ⟨18, _⟩ => ⟨S_, .f32⟩
  | .hbm, ⟨19, _⟩ => ⟨S1x256x1024, .f32⟩
  | .hbm, ⟨20, _⟩ => ⟨S1x256x1024, .f32⟩
  | .hbm, ⟨21, _⟩ => ⟨S_, .f32⟩
  | .hbm, ⟨22, _⟩ => ⟨S1x256x1024, .f32⟩
  | .hbm, ⟨23, _⟩ => ⟨S1x256x1024, .f32⟩
  | .hbm, ⟨24, _⟩ => ⟨S1x256x1024, .f32⟩
  | .hbm, ⟨25, _⟩ => ⟨S_, .f32⟩
  | .hbm, ⟨26, _⟩ => ⟨S1x256x1024, .f32⟩
  | .hbm, ⟨27, _⟩ => ⟨S1x256x1024, .f32⟩
  | .hbm, ⟨28, _⟩ => ⟨S1x256x1024, .f32⟩
  | .hbm, ⟨29, _⟩ => ⟨S_, .f32⟩
  | .hbm, ⟨30, _⟩ => ⟨S1x256x1024, .f32⟩
  | .hbm, ⟨31, _⟩ => ⟨S1x256x1024, .f32⟩
  | .hbm, ⟨32, _⟩ => ⟨S1x256x1024, .f32⟩
  | .hbm, ⟨33, _⟩ => ⟨S_, .f32⟩
  | .hbm, ⟨34, _⟩ => ⟨S1x256x1024, .f32⟩
  | .hbm, ⟨35, _⟩ => ⟨S1x256x1024, .f32⟩
  | .hbm, ⟨36, _⟩ => ⟨S_, .f32⟩
  | .hbm, ⟨37, _⟩ => ⟨S1x256x1024, .f32⟩
  | .hbm, ⟨38, _⟩ => ⟨S1x256x1024, .f32⟩
  | .hbm, ⟨39, _⟩ => ⟨S1x256x1024, .f32⟩
  | .hbm, ⟨40, _⟩ => ⟨S_, .f32⟩
  | .hbm, ⟨41, _⟩ => ⟨S1x256x1024, .f32⟩
  | .hbm, ⟨42, _⟩ => ⟨S1x256x1024, .f32⟩
  | .hbm, ⟨43, _⟩ => ⟨S1x256x1024, .f32⟩
  | .hbm, ⟨44, _⟩ => ⟨S_, .f32⟩
  | .hbm, ⟨45, _⟩ => ⟨S1x256x1024, .f32⟩
  | .hbm, ⟨46, _⟩ => ⟨S1x256x1024, .f32⟩
  | .hbm, ⟨47, _⟩ => ⟨S1x256x1024, .f32⟩
  | .hbm, ⟨48, _⟩ => ⟨S_, .f32⟩
  | .hbm, ⟨49, _⟩ => ⟨S1x256x1024, .f32⟩
  | .hbm, ⟨50, _⟩ => ⟨S1x256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Proof.Out.Spec.lean ====
/-
  The mathematics of the layer's output block and its gradient, over the reals, row by row: a row's gated head norm, the
  output product with the residual, the final norm, the squared error, and the derivative of all of them. Arrays are
  functions of natural indices; each function of a row reads that row of the inputs only.
-/
module

public import Idealize.ShloMosaic.PureOps.Ideal
public import Mathlib.Tactic.LinearCombination
public import Mathlib.Tactic.FieldSimp

@[expose] public section

noncomputable section

open scoped BigOperators

namespace Out

/-- The kernel's epsilon, the number that its word is. -/
def eps : ℝ := 8796093 / 8796093022208
theorem eps_pos : 0 < eps := by norm_num [eps]

/-- The inputs of the part: the residual stream, the pooled half of the mixer's output, the recurrence's output, its gate,
    the target, the output weights, and the two norms' weights. -/
structure Inp where
  x : ℕ → ℕ → ℝ
  yp : ℕ → ℕ → ℝ
  o : ℕ → ℕ → ℝ
  z : ℕ → ℕ → ℝ
  tg : ℕ → ℕ → ℝ
  W : ℕ → ℕ → ℝ
  nw : ℕ → ℝ
  fw : ℕ → ℝ

/-- The inputs with their rows counted from `b`. -/
def Inp.shift (a : Inp) (b : ℕ) : Inp where
  x := fun s => a.x (b + s)
  yp := fun s => a.yp (b + s)
  o := fun s => a.o (b + s)
  z := fun s => a.z (b + s)
  tg := fun s => a.tg (b + s)
  W := a.W
  nw := a.nw
  fw := a.fw

/-- The logistic function. -/
def sg (z : ℝ) : ℝ := (1 + Real.exp (-z))⁻¹

/-- The logistic function as the half-angle tangent. -/
theorem tanh_half (z : ℝ) : 1 / 2 * Real.tanh (1 / 2 * z) + 1 / 2 = sg z := by
  have e : Real.exp (-z) = Real.exp (-(1 / 2 * z)) * Real.exp (-(1 / 2 * z)) := by rw [← Real.exp_add]; ring_nf
  have h : Real.exp (1 / 2 * z) * Real.exp (-(1 / 2 * z)) = 1 := by rw [← Real.exp_add]; simp
  have hp := Real.exp_pos (1 / 2 * z)
  have hn := Real.exp_pos (-(1 / 2 * z))
  rw [sg, e, Real.tanh_eq_sinh_div_cosh, Real.sinh_eq, Real.cosh_eq]
  generalize Real.exp (1 / 2 * z) = u at *
  generalize Real.exp (-(1 / 2 * z)) = v at *
  have h1 : u + v ≠ 0 := by positivity
  have h2 : 1 + v * v ≠ 0 := by positivity
  field_simp
  linear_combination (2 * v) * h

section
variable (a : Inp)

/-- The head norm's factor of row `s`, head at column `q`. -/
def ro (s q : ℕ) : ℝ := (√((∑ j : Fin 128, a.o s (q + j.val) * a.o s (q + j.val)) / 128 + eps))⁻¹
/-- The normed head. -/
def oh (s q c : ℕ) : ℝ := a.o s (q + c) * ro a s q
/-- The gate `z · sigmoid z`. -/
def sl (s e : ℕ) : ℝ := a.z s e * sg (a.z s e)
/-- The gated, weighted, normed head. -/
def yd (s q c : ℕ) : ℝ := oh a s q c * a.nw c * sl a s (q + c)
/-- The mixer's output: the pooled half, then the four gated heads. -/
def y (s e : ℕ) : ℝ := if e < 512 then a.yp s e else yd a s (128 * ((e - 512) / 128)) ((e - 512) % 128)
/-- The residual stream after the output product. -/
def hv (s d : ℕ) : ℝ := a.x s d + ∑ e : Fin 1024, y a s e.val * a.W e.val d
/-- The final norm's factor. -/
def r2 (s : ℕ) : ℝ := (√((∑ d : Fin 1024, hv a s d.val * hv a s d.val) / 1024 + eps))⁻¹
/-- The normed row. -/
def hh (s d : ℕ) : ℝ := hv a s d * r2 a s
/-- The error against the target. -/
def er (s d : ℕ) : ℝ := hh a s d * a.fw d - a.tg s d
/-- A row's mean squared error. -/
def lr (s : ℕ) : ℝ := (∑ d : Fin 1024, er a s d.val * er a s d.val) * (1 / 1024)
/-- The derivative at the final norm's output. -/
def dt (s d : ℕ) : ℝ := er a s d * (1 / 1024)
def dn (s d : ℕ) : ℝ := dt a s d * a.fw d
def m2 (s : ℕ) : ℝ := (∑ d : Fin 1024, dn a s d.val * hh a s d.val) / 1024
/-- The derivative at the residual stream. -/
def dh (s d : ℕ) : ℝ := r2 a s * (dn a s d - hh a s d * m2 a s)
/-- The derivative at the mixer's output. -/
def dy (s e : ℕ) : ℝ := ∑ d : Fin 1024, dh a s d.val * a.W e d.val
/-- … at head `q`, column `c`. -/
def dyd (s q c : ℕ) : ℝ := dy a s (512 + (q + c))
/-- The derivative at the gate. -/
def dz (s q c : ℕ) : ℝ :=
  dyd a s q c * oh a s q c * a.nw c * (sg (a.z s (q + c)) * (1 + a.z s (q + c) * (1 - sg (a.z s (q + c)))))
/-- A row's part of the derivative of the head norm's weight. -/
def gd (s q c : ℕ) : ℝ := dyd a s q c * oh a s q c * sl a s (q + c)
/-- The derivative at the normed head. -/
def de (s q c : ℕ) : ℝ := dyd a s q c * a.nw c * sl a s (q + c)
def mo (s q : ℕ) : ℝ := (∑ j : Fin 128, de a s q j.val * oh a s q j.val) / 128
/-- The derivative at the recurrence's output. -/
def dO (s q c : ℕ) : ℝ := ro a s q * (de a s q c - oh a s q c * mo a s q)
/-- The weights' derivative, over `n` rows. -/
def gwo (n e d : ℕ) : ℝ := ∑ s : Fin n, y a s.val e * dh a s.val d
end

end Out
-- ==== Proof.Out.Rl.lean ====
/-
  Real-valued blocks. `R2 v f` says that the ideal block `v` of `m` rows and `n` columns holds the real number `f i j` at
  row `i` and column `j`; the lemmas say what each printed operation does to such blocks.
-/
module

public import Idealize.ShloMosaic.Lib.ValueIdx
public import Idealize.ShloMosaic.Lib.Pipeline.Value
public import Idealize.ShloMosaic.Lib.Pipeline.ValueKit.Geometry
public import Idealize.ShloMosaic.PureOps.Ideal.Laws
public import proofs.«01_k».proof.Proof.Gen.KernelIdeal
public import proofs.«01_k».proof.Proof.Out.Spec

@[expose] public section

set_option maxRecDepth 16384

noncomputable section

open scoped BigOperators
open Idealize.ShloMosaic Idealize.ShloMosaic.ValueIdx Cert.KernelIdeal Cert.KernelIdeal.Gen

namespace Out

/-- A block of `m` rows and `n` columns. -/
abbrev Sh (m n : ℕ) : Shape := ⟨2, ![m, n]⟩

/-- The ideal block `v` holds the real `f i j` at row `i`, column `j`. -/
def R2 {m n : ℕ} (v : (Sh m n).Idx → EReal) (f : ℕ → ℕ → ℝ) : Prop :=
  ∀ (i : Fin m) (j : Fin n), v (ix2 i j) = ((f i.val j.val : ℝ) : EReal)

/-- The coercion of the reals passes through a finite sum. -/
theorem coe_sum {n : ℕ} (f : Fin n → ℝ) : ((∑ k, f k : ℝ) : EReal) = ∑ k, (f k : EReal) := by
  classical
  induction (Finset.univ : Finset (Fin n)) using Finset.induction_on with
  | empty => simp
  | insert a s ha ih => rw [Finset.sum_insert ha, Finset.sum_insert ha, EReal.coe_add, ih]

section
variable {m n : ℕ} {v w : (Sh m n).Idx → EReal} {f g : ℕ → ℕ → ℝ}

theorem R2.congr (h : R2 v f) (e : ∀ i < m, ∀ j < n, f i j = g i j) : R2 v g := fun i j => by
  rw [h i j, e _ i.2 _ j.2]
theorem R2.at (h : R2 v f) (i : (Sh m n).Idx) : v i = ((f (i 0).val (i 1).val : ℝ) : EReal) := by
  rw [eq_ix2 i]; exact h _ _
theorem R2.mul (h : R2 v f) (k : R2 w g) : R2 (mulf (F := Ideal) (φ := .f32) v w) (fun i j => f i j * g i j) := fun i j => by
  show v (ix2 i j) * w (ix2 i j) = _
  rw [h i j, k i j, EReal.coe_mul]
theorem R2.add (h : R2 v f) (k : R2 w g) : R2 (addf (F := Ideal) (φ := .f32) v w) (fun i j => f i j + g i j) := fun i j => by
  show v (ix2 i j) + w (ix2 i j) = _
  rw [h i j, k i j, EReal.coe_add]
theorem R2.sub (h : R2 v f) (k : R2 w g) : R2 (subf (F := Ideal) (φ := .f32) v w) (fun i j => f i j - g i j) := fun i j => by
  show v (ix2 i j) - w (ix2 i j) = _
  rw [h i j, k i j, EReal.coe_sub]
theorem R2.div (h : R2 v f) (k : R2 w g) (hg : ∀ i < m, ∀ j < n, g i j ≠ 0) :
    R2 (divf (F := Ideal) (φ := .f32) v w) (fun i j => f i j / g i j) := fun i j => by
  show Ideal.div (v (ix2 i j)) (w (ix2 i j)) = _
  have hne := hg _ i.2 _ j.2
  rw [h i j, k i j, Ideal.div, if_neg (by exact_mod_cast hne), ← EReal.coe_inv, ← EReal.coe_mul]; rfl
theorem R2.rsqrt (h : R2 v f) (hf : ∀ i < m, ∀ j < n, 0 < f i j) :
    R2 (rsqrt (F := Ideal) (φ := .f32) v) (fun i j => (√(f i j))⁻¹) := fun i j => by
  show Ideal.rsqrt (v (ix2 i j)) = _
  have hp := hf _ i.2 _ j.2
  rw [h i j, Ideal.rsqrt_coe, if_neg (not_lt.2 hp.le), if_neg hp.ne']
theorem R2.tanh (h : R2 v f) : R2 (tanh (F := Ideal) (φ := .f32) v) (fun i j => Real.tanh (f i j)) := fun i j => by
  show Ideal.tanh (v (ix2 i j)) = _
  rw [h i j, Ideal.tanh_coe]
theorem R2.trunc (h : R2 v f) (hb) : R2 (truncf (F := Ideal) (φ := .f32) .bf16 v hb) f := h
theorem R2.cast_self (h : R2 v f) (hc : (Sh m n).ShapeCasts (Sh m n)) : R2 (shapeCast (Sh m n) v hc) f := by
  rw [shapeCast_self]; exact h
theorem R2.const {c : EReal} {r : ℝ} (hc : c = (r : EReal)) : R2 (broadcast (Sh m n) c) (fun _ _ => r) := fun _ _ => hc
theorem R2.slice {m' n' p q : ℕ} (h : R2 v f) (hs : (Sh m n).Slices ![p, q] (Sh m' n')) :
    R2 (extractStridedSlice (Sh m' n') ![p, q] v hs) (fun i j => f (p + i) (q + j)) := fun i j => by
  have h0 : p + m' ≤ m := hs.2 0
  have h1 : q + n' ≤ n := hs.2 1
  rw [extractStridedSlice_apply _ _ hs (ix2 i j) (ix2 ⟨p + i.val, by omega⟩ ⟨q + j.val, by omega⟩)
    (fun a => by match a with | ⟨0, _⟩ => rfl | ⟨1, _⟩ => rfl)]
  exact h _ _
theorem R2.transpose (h : R2 v f) (ht : (Sh m n).Transposes [1, 0] (Sh n m)) :
    R2 (transpose (Sh n m) [1, 0] v ht) (fun i j => f j i) := fun i j => by
  rw [transpose_apply _ _ ht (ix2 i j) (ix2 j i) (fun a => by match a with | ⟨0, _⟩ => rfl | ⟨1, _⟩ => rfl)]
  exact h _ _

/-- A row's sum, kept as a column. -/
theorem R2.rowsum (h : R2 v f) (hr : (Sh m n).Reduces [1] ⟨1, ![m]⟩) (hp ha) (hc : (⟨1, ![m]⟩ : Shape).ShapeCasts (Sh m 1)) :
    R2 (shapeCast (Sh m 1) (multiReduction (F := Ideal) (φ := .f32) .add [1] ⟨1, ![m]⟩ v 0x00000000#32 hr hp ha) hc)
      (fun i _ => ∑ k : Fin n, f i k.val) := fun i j => by
  have hj : j.val = 0 := by omega
  rw [shapeCast_apply _ hc (ix2 i j) (ix1 i) (by
      rw [Shape.rowMajor_val_one, Shape.rowMajor_val_two]
      show i.val = i.val * 1 + j.val
      omega),
    Ideal.multiReduction_add_single, coe_sum]
  refine Finset.sum_congr rfl fun k _ => ?_
  rw [show hr.lift (ix1 i) k = ix2 i k from funext fun a => by match a with | ⟨0, _⟩ => rfl | ⟨1, _⟩ => rfl]
  exact h i k
/-- A column's sum, kept as a row. -/
theorem R2.colsum (h : R2 v f) (hr : (Sh m n).Reduces [0] ⟨1, ![n]⟩) (hp ha) (hc : (⟨1, ![n]⟩ : Shape).ShapeCasts (Sh 1 n)) :
    R2 (shapeCast (Sh 1 n) (multiReduction (F := Ideal) (φ := .f32) .add [0] ⟨1, ![n]⟩ v 0x00000000#32 hr hp ha) hc)
      (fun _ j => ∑ k : Fin m, f k.val j) := fun i j => by
  have hi : i.val = 0 := by omega
  rw [shapeCast_apply _ hc (ix2 i j) (ix1 j) (by
      rw [Shape.rowMajor_val_one, Shape.rowMajor_val_two]
      show j.val = i.val * n + j.val
      rw [hi]; omega),
    Ideal.multiReduction_add_single, coe_sum]
  refine Finset.sum_congr rfl fun k _ => ?_
  rw [show hr.lift (ix1 j) k = ix2 k j from funext fun a => by match a with | ⟨0, _⟩ => rfl | ⟨1, _⟩ => rfl]
  exact h k j
end

/-- A column repeated over the columns of a block. -/
theorem R2.bcol {m n : ℕ} {v : (Sh m 1).Idx → EReal} {f : ℕ → ℕ → ℝ} (h : R2 v f) (hm : m ≠ 1) (hb : (Sh m 1).Broadcasts (Sh m n)) :
    R2 (broadcastTo (Sh m n) v hb) (fun i _ => f i 0) := fun i j => by
  rw [broadcastTo_apply _ hb (ix2 i j) (ix2 i 0) (fun a => by
    match a with
    | ⟨0, _⟩ => exact (if_neg hm).symm
    | ⟨1, _⟩ => rfl)]
  exact h i 0
/-- A row repeated over the rows of a block. -/
theorem R2.brow {m n : ℕ} {v : (Sh 1 n).Idx → EReal} {f : ℕ → ℕ → ℝ} (h : R2 v f) (hn : n ≠ 1) (hb : (Sh 1 n).Broadcasts (Sh m n)) :
    R2 (broadcastTo (Sh m n) v hb) (fun _ j => f 0 j) := fun i j => by
  rw [broadcastTo_apply _ hb (ix2 i j) (ix2 0 j) (fun a => by
    match a with
    | ⟨0, _⟩ => rfl
    | ⟨1, _⟩ => exact (if_neg hn).symm)]
  exact h 0 j
/-- One number repeated along a row. -/
theorem R2.bone {n : ℕ} {v : (Sh 1 1).Idx → EReal} {f : ℕ → ℕ → ℝ} (h : R2 v f) (hb : (Sh 1 1).Broadcasts (Sh 1 n)) :
    R2 (broadcastTo (Sh 1 n) v hb) (fun _ _ => f 0 0) := fun i j => by
  rw [broadcastTo_apply _ hb (ix2 i j) (ix2 0 0) (fun a => by match a with | ⟨0, _⟩ => rfl | ⟨1, _⟩ => rfl)]
  exact h 0 0

/-- A whole buffer read through a rectangle. -/
theorem R2.load {sig κ sp} {m n m' n' p q : ℕ} {v : (Sh m n).Idx → EReal} {f : ℕ → ℕ → ℝ} (h : R2 v f)
    (a : Memref sig κ sp (Sh m n) .f32) (ha : a.IsWhole)
    (inb : ∀ a, (![p, q] : Fin 2 → ℕ) a + (Sh m' n').size a ≤ (Sh m n).size a) :
    R2 (m := m') (n := n') (View.readAt (Elt Ideal) a.view (Rect.unit (s := Sh m n) ![p, q] (Sh m' n').size inb).toLoadRect (ha.unread v))
      (fun i j => f (p + i) (q + j)) := by
  have e : (View.readAt (Elt Ideal) a.view (Rect.unit (s := Sh m n) ![p, q] (Sh m' n').size inb).toLoadRect (ha.unread v))
      = extractStridedSlice (Sh m' n') ![p, q] v ⟨rfl, inb⟩ := by
    rw [View.readAt_eq_ld, ha.read_unread, View.ld_unit]
  rw [e]; exact h.slice _
theorem R2.loadb {sig κ sp} {m n m' n' p q : ℕ} {v : (Sh m n).Idx → EReal} {f : ℕ → ℕ → ℝ} (h : R2 v f)
    (a : Memref sig κ sp (Sh m n) .bf16) (ha : a.IsWhole)
    (inb : ∀ a, (![p, q] : Fin 2 → ℕ) a + (Sh m' n').size a ≤ (Sh m n).size a) :
    R2 (m := m') (n := n') (View.readAt (Elt Ideal) a.view (Rect.unit (s := Sh m n) ![p, q] (Sh m' n').size inb).toLoadRect (ha.unread v))
      (fun i j => f (p + i) (q + j)) := by
  have e : (View.readAt (Elt Ideal) a.view (Rect.unit (s := Sh m n) ![p, q] (Sh m' n').size inb).toLoadRect (ha.unread v))
      = extractStridedSlice (Sh m' n') ![p, q] v ⟨rfl, inb⟩ := by
    rw [View.readAt_eq_ld, ha.read_unread, View.ld_unit]
  rw [e]; exact h.slice _

/-- The product of a 256-row block with the weights. -/
theorem R2.dotNN {v : S256x1024.Idx → EReal} {w : S1024x1024.Idx → EReal} {f g : ℕ → ℕ → ℝ} (h : R2 v f) (k : R2 w g) :
    R2 (FloatOps.matmul (F := Ideal) (φ₁ := .bf16) (φ₂ := .bf16) dot_S256x1024_S1024x1024_S256x1024_1_0_0_1_n_n none v w
      (constant S256x1024 .f32 0x00000000#32)) (fun i j => ∑ e : Fin 1024, f i e.val * g e.val j) := fun i j => by
  rw [Ideal.matmul_constant_zero_apply, coe_sum,
    ← Equiv.sum_comp (contrEquiv1 dot_S256x1024_S1024x1024_S256x1024_1_0_0_1_n_n 1024 rfl rfl).symm]
  refine Finset.sum_congr rfl fun e _ => ?_
  rw [EReal.coe_mul, ← h i e, ← k e j]
  congr 2 <;> (funext a; match a with | ⟨0, _⟩ => rfl | ⟨1, _⟩ => rfl)
/-- The product of a 256-row block with the transposed weights. -/
theorem R2.dotNT {v : S256x1024.Idx → EReal} {w : S1024x1024.Idx → EReal} {f g : ℕ → ℕ → ℝ} (h : R2 v f) (k : R2 w g) :
    R2 (FloatOps.matmul (F := Ideal) (φ₁ := .bf16) (φ₂ := .bf16) dot_S256x1024_S1024x1024_S256x1024_1_1_0_0_n_n none v w
      (constant S256x1024 .f32 0x00000000#32)) (fun i j => ∑ e : Fin 1024, f i e.val * g j e.val) := fun i j => by
  rw [Ideal.matmul_constant_zero_apply, coe_sum,
    ← Equiv.sum_comp (contrEquiv1 dot_S256x1024_S1024x1024_S256x1024_1_1_0_0_n_n 1024 rfl rfl).symm]
  refine Finset.sum_congr rfl fun e _ => ?_
  rw [EReal.coe_mul, ← h i e, ← k j e]
  congr 2 <;> (funext a; match a with | ⟨0, _⟩ => rfl | ⟨1, _⟩ => rfl)
/-- The product over a tile's 512 rows. -/
theorem R2.dotW {v : S1024x512.Idx → EReal} {w : S512x1024.Idx → EReal} {f g : ℕ → ℕ → ℝ} (h : R2 v f) (k : R2 w g) :
    R2 (FloatOps.matmul (F := Ideal) (φ₁ := .bf16) (φ₂ := .bf16) dot_S1024x512_S512x1024_S1024x1024_1_0_0_1_n_n none v w
      (constant S1024x1024 .f32 0x00000000#32)) (fun i j => ∑ s : Fin 512, f i s.val * g s.val j) := fun i j => by
  rw [Ideal.matmul_constant_zero_apply, coe_sum,
    ← Equiv.sum_comp (contrEquiv1 dot_S1024x512_S512x1024_S1024x1024_1_0_0_1_n_n 512 rfl rfl).symm]
  refine Finset.sum_congr rfl fun e _ => ?_
  rw [EReal.coe_mul, ← h i e, ← k e j]
  congr 2 <;> (funext a; match a with | ⟨0, _⟩ => rfl | ⟨1, _⟩ => rfl)

/-- … from the rectangle's first column, or from the buffer's first place. -/
theorem R2.load0 {sig κ sp} {m n m' n' p : ℕ} {v : (Sh m n).Idx → EReal} {f : ℕ → ℕ → ℝ} (h : R2 v f)
    (a : Memref sig κ sp (Sh m n) .f32) (ha : a.IsWhole)
    (inb : ∀ a, (![p, 0] : Fin 2 → ℕ) a + (Sh m' n').size a ≤ (Sh m n).size a) :
    R2 (m := m') (n := n') (View.readAt (Elt Ideal) a.view (Rect.unit (s := Sh m n) ![p, 0] (Sh m' n').size inb).toLoadRect (ha.unread v))
      (fun i j => f (p + i) j) := (h.load a ha inb).congr fun _ _ _ _ => by rw [Nat.zero_add]
theorem R2.load00 {sig κ sp} {m n : ℕ} {v : (Sh m n).Idx → EReal} {f : ℕ → ℕ → ℝ} (h : R2 v f)
    (a : Memref sig κ sp (Sh m n) .f32) (ha : a.IsWhole)
    (inb : ∀ a, (![0, 0] : Fin 2 → ℕ) a + (Sh m n).size a ≤ (Sh m n).size a) :
    R2 (m := m) (n := n) (View.readAt (Elt Ideal) a.view (Rect.unit (s := Sh m n) ![0, 0] (Sh m n).size inb).toLoadRect (ha.unread v))
      f := (h.load a ha inb).congr fun _ _ _ _ => by rw [Nat.zero_add, Nat.zero_add]
theorem R2.load00b {sig κ sp} {m n : ℕ} {v : (Sh m n).Idx → EReal} {f : ℕ → ℕ → ℝ} (h : R2 v f)
    (a : Memref sig κ sp (Sh m n) .bf16) (ha : a.IsWhole)
    (inb : ∀ a, (![0, 0] : Fin 2 → ℕ) a + (Sh m n).size a ≤ (Sh m n).size a) :
    R2 (m := m) (n := n) (View.readAt (Elt Ideal) a.view (Rect.unit (s := Sh m n) ![0, 0] (Sh m n).size inb).toLoadRect (ha.unread v))
      f := (h.loadb a ha inb).congr fun _ _ _ _ => by rw [Nat.zero_add, Nat.zero_add]

/-- A stored piece holds `f` at its place. -/
def PieceOk {m n : ℕ} (f : ℕ → ℕ → ℝ) (p : Σ r : Rect (Sh m n), (r.shape.Idx → EReal)) : Prop :=
  ∀ x, p.2 x = ((f (p.1.emb x 0).val (p.1.emb x 1).val : ℝ) : EReal)

theorem PieceOk.unit {m n m' n' p q : ℕ} {f g : ℕ → ℕ → ℝ} {w : (Sh m' n').Idx → EReal} (h : R2 w g)
    (inb : ∀ a, (![p, q] : Fin 2 → ℕ) a + (Sh m' n').size a ≤ (Sh m n).size a)
    (e : ∀ i < m', ∀ j < n', g i j = f (p + i) (q + j)) :
    PieceOk f ⟨Rect.unit (s := Sh m n) ![p, q] (Sh m' n').size inb, w⟩ := fun x => by
  show w x = _
  rw [ValueKit.rect_emb_unit_val, ValueKit.rect_emb_unit_val]
  exact (h.at x).trans (congrArg _ (e _ (x 0).2 _ (x 1).2))

/-- The place `(i, j)` lies in the rectangle at `(p, q)` of `m'` rows and `n'` columns. -/
theorem mem_unit {m n m' n' p q : ℕ} (inb : ∀ a, (![p, q] : Fin 2 → ℕ) a + (Sh m' n').size a ≤ (Sh m n).size a)
    (i : Fin m) (j : Fin n) (h : p ≤ i.val ∧ i.val < p + m' ∧ q ≤ j.val ∧ j.val < q + n') :
    ix2 i j ∈ (Rect.unit (s := Sh m n) ![p, q] (Sh m' n').size inb).set :=
  Rect.mem_set_unit.mpr fun a => by
    match a with
    | ⟨0, _⟩ => exact ⟨h.1, h.2.1⟩
    | ⟨1, _⟩ => exact ⟨h.2.2.1, h.2.2.2⟩

theorem mem_unit_iff {m n m' n' p q : ℕ} (inb : ∀ a, (![p, q] : Fin 2 → ℕ) a + (Sh m' n').size a ≤ (Sh m n).size a)
    (i : Fin m) (j : Fin n) : ix2 i j ∈ (Rect.unit (s := Sh m n) ![p, q] (Sh m' n').size inb).set
      ↔ p ≤ i.val ∧ i.val < p + m' ∧ q ≤ j.val ∧ j.val < q + n' :=
  ⟨fun h => by
    have h0 := Rect.mem_set_unit.mp h 0
    have h1 := Rect.mem_set_unit.mp h 1
    exact ⟨h0.1, h0.2, h1.1, h1.2⟩, mem_unit inb i j⟩

/-- What a list of stored pieces leaves: if each piece holds `f` at its place and the pieces cover the block, the block holds `f`. -/
theorem R2.canonf {m n : ℕ} (f : ℕ → ℕ → ℝ) (L : List (View.Piece (Elt Ideal) (Sh m n) .f32)) (hL : ∀ p ∈ L, PieceOk f p)
    (hc : ∀ (i : Fin m) (j : Fin n), ∃ p ∈ L, ix2 i j ∈ p.1.set) : R2 (View.canon L) f := fun i j =>
  View.canon_apply_of_pieces (Val := Elt Ideal) (e := .f32) (fun y : (Sh m n).Idx => ((f (y 0).val (y 1).val : ℝ) : EReal)) L (fun p hp x => hL p hp x) (ix2 i j) (hc i j)
theorem R2.canonb {m n : ℕ} (f : ℕ → ℕ → ℝ) (L : List (View.Piece (Elt Ideal) (Sh m n) .bf16)) (hL : ∀ p ∈ L, PieceOk f p)
    (hc : ∀ (i : Fin m) (j : Fin n), ∃ p ∈ L, ix2 i j ∈ p.1.set) : R2 (View.canon L) f := fun i j =>
  View.canon_apply_of_pieces (Val := Elt Ideal) (e := .bf16) (fun y : (Sh m n).Idx => ((f (y 0).val (y 1).val : ℝ) : EReal)) L (fun p hp x => hL p hp x) (ix2 i j) (hc i j)

/-- A rectangle of what the stored pieces leave, its cover asked only inside the rectangle. -/
theorem R2.covb {sig κ sp} {m n m' n' p q : ℕ} (a : View sig κ sp (Sh m n) .bf16) (f : ℕ → ℕ → ℝ)
    (L : List (View.Piece (Elt Ideal) (Sh m n) .bf16)) (hL : ∀ p ∈ L, PieceOk f p)
    (inb : ∀ a, (![p, q] : Fin 2 → ℕ) a + (Sh m' n').size a ≤ (Sh m n).size a)
    (hc : ∀ (i : Fin m) (j : Fin n), p ≤ i.val → i.val < p + m' → ∃ p ∈ L, ix2 i j ∈ p.1.set) :
    R2 (m := m') (n := n') (a.readCov (Val := Elt Ideal) L (Rect.unit (s := Sh m n) ![p, q] (Sh m' n').size inb).toLoadRect)
      (fun i j => f (p + i) (q + j)) := fun i j => by
  have h0 : p + m' ≤ m := inb 0
  have h1 : q + n' ≤ n := inb 1
  rw [View.readCov_eq_canon']
  have e : (Rect.unit (s := Sh m n) ![p, q] (Sh m' n').size inb).toLoadRect.idx (ix2 i j)
      = ix2 (⟨p + i.val, by omega⟩ : Fin m) (⟨q + j.val, by omega⟩ : Fin n) := by
    funext a
    match a with
    | ⟨0, _⟩ => exact Fin.ext (by show p + 1 * i.val = p + i.val; omega)
    | ⟨1, _⟩ => exact Fin.ext (by show q + 1 * j.val = q + j.val; omega)
  exact (congrArg (View.canon L) e).trans (View.canon_apply_of_pieces (Val := Elt Ideal) (e := .bf16) (fun y : (Sh m n).Idx => ((f (y 0).val (y 1).val : ℝ) : EReal)) L (fun p hp x => hL p hp x) _
    (hc _ _ (by simp) (by simp)))
theorem R2.covf {sig κ sp} {m n m' n' p q : ℕ} (a : View sig κ sp (Sh m n) .f32) (f : ℕ → ℕ → ℝ)
    (L : List (View.Piece (Elt Ideal) (Sh m n) .f32)) (hL : ∀ p ∈ L, PieceOk f p)
    (inb : ∀ a, (![p, q] : Fin 2 → ℕ) a + (Sh m' n').size a ≤ (Sh m n).size a)
    (hc : ∀ (i : Fin m) (j : Fin n), p ≤ i.val → i.val < p + m' → ∃ p ∈ L, ix2 i j ∈ p.1.set) :
    R2 (m := m') (n := n') (a.readCov (Val := Elt Ideal) L (Rect.unit (s := Sh m n) ![p, q] (Sh m' n').size inb).toLoadRect)
      (fun i j => f (p + i) (q + j)) := fun i j => by
  have h0 : p + m' ≤ m := inb 0
  have h1 : q + n' ≤ n := inb 1
  rw [View.readCov_eq_canon']
  have e : (Rect.unit (s := Sh m n) ![p, q] (Sh m' n').size inb).toLoadRect.idx (ix2 i j)
      = ix2 (⟨p + i.val, by omega⟩ : Fin m) (⟨q + j.val, by omega⟩ : Fin n) := by
    funext a
    match a with
    | ⟨0, _⟩ => exact Fin.ext (by show p + 1 * i.val = p + i.val; omega)
    | ⟨1, _⟩ => exact Fin.ext (by show q + 1 * j.val = q + j.val; omega)
  exact (congrArg (View.canon L) e).trans (View.canon_apply_of_pieces (Val := Elt Ideal) (e := .f32) (fun y : (Sh m n).Idx => ((f (y 0).val (y 1).val : ℝ) : EReal)) L (fun p hp x => hL p hp x) _
    (hc _ _ (by simp) (by simp)))

/-- A place is in the first piece's rectangle, or in a later one's. -/
theorem ex_cons {e : EltTy} {m n m' n' p q : ℕ} {inb : ∀ a, (![p, q] : Fin 2 → ℕ) a + (Sh m' n').size a ≤ (Sh m n).size a}
    {w : (Sh m' n').Idx → Elt Ideal e} {L : List (View.Piece (Elt Ideal) (Sh m n) e)} {i : Fin m} {j : Fin n}
    (h : ¬(p ≤ i.val ∧ i.val < p + m' ∧ q ≤ j.val ∧ j.val < q + n') → ∃ t ∈ L, ix2 i j ∈ t.1.set) :
    ∃ t ∈ (⟨Rect.unit (s := Sh m n) ![p, q] (Sh m' n').size inb, w⟩ :: L : List (View.Piece (Elt Ideal) (Sh m n) e)), ix2 i j ∈ t.1.set := by
  by_cases hi : p ≤ i.val ∧ i.val < p + m' ∧ q ≤ j.val ∧ j.val < q + n'
  · exact ⟨_, .head _, mem_unit inb i j hi⟩
  · obtain ⟨t, hp, hx⟩ := h hi
    exact ⟨t, .tail _ hp, hx⟩

/-- A piece stored last over the whole buffer is what is left. -/
theorem R2.head {m n : ℕ} {f : ℕ → ℕ → ℝ} {w : (Sh m n).Idx → EReal} (h : R2 w f) (L : List (View.Piece (Elt Ideal) (Sh m n) .f32))
    (inb : ∀ a, (![0, 0] : Fin 2 → ℕ) a + (Sh m n).size a ≤ (Sh m n).size a) :
    R2 (View.canon (⟨Rect.unit (s := Sh m n) ![0, 0] (Sh m n).size inb, w⟩ :: L : List (View.Piece (Elt Ideal) (Sh m n) .f32))) f := fun i j => by
  have e := View.canon_cons_emb (Val := Elt Ideal) (e := .f32) (Rect.unit (s := Sh m n) ![0, 0] (Sh m n).size inb) w L (ix2 i j)
  have e2 : (Rect.unit (s := Sh m n) ![0, 0] (Sh m n).size inb).emb (ix2 i j) = ix2 i j := by
    funext k
    refine Fin.ext ((ValueKit.rect_emb_unit_val _ _ _ _ _).trans ?_)
    fin_cases k <;> exact Nat.zero_add _
  rw [e2] at e
  exact e.trans (h i j)
theorem R2.headb {m n : ℕ} {f : ℕ → ℕ → ℝ} {w : (Sh m n).Idx → EReal} (h : R2 w f) (L : List (View.Piece (Elt Ideal) (Sh m n) .bf16))
    (inb : ∀ a, (![0, 0] : Fin 2 → ℕ) a + (Sh m n).size a ≤ (Sh m n).size a) :
    R2 (View.canon (⟨Rect.unit (s := Sh m n) ![0, 0] (Sh m n).size inb, w⟩ :: L : List (View.Piece (Elt Ideal) (Sh m n) .bf16))) f := fun i j => by
  have e := View.canon_cons_emb (Val := Elt Ideal) (e := .bf16) (Rect.unit (s := Sh m n) ![0, 0] (Sh m n).size inb) w L (ix2 i j)
  have e2 : (Rect.unit (s := Sh m n) ![0, 0] (Sh m n).size inb).emb (ix2 i j) = ix2 i j := by
    funext k
    refine Fin.ext ((ValueKit.rect_emb_unit_val _ _ _ _ _).trans ?_)
    fin_cases k <;> exact Nat.zero_add _
  rw [e2] at e
  exact e.trans (h i j)
/-- … and what a load of the whole buffer finds. -/
theorem R2.headCov {sig κ sp} {m n : ℕ} {f : ℕ → ℕ → ℝ} {w : (Sh m n).Idx → EReal} (h : R2 w f) (a : View sig κ sp (Sh m n) .f32)
    (L : List (View.Piece (Elt Ideal) (Sh m n) .f32))
    (inb inb' : ∀ a, (![0, 0] : Fin 2 → ℕ) a + (Sh m n).size a ≤ (Sh m n).size a) :
    R2 (m := m) (n := n) (a.readCov (Val := Elt Ideal) (⟨Rect.unit (s := Sh m n) ![0, 0] (Sh m n).size inb, w⟩ :: L : List (View.Piece (Elt Ideal) (Sh m n) .f32))
      (Rect.unit (s := Sh m n) ![0, 0] (Sh m n).size inb').toLoadRect) f := fun i j => by
  rw [View.readCov_eq_canon']
  refine Eq.trans ?_ (R2.head h L inb i j)
  show View.canon _ ((Rect.unit (s := Sh m n) ![0, 0] (Sh m n).size inb').emb (ix2 i j)) = _
  congr 1
  funext k
  refine Fin.ext ((ValueKit.rect_emb_unit_val _ _ _ _ _).trans ?_)
  fin_cases k <;> exact Nat.zero_add _

/-! The literals of the kernel. -/
theorem lit_eps : Ideal.ofBits .f32 0x358637BD#32 = ((eps : ℝ) : EReal) := by
  simp [Ideal.ofBits, Ideal.ieee, -EReal.coe_mul, eps]; norm_num
theorem lit_128 : Ideal.ofBits .f32 0x43000000#32 = ((128 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_inv : Ideal.ofBits .f32 0x3A800000#32 = ((1 / 1024 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee]

end Out
-- ==== Proof.Out.Pay.lean ====
/-
  The kernel's payloads on real-valued blocks: what one half tile (256 rows from row `p`) and one head (128 columns from
  column `q`) compute, each payload against the row functions of Spec.
-/
module

public import proofs.«01_k».proof.Proof.Gen.KernelIdeal.Skeleton
public import proofs.«01_k».proof.Proof.Out.Rl

@[expose] public section

set_option maxRecDepth 16384

noncomputable section

open scoped BigOperators
open Idealize.ShloMosaic Idealize.ShloMosaic.ValueIdx Cert.KernelIdeal Cert.KernelIdeal.Gen

namespace Out

variable (a : Inp) (p q : ℕ)

/-! Blocks of the row functions: rows from `p`, columns from `q`. -/
def oT (i j : ℕ) : ℝ := a.o (p + i) (q + j)
def zT (i j : ℕ) : ℝ := a.z (p + i) (q + j)
def sgT (i j : ℕ) : ℝ := sg (a.z (p + i) (q + j))
def slT (i j : ℕ) : ℝ := sl a (p + i) (q + j)
def roT (i _j : ℕ) : ℝ := ro a (p + i) q
def ohT (i j : ℕ) : ℝ := oh a (p + i) q j
def ydT (i j : ℕ) : ℝ := yd a (p + i) q j
def nwT (_i j : ℕ) : ℝ := a.nw j
def fwT (_i j : ℕ) : ℝ := a.fw j
def hvT (i j : ℕ) : ℝ := hv a (p + i) j
def yT (i j : ℕ) : ℝ := y a (p + i) j
def xT (i j : ℕ) : ℝ := a.x (p + i) j
def tgT (i j : ℕ) : ℝ := a.tg (p + i) j
def r2T (i _j : ℕ) : ℝ := r2 a (p + i)
def hhT (i j : ℕ) : ℝ := hh a (p + i) j
def erT (i j : ℕ) : ℝ := er a (p + i) j
def dtT (i j : ℕ) : ℝ := dt a (p + i) j
def dhT (i j : ℕ) : ℝ := dh a (p + i) j
def dyT (i j : ℕ) : ℝ := dy a (p + i) j
def dydT (i j : ℕ) : ℝ := dyd a (p + i) q j
def dzT (i j : ℕ) : ℝ := dz a (p + i) q j
def gdT (i j : ℕ) : ℝ := gd a (p + i) q j
def dOT (i j : ℕ) : ℝ := dO a (p + i) q j

section
variable {a p q}
variable {o z oh' sg' d' sl' : S256x128.Idx → EReal} {nw : S1x128.Idx → EReal} {ro' : S256x1.Idx → EReal}

/-- The factor under the root is positive. -/
theorem norm_pos {n : ℕ} (f : Fin n → ℝ) (c : ℝ) (hc : 0 < c) : 0 < (∑ j, f j * f j) / c + eps :=
  add_pos_of_nonneg_of_pos (div_nonneg (Finset.sum_nonneg fun j _ => mul_self_nonneg _) hc.le) eps_pos

theorem pay9 (h : R2 o (oT a p q)) : R2 (k0_pay9 (F := Ideal) o) (roT a p q) :=
  ((((h.mul h).rowsum _ _ _ _).div (R2.const lit_128) (fun _ _ _ _ => by norm_num)).add (R2.const lit_eps)).rsqrt
    (fun _ _ _ _ => norm_pos _ _ (by norm_num))
theorem pay10 (h : R2 o (oT a p q)) : R2 (k0_pay10 (F := Ideal) o) (ohT a p q) :=
  h.mul ((pay9 h).bcol (by decide) _)
theorem pay11 (h : R2 z (zT a p q)) : R2 (k0_pay11 (F := Ideal) z) (sgT a p q) :=
  (((R2.const lit_half).mul ((R2.const lit_half).mul h).tanh).add (R2.const lit_half)).congr fun _ _ _ _ => tanh_half _
theorem gate (hz : R2 z (zT a p q)) (hs : R2 sg' (sgT a p q)) : R2 (mulf (F := Ideal) (φ := .f32) z sg') (slT a p q) := hz.mul hs
theorem pay12 (hn : R2 nw (nwT a)) (hz : R2 z (zT a p q)) (ho : R2 oh' (ohT a p q)) (hs : R2 sg' (sgT a p q)) :
    R2 (k0_pay12 (F := Ideal) nw z oh' sg') (ydT a p q) :=
  (ho.mul (hn.brow (by decide) _)).mul (gate hz hs)
theorem pay13 (hn : R2 nw (nwT a)) (hz : R2 z (zT a p q)) (ho : R2 oh' (ohT a p q)) (hs : R2 sg' (sgT a p q)) :
    R2 (k0_pay13 (F := Ideal) nw z oh' sg') (ydT a p q) :=
  R2.cast_self ((pay12 hn hz ho hs).trunc _) _
theorem pay14 (hn : R2 nw (nwT a)) (hz : R2 z (zT a p q)) (ho : R2 oh' (ohT a p q)) (hs : R2 sg' (sgT a p q)) :
    R2 (k0_pay14 (F := Ideal) nw z oh' sg') (fun j i => ydT a p q i j) :=
  R2.cast_self (((pay12 hn hz ho hs).transpose _).trunc _) _

/-! The derivative of a head. -/

/-- A head's columns of the derivative at the mixer's output. -/
theorem dyd_slice {d : S256x1024.Idx → EReal} {c : ℕ} (h : R2 d (dyT a p)) (hc : c = 512 + q)
    (hs : S256x1024.Slices ![0, c] S256x128) : R2 (extractStridedSlice S256x128 ![0, c] d hs) (dydT a p q) :=
  (h.slice (m' := 256) (n' := 128) (p := 0) (q := c) hs).congr fun i _ j _ => by
    show dy a (p + (0 + i)) (c + j) = dy a (p + i) (512 + (q + j))
    rw [hc, Nat.zero_add, Nat.add_assoc]

/-- The gate's derivative, as the kernel writes it. -/
def dzOf (nw : FVec Ideal S1x128 .f32) (z oh' sg' d' : FVec Ideal S256x128 .f32) : FVec Ideal S256x128 .bf16 :=
  k0_pay102 z sg' (mulf (mulf d' oh') (broadcastTo S256x128 nw broadcasts_S1x128_S256x128)) k0_pay101
theorem dz_ok (hn : R2 nw (nwT a)) (hz : R2 z (zT a p q)) (ho : R2 oh' (ohT a p q)) (hs : R2 sg' (sgT a p q))
    (hd : R2 d' (dydT a p q)) : R2 (dzOf nw z oh' sg' d') (dzT a p q) :=
  (((hd.mul ho).mul (hn.brow (by decide) _)).mul
    (hs.mul ((R2.const lit_one).add (hz.mul ((R2.const lit_one).sub hs))))).trunc _

/-- The head norm's weight's derivative, added to what the heads before gave. -/
theorem pay103 {w : S1x128.Idx → EReal} {f : ℕ → ℕ → ℝ} (hw : R2 w f) (ho : R2 oh' (ohT a p q)) (hd : R2 d' (dydT a p q))
    (hl : R2 sl' (slT a p q)) :
    R2 (k0_pay103 (F := Ideal) oh' w d' sl') (fun i j => f i j + ∑ k : Fin 256, gdT a p q k.val j) :=
  hw.add (((hd.mul ho).mul hl).colsum _ _ _ _)

/-- The derivative at a head. -/
theorem pay104 (hn : R2 nw (nwT a)) (hr : R2 ro' (roT a p q)) (ho : R2 oh' (ohT a p q)) (hd : R2 d' (dydT a p q))
    (hl : R2 sl' (slT a p q)) : R2 (k0_pay104 (F := Ideal) nw ro' oh' d' sl') (dOT a p q) := by
  have hde := (hd.mul (hn.brow (by decide) broadcasts_S1x128_S256x128)).mul hl
  exact (hr.bcol (by decide) _).mul (hde.sub (ho.mul ((((hde.mul ho).rowsum _ _ _ _).div (R2.const lit_128)
    (fun _ _ _ _ => by norm_num)).bcol (by decide) _)))
end

/-! The output product, the final norm, and their derivative. -/

section
variable {a p}
variable {x' y' h' e' t' hh' dh' : S256x1024.Idx → EReal} {W' : S1024x1024.Idx → EReal} {fw' : S1x1024.Idx → EReal} {r' : S256x1.Idx → EReal}

theorem pay34 (hx : R2 x' (xT a p)) (hy : R2 y' (yT a p)) (hW : R2 W' a.W) : R2 (k0_pay34 (F := Ideal) x' y' W') (hvT a p) :=
  hx.add (hy.dotNN (hW.cast_self _))
theorem pay65 (h : R2 h' (hvT a p)) : R2 (k0_pay65 (F := Ideal) h') (r2T a p) :=
  ((((h.mul h).rowsum _ _ _ _).div (R2.const lit_1024) (fun _ _ _ _ => by norm_num)).add (R2.const lit_eps)).rsqrt
    (fun _ _ _ _ => norm_pos _ _ (by norm_num))
theorem pay66 (h : R2 h' (hvT a p)) : R2 (k0_pay66 (F := Ideal) h') (hhT a p) :=
  h.mul ((pay65 h).bcol (by decide) _)
theorem pay67 (hf : R2 fw' (fwT a)) (h : R2 h' (hvT a p)) (ht : R2 t' (tgT a p)) : R2 (k0_pay67 (F := Ideal) fw' h' t') (erT a p) :=
  ((pay66 h).mul (hf.brow (by decide) _)).sub ht
/-- Half the sum of the rows' errors, added to a row of 128. -/
theorem pay70 {w : S1x128.Idx → EReal} {f : ℕ → ℕ → ℝ} (hw : R2 w f) (hf : R2 fw' (fwT a)) (h : R2 h' (hvT a p)) (ht : R2 t' (tgT a p)) :
    R2 (k0_pay70 (F := Ideal) (k0_pay68 w) (k0_pay69 fw' h' t') (FloatOps.ofBits FTy.f32 1056964608#32))
      (fun i j => f i j + 1 / 2 * ∑ k : Fin 256, lr a (p + k.val)) := by
  have he := pay67 hf h ht
  exact (hw.cast_self _).add (((R2.const lit_half).mul ((((he.mul he).rowsum _ _ _ _).mul (R2.const lit_inv)).colsum _ _ _ _)).bone _)
theorem pay71 (he : R2 e' (erT a p)) : R2 (k0_pay71 (F := Ideal) e') (dtT a p) := he.mul (R2.const lit_inv)
/-- The final norm's weight's derivative of the rows, added to a row. -/
theorem pay72 {w : S1x1024.Idx → EReal} {f : ℕ → ℕ → ℝ} (hw : R2 w f) (hh : R2 hh' (hhT a p)) (he : R2 e' (erT a p)) :
    R2 (k0_pay72 (F := Ideal) hh' e' w) (fun i j => f i j + ∑ k : Fin 256, dtT a p k.val j * hhT a p k.val j) :=
  (hw.cast_self _).add (((pay71 he).mul hh).colsum _ _ _ _)
theorem pay73 (hf : R2 fw' (fwT a)) (hr : R2 r' (r2T a p)) (hh : R2 hh' (hhT a p)) (he : R2 e' (erT a p)) :
    R2 (k0_pay73 (F := Ideal) fw' r' hh' e') (dhT a p) := by
  have hd := (pay71 he).mul (hf.brow (by decide) broadcasts_S1x1024_S256x1024)
  exact (hr.bcol (by decide) _).mul (hd.sub (hh.mul ((((hd.mul hh).rowsum _ _ _ _).div (R2.const lit_1024)
    (fun _ _ _ _ => by norm_num)).bcol (by decide) _)))
theorem pay112 (hd : R2 dh' (dhT a p)) (hW : R2 W' a.W) : R2 (k0_pay112 (F := Ideal) dh' W') (dyT a p) :=
  (hd.trunc _).dotNT (hW.cast_self _)
/-- The derivative at the pooled half. -/
theorem dyp_slice {d : S256x1024.Idx → EReal} (h : R2 d (dyT a p)) :
    R2 (k0_pay85 (F := Ideal) d) (dyT a p) :=
  (h.slice (m' := 256) (n' := 512) (p := 0) (q := 0) slices_S256x1024_o0_0_S256x512).congr fun i _ j _ => by
    show dy a (p + (0 + i)) (0 + j) = dy a (p + i) j
    rw [Nat.zero_add, Nat.zero_add]
end

/-- The weights' derivative of a tile's 512 rows, added to the accumulator. -/
theorem pay111 {w : S1024x1024.Idx → EReal} {yt : S1024x512.Idx → EReal} {d : S512x1024.Idx → EReal} {f g k : ℕ → ℕ → ℝ}
    (hw : R2 w f) (hy : R2 yt g) (hd : R2 d k) :
    R2 (k0_pay111 (F := Ideal) w yt d) (fun i j => f i j + ∑ s : Fin 512, g i s.val * k s.val j) :=
  (hw.add (hy.dotW ((hd.cast_self _).trunc _))).cast_self _

end Out
-- ==== Proof.Out.Tile.lean ====
/-
  One grid point of the kernel on real-valued blocks: the mixer's output it rebuilds, the residual stream, and the
  derivatives, for the 512 rows of a tile (two halves of 256 rows, four heads of 128 columns).
-/
module

public import proofs.«01_k».proof.Proof.Gen.KernelIdeal.Value
public import proofs.«01_k».proof.Proof.Out.Pay

@[expose] public section

set_option maxRecDepth 16384

noncomputable section

open scoped BigOperators
open Idealize.ShloMosaic Idealize.ShloMosaic.TcCoe Idealize.ShloMosaic.ValueIdx Cert.KernelIdeal Cert.KernelIdeal.Gen

namespace Out

/-- The blocks of a grid point hold the inputs `a`, rows counted from the tile's first. -/
structure TileOk (a : Inp) (x0 : Vec Ideal S512x1024 .f32) (x1 x2 x3 : Vec Ideal S512x512 .f32) (x4 : Vec Ideal S512x1024 .f32)
    (x5 : Vec Ideal S1024x1024 .bf16) (x6 : Vec Ideal S1x128 .f32) (x7 : Vec Ideal S1x1024 .f32) : Prop where
  x : R2 x0 a.x
  yp : R2 x1 a.yp
  o : R2 x2 a.o
  z : R2 x3 a.z
  tg : R2 x4 a.tg
  W : R2 x5 a.W
  nw : R2 x6 (nwT a)
  fw : R2 x7 (fwT a)

/-- The narrow format is narrower. -/
theorem bits_lt : FTy.bits .bf16 < FTy.bits .f32 := by decide
/-- The mixer's output at a head's column. -/
theorem y_head (a : Inp) (s : ℕ) {P q c : ℕ} (hP : P = 512 + q) (hq : q % 128 = 0) (hc : c < 128) : y a s (P + c) = yd a s q c := by
  have e : P + c - 512 = q + c := by omega
  have e1 : 128 * ((q + c) / 128) = q := by omega
  have e2 : (q + c) % 128 = c := by omega
  rw [y, if_neg (by omega), e, e1, e2]
theorem y_pool (a : Inp) (s : ℕ) {c : ℕ} (hc : c < 512) : y a s (0 + c) = a.yp s c := by
  rw [y, if_pos (by omega), Nat.zero_add]

section
variable (c : Dev nD) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1x128 .f32) (harg7 : arg7.IsWhole) (arg8 : Memref sig .tc .vmem S1x1024 .f32) (harg8 : arg8.IsWhole)
variable (arg10 : Memref sig .tc .vmem S512x1024 .f32) (arg17 : Memref sig .tc .vmem S512x1024 .bf16) (arg18 : Memref sig .tc .vmem S1024x512 .bf16)
variable {a : Inp} {x0 : Vec Ideal S512x1024 .f32} {x1 x2 x3 : Vec Ideal S512x512 .f32} {x4 : Vec Ideal S512x1024 .f32} {x5 : Vec Ideal S1024x1024 .bf16} {x6 : Vec Ideal S1x128 .f32} {x7 : Vec Ideal S1x1024 .f32}
variable (H : TileOk a x0 x1 x2 x3 x4 x5 x6 x7)
include H

/-! The loads. -/
theorem ld_nw : R2 (kernelRun0_B.sl.r c arg7 harg7 x6) (nwT a) := H.nw.load00 arg7 harg7 _
theorem ld_o (p q : ℕ) (inb) : R2 (m := 256) (n := 128) (View.readAt (Elt Ideal) arg3.view (Rect.unit (s := S512x512) ![p, q] S256x128.size inb).toLoadRect (harg3.unread x2)) (oT a p q) :=
  H.o.load arg3 harg3 inb
theorem ld_z (p q : ℕ) (inb) : R2 (m := 256) (n := 128) (View.readAt (Elt Ideal) arg4.view (Rect.unit (s := S512x512) ![p, q] S256x128.size inb).toLoadRect (harg4.unread x3)) (zT a p q) :=
  H.z.load arg4 harg4 inb

/-- A half tile's head as stored in the mixer's output, and transposed. -/
theorem yd_ok (p q : ℕ) (inb inb') : R2 (k0_pay13 (F := Ideal) (kernelRun0_B.sl.r c arg7 harg7 x6)
    (View.readAt (Elt Ideal) arg4.view (Rect.unit (s := S512x512) ![p, q] S256x128.size inb).toLoadRect (harg4.unread x3))
    (k0_pay10 (View.readAt (Elt Ideal) arg3.view (Rect.unit (s := S512x512) ![p, q] S256x128.size inb').toLoadRect (harg3.unread x2)))
    (k0_pay11 (View.readAt (Elt Ideal) arg4.view (Rect.unit (s := S512x512) ![p, q] S256x128.size inb).toLoadRect (harg4.unread x3)))) (ydT a p q) :=
  pay13 (ld_nw c arg7 harg7 H) (ld_z arg4 harg4 H p q inb) (pay10 (ld_o arg3 harg3 H p q inb')) (pay11 (ld_z arg4 harg4 H p q inb))
theorem ydt_ok (p q : ℕ) (inb inb') : R2 (k0_pay14 (F := Ideal) (kernelRun0_B.sl.r c arg7 harg7 x6)
    (View.readAt (Elt Ideal) arg4.view (Rect.unit (s := S512x512) ![p, q] S256x128.size inb).toLoadRect (harg4.unread x3))
    (k0_pay10 (View.readAt (Elt Ideal) arg3.view (Rect.unit (s := S512x512) ![p, q] S256x128.size inb').toLoadRect (harg3.unread x2)))
    (k0_pay11 (View.readAt (Elt Ideal) arg4.view (Rect.unit (s := S512x512) ![p, q] S256x128.size inb).toLoadRect (harg4.unread x3)))) (fun j i => ydT a p q i j) :=
  pay14 (ld_nw c arg7 harg7 H) (ld_z arg4 harg4 H p q inb) (pay10 (ld_o arg3 harg3 H p q inb')) (pay11 (ld_z arg4 harg4 H p q inb))

theorem y_pieces0 : ∀ p ∈ kernelRun0_B.sl.HS0_5 (F := Ideal) c arg2 harg2 arg3 harg3 arg4 harg4 arg7 harg7 x1 x2 x3 x6, PieceOk (y a) p := by
  have hd := fun q P (hP : P = 512 + q) (hq : q % 128 = 0) (inb inb' : ∀ a, (![0, q] : Fin 2 → ℕ) a + (Sh 256 128).size a ≤ (Sh 512 512).size a)
    (inbo : ∀ a, (![0, P] : Fin 2 → ℕ) a + (Sh 256 128).size a ≤ (Sh 512 1024).size a) =>
    PieceOk.unit (yd_ok c arg3 harg3 arg4 harg4 arg7 harg7 H 0 q inb inb') inbo (fun i _ j hj => (y_head a (0 + i) hP hq hj).symm)
  have hp := PieceOk.unit (f := y a) ((H.yp.load0 (m' := 256) (n' := 512) (p := 0) arg2 harg2 inb_S512x512_S256x512_0_0).trunc bits_lt |>.cast_self shapeCasts_S256x512_S256x512)
    inb_S512x1024_S256x512_0_0 (fun i _ j hj => (y_pool a (0 + i) hj).symm)
  exact List.forall_mem_cons.2 ⟨hd 384 896 rfl rfl _ _ _, List.forall_mem_cons.2 ⟨hd 256 768 rfl rfl _ _ _, List.forall_mem_cons.2
    ⟨hd 128 640 rfl rfl _ _ _, List.forall_mem_cons.2 ⟨hd 0 512 rfl rfl _ _ _, List.forall_mem_cons.2 ⟨hp, fun _ h => absurd h List.not_mem_nil⟩⟩⟩⟩⟩
theorem v144_ok : R2 (kernelRun0_B.sl.v144 (F := Ideal) c arg2 harg2 arg3 harg3 arg4 harg4 arg7 harg7 arg17 x1 x2 x3 x6) (yT a 0) :=
  (R2.covb (m' := 256) (n' := 1024) arg17.view (y a) _ (y_pieces0 c arg2 harg2 arg3 harg3 arg4 harg4 arg7 harg7 H) inb_S512x1024_S256x1024_0_0 (fun i j _ hi =>
    ex_cons fun h0 => ex_cons fun h1 => ex_cons fun h2 => ex_cons fun h3 => ex_cons fun h4 => absurd h0 (by have := j.2; omega))).congr fun i _ j _ => by rw [Nat.zero_add j]; rfl

theorem y_pieces : ∀ p ∈ kernelRun0_B.sl.HS0_10 (F := Ideal) c arg2 harg2 arg3 harg3 arg4 harg4 arg7 harg7 x1 x2 x3 x6, PieceOk (y a) p := by
  have hd := fun q P (hP : P = 512 + q) (hq : q % 128 = 0) (inb inb' : ∀ a, (![256, q] : Fin 2 → ℕ) a + (Sh 256 128).size a ≤ (Sh 512 512).size a)
    (inbo : ∀ a, (![256, P] : Fin 2 → ℕ) a + (Sh 256 128).size a ≤ (Sh 512 1024).size a) =>
    PieceOk.unit (yd_ok c arg3 harg3 arg4 harg4 arg7 harg7 H 256 q inb inb') inbo (fun i _ j hj => (y_head a (256 + i) hP hq hj).symm)
  have hp := PieceOk.unit (f := y a) ((H.yp.load0 (m' := 256) (n' := 512) (p := 256) arg2 harg2 inb_S512x512_S256x512_256_0).trunc bits_lt |>.cast_self shapeCasts_S256x512_S256x512)
    inb_S512x1024_S256x512_256_0 (fun i _ j hj => (y_pool a (256 + i) hj).symm)
  exact List.forall_mem_cons.2 ⟨hd 384 896 rfl rfl _ _ _, List.forall_mem_cons.2 ⟨hd 256 768 rfl rfl _ _ _, List.forall_mem_cons.2
    ⟨hd 128 640 rfl rfl _ _ _, List.forall_mem_cons.2 ⟨hd 0 512 rfl rfl _ _ _, List.forall_mem_cons.2 ⟨hp, y_pieces0 c arg2 harg2 arg3 harg3 arg4 harg4 arg7 harg7 H⟩⟩⟩⟩⟩
theorem v338_ok : R2 (kernelRun0_B.sl.v338 (F := Ideal) c arg2 harg2 arg3 harg3 arg4 harg4 arg7 harg7 arg17 x1 x2 x3 x6) (yT a 256) :=
  (R2.covb (m' := 256) (n' := 1024) arg17.view (y a) _ (y_pieces c arg2 harg2 arg3 harg3 arg4 harg4 arg7 harg7 H) inb_S512x1024_S256x1024_256_0 (fun i j hi _ =>
    ex_cons fun h0 => ex_cons fun h1 => ex_cons fun h2 => ex_cons fun h3 => ex_cons fun h4 => absurd h0 (by have := i.2; have := j.2; omega))).congr fun i _ j _ => by rw [Nat.zero_add j]; rfl

/-- The mixer's output transposed, as kept for the weights' derivative. -/
theorem yt_pieces : ∀ p ∈ kernelRun0_B.sl.HS1_10 (F := Ideal) c arg2 harg2 arg3 harg3 arg4 harg4 arg7 harg7 x1 x2 x3 x6, PieceOk (fun i s => y a s i) p := by
  have hd := fun p q P (hP : P = 512 + q) (hq : q % 128 = 0) (inb inb' : ∀ a, (![p, q] : Fin 2 → ℕ) a + (Sh 256 128).size a ≤ (Sh 512 512).size a)
    (inbo : ∀ a, (![P, p] : Fin 2 → ℕ) a + (Sh 128 256).size a ≤ (Sh 1024 512).size a) =>
    PieceOk.unit (f := fun i s => y a s i) (ydt_ok c arg3 harg3 arg4 harg4 arg7 harg7 H p q inb inb') inbo (fun j hj i _ => (y_head a (p + i) hP hq hj).symm)
  have hp := fun p (inb : ∀ a, (![p, 0] : Fin 2 → ℕ) a + (Sh 256 512).size a ≤ (Sh 512 512).size a)
    (inbo : ∀ a, (![0, p] : Fin 2 → ℕ) a + (Sh 512 256).size a ≤ (Sh 1024 512).size a) =>
    PieceOk.unit (f := fun i s => y a s i) (((H.yp.load0 (m' := 256) (n' := 512) (p := p) arg2 harg2 inb).transpose transposes_S256x512_p1_0_S512x256).trunc bits_lt |>.cast_self shapeCasts_S512x256_S512x256)
      inbo (fun j hj i _ => (y_pool a (p + i) hj).symm)
  exact List.forall_mem_cons.2 ⟨hd 256 384 896 rfl rfl _ _ _, List.forall_mem_cons.2 ⟨hd 256 256 768 rfl rfl _ _ _, List.forall_mem_cons.2
    ⟨hd 256 128 640 rfl rfl _ _ _, List.forall_mem_cons.2 ⟨hd 256 0 512 rfl rfl _ _ _, List.forall_mem_cons.2 ⟨hp 256 _ _, List.forall_mem_cons.2 ⟨hd 0 384 896 rfl rfl _ _ _, List.forall_mem_cons.2 ⟨hd 0 256 768 rfl rfl _ _ _, List.forall_mem_cons.2
    ⟨hd 0 128 640 rfl rfl _ _ _, List.forall_mem_cons.2 ⟨hd 0 0 512 rfl rfl _ _ _, List.forall_mem_cons.2 ⟨hp 0 _ _, fun _ h => absurd h List.not_mem_nil⟩⟩⟩⟩⟩⟩⟩⟩⟩⟩
theorem v537_ok : R2 (kernelRun0_B.sl.v537 (F := Ideal) c arg2 harg2 arg3 harg3 arg4 harg4 arg7 harg7 arg18 x1 x2 x3 x6) (fun i s => y a s i) :=
  (R2.covb (m' := 1024) (n' := 512) arg18.view (fun i s => y a s i) _ (yt_pieces c arg2 harg2 arg3 harg3 arg4 harg4 arg7 harg7 H) inb_S1024x512_S1024x512_0_0 (fun i j hi _ =>
    ex_cons fun h0 => ex_cons fun h1 => ex_cons fun h2 => ex_cons fun h3 => ex_cons fun h4 => ex_cons fun h5 => ex_cons fun h6 => ex_cons fun h7 => ex_cons fun h8 => ex_cons fun h9 => absurd h0 (by have := i.2; have := j.2; omega))).congr fun i _ j _ => by rw [Nat.zero_add, Nat.zero_add]

/-! The residual stream and the derivative at it, by halves. -/
theorem ld_W : R2 (View.readAt (Elt Ideal) arg6.view (Rect.unit (s := S1024x1024) ![0, 0] S1024x1024.size inb_S1024x1024_S1024x1024_0_0).toLoadRect (harg6.unread x5)) a.W :=
  H.W.load00b arg6 harg6 _
theorem ld_fw : R2 (kernelRun0_B.sl.r_1 c arg8 harg8 x7) (fwT a) := H.fw.load00 arg8 harg8 _
theorem hv0 : R2 (kernelRun0_B.sl.r_20 (F := Ideal) c arg1 harg1 arg2 harg2 arg3 harg3 arg4 harg4 arg6 harg6 arg7 harg7 arg17 x0 x1 x2 x3 x5 x6) (hvT a 0) := by
  have h := pay34 (H.x.load0 arg1 harg1 inb_S512x1024_S256x1024_0_0) (v144_ok c arg2 harg2 arg3 harg3 arg4 harg4 arg7 harg7 arg17 H) (ld_W arg6 harg6 H)
  exact h
theorem hv1 : R2 (kernelRun0_B.sl.r_48 (F := Ideal) c arg1 harg1 arg2 harg2 arg3 harg3 arg4 harg4 arg6 harg6 arg7 harg7 arg17 x0 x1 x2 x3 x5 x6) (hvT a 256) := by
  have h := pay34 (H.x.load0 arg1 harg1 inb_S512x1024_S256x1024_256_0) (v338_ok c arg2 harg2 arg3 harg3 arg4 harg4 arg7 harg7 arg17 H) (ld_W arg6 harg6 H)
  exact h
theorem er0 : R2 (kernelRun0_B.sl.r_45 (F := Ideal) c arg1 harg1 arg2 harg2 arg3 harg3 arg4 harg4 arg5 harg5 arg6 harg6 arg7 harg7 arg8 harg8 arg17 x0 x1 x2 x3 x4 x5 x6 x7) (erT a 0) :=
  pay67 (ld_fw c arg8 harg8 H) (hv0 c arg1 harg1 arg2 harg2 arg3 harg3 arg4 harg4 arg6 harg6 arg7 harg7 arg17 H) (H.tg.load0 arg5 harg5 _)
theorem hh0 : R2 (kernelRun0_B.sl.r_44 (F := Ideal) c arg1 harg1 arg2 harg2 arg3 harg3 arg4 harg4 arg6 harg6 arg7 harg7 arg17 x0 x1 x2 x3 x5 x6) (hhT a 0) := pay66 (hv0 c arg1 harg1 arg2 harg2 arg3 harg3 arg4 harg4 arg6 harg6 arg7 harg7 arg17 H)
theorem dh0 : R2 (k0_pay73 (F := Ideal) (kernelRun0_B.sl.r_1 c arg8 harg8 x7) (kernelRun0_B.sl.r_43 c arg1 harg1 arg2 harg2 arg3 harg3 arg4 harg4 arg6 harg6 arg7 harg7 arg17 x0 x1 x2 x3 x5 x6)
    (kernelRun0_B.sl.r_44 c arg1 harg1 arg2 harg2 arg3 harg3 arg4 harg4 arg6 harg6 arg7 harg7 arg17 x0 x1 x2 x3 x5 x6) (kernelRun0_B.sl.r_45 c arg1 harg1 arg2 harg2 arg3 harg3 arg4 harg4 arg5 harg5 arg6 harg6 arg7 harg7 arg8 harg8 arg17 x0 x1 x2 x3 x4 x5 x6 x7)) (dhT a 0) :=
  pay73 (ld_fw c arg8 harg8 H) (pay65 (hv0 c arg1 harg1 arg2 harg2 arg3 harg3 arg4 harg4 arg6 harg6 arg7 harg7 arg17 H)) (hh0 c arg1 harg1 arg2 harg2 arg3 harg3 arg4 harg4 arg6 harg6 arg7 harg7 arg17 H) (er0 c arg1 harg1 arg2 harg2 arg3 harg3 arg4 harg4 arg5 harg5 arg6 harg6 arg7 harg7 arg8 harg8 arg17 H)
theorem dh1 : R2 (kernelRun0_B.sl.r_55 (F := Ideal) c arg1 harg1 arg2 harg2 arg3 harg3 arg4 harg4 arg5 harg5 arg6 harg6 arg7 harg7 arg8 harg8 arg17 x0 x1 x2 x3 x4 x5 x6 x7) (dhT a 256) := by
  have h := pay73 (ld_fw c arg8 harg8 H) (pay65 (hv1 c arg1 harg1 arg2 harg2 arg3 harg3 arg4 harg4 arg6 harg6 arg7 harg7 arg17 H)) (pay66 (hv1 c arg1 harg1 arg2 harg2 arg3 harg3 arg4 harg4 arg6 harg6 arg7 harg7 arg17 H))
    (pay67 (ld_fw c arg8 harg8 H) (hv1 c arg1 harg1 arg2 harg2 arg3 harg3 arg4 harg4 arg6 harg6 arg7 harg7 arg17 H) (H.tg.load0 arg5 harg5 inb_S512x1024_S256x1024_256_0))
  exact h
theorem dy0 : R2 (kernelRun0_B.sl.r_51 (F := Ideal) c arg1 harg1 arg2 harg2 arg3 harg3 arg4 harg4 arg5 harg5 arg6 harg6 arg7 harg7 arg8 harg8 arg17 x0 x1 x2 x3 x4 x5 x6 x7) (dyT a 0) := by
  have h := pay112 (dh0 c arg1 harg1 arg2 harg2 arg3 harg3 arg4 harg4 arg5 harg5 arg6 harg6 arg7 harg7 arg8 harg8 arg17 H) (ld_W arg6 harg6 H)
  exact h
theorem dy1 : R2 (kernelRun0_B.sl.r_67 (F := Ideal) c arg1 harg1 arg2 harg2 arg3 harg3 arg4 harg4 arg5 harg5 arg6 harg6 arg7 harg7 arg8 harg8 arg17 x0 x1 x2 x3 x4 x5 x6 x7) (dyT a 256) := by
  have h := pay112 (dh1 c arg1 harg1 arg2 harg2 arg3 harg3 arg4 harg4 arg5 harg5 arg6 harg6 arg7 harg7 arg8 harg8 arg17 H) (ld_W arg6 harg6 H)
  exact h

theorem dh_pieces : ∀ p ∈ kernelRun0_B.sl.H9_2 (F := Ideal) c arg1 harg1 arg2 harg2 arg3 harg3 arg4 harg4 arg5 harg5 arg6 harg6 arg7 harg7 arg8 harg8 arg17 x0 x1 x2 x3 x4 x5 x6 x7, PieceOk (dh a) p :=
  List.forall_mem_cons.2 ⟨PieceOk.unit (dh1 c arg1 harg1 arg2 harg2 arg3 harg3 arg4 harg4 arg5 harg5 arg6 harg6 arg7 harg7 arg8 harg8 arg17 H) _ (fun i _ j _ => by rw [Nat.zero_add j]; rfl),
    List.forall_mem_cons.2 ⟨PieceOk.unit (dh0 c arg1 harg1 arg2 harg2 arg3 harg3 arg4 harg4 arg5 harg5 arg6 harg6 arg7 harg7 arg8 harg8 arg17 H) _ (fun i _ j _ => by rw [Nat.zero_add j]; rfl), fun _ h => absurd h List.not_mem_nil⟩⟩
theorem dh_cover (i : Fin 512) (j : Fin 1024) : ∃ p ∈ kernelRun0_B.sl.H9_2 (F := Ideal) c arg1 harg1 arg2 harg2 arg3 harg3 arg4 harg4 arg5 harg5 arg6 harg6 arg7 harg7 arg8 harg8 arg17 x0 x1 x2 x3 x4 x5 x6 x7, ix2 i j ∈ p.1.set :=
  ex_cons fun h0 => ex_cons fun h1 => absurd h0 (by have := i.2; have := j.2; omega)
/-- The derivative at the residual stream, on the tile. -/
theorem out9_ok : R2 (View.canon (kernelRun0_B.sl.H9_2 (F := Ideal) c arg1 harg1 arg2 harg2 arg3 harg3 arg4 harg4 arg5 harg5 arg6 harg6 arg7 harg7 arg8 harg8 arg17 x0 x1 x2 x3 x4 x5 x6 x7)) (dh a) :=
  R2.canonf _ _ (dh_pieces c arg1 harg1 arg2 harg2 arg3 harg3 arg4 harg4 arg5 harg5 arg6 harg6 arg7 harg7 arg8 harg8 arg17 H) (dh_cover c arg1 harg1 arg2 harg2 arg3 harg3 arg4 harg4 arg5 harg5 arg6 harg6 arg7 harg7 arg8 harg8 arg17 H)
theorem v538_ok : R2 (kernelRun0_B.sl.v538 (F := Ideal) c arg1 harg1 arg2 harg2 arg3 harg3 arg4 harg4 arg5 harg5 arg6 harg6 arg7 harg7 arg8 harg8 arg10 arg17 x0 x1 x2 x3 x4 x5 x6 x7) (dh a) :=
  (R2.covf (m' := 512) (n' := 1024) arg10.view (dh a) _ (dh_pieces c arg1 harg1 arg2 harg2 arg3 harg3 arg4 harg4 arg5 harg5 arg6 harg6 arg7 harg7 arg8 harg8 arg17 H) inb_S512x1024_S512x1024_0_0
    (fun i j _ _ => dh_cover c arg1 harg1 arg2 harg2 arg3 harg3 arg4 harg4 arg5 harg5 arg6 harg6 arg7 harg7 arg8 harg8 arg17 H i j)).congr fun i _ j _ => by rw [Nat.zero_add, Nat.zero_add]
end
end Out
-- ==== Proof.Out.Grads.lean ====
/-
  One grid point of the kernel on real-valued blocks, the stores: the derivatives of the tile's rows, and the sums the
  points carry on.
-/
module

public import proofs.«01_k».proof.Proof.Out.Tile

@[expose] public section

set_option maxRecDepth 16384

noncomputable section

open scoped BigOperators
open Idealize.ShloMosaic Idealize.ShloMosaic.TcCoe Idealize.ShloMosaic.ValueIdx Cert.KernelIdeal Cert.KernelIdeal.Gen

namespace Out

/-- The four heads' derivatives side by side. -/
def doA (a : Inp) (i e : ℕ) : ℝ := dO a i (128 * (e / 128)) (e % 128)
def dzA (a : Inp) (i e : ℕ) : ℝ := dz a i (128 * (e / 128)) (e % 128)
theorem head_col {q c : ℕ} (hq : q % 128 = 0) (hc : c < 128) : 128 * ((q + c) / 128) = q ∧ (q + c) % 128 = c := by omega

/-- A tile's rows in its two halves. -/
theorem sum_tile (f : ℕ → ℝ) : ∑ s : Fin 512, f s.val = ∑ k : Fin 256, f (0 + k.val) + ∑ k : Fin 256, f (256 + k.val) := by
  simp only [Fin.sum_univ_eq_sum_range f, Fin.sum_univ_eq_sum_range (fun k => f (0 + k)), Fin.sum_univ_eq_sum_range (fun k => f (256 + k)), Nat.zero_add]
  exact Finset.sum_range_add f 256 256

/-- A tile's part of each sum. -/
def lossT (a : Inp) (_i _j : ℕ) : ℝ := 1 / 2 * ∑ s : Fin 512, lr a s.val
def gfnT (a : Inp) (_i j : ℕ) : ℝ := ∑ s : Fin 512, dt a s.val j * hh a s.val j
def gdR (a : Inp) (j s : ℕ) : ℝ := gd a s 0 j + gd a s 128 j + gd a s 256 j + gd a s 384 j
def gdnT (a : Inp) (_i j : ℕ) : ℝ := ∑ s : Fin 512, gdR a j s.val
def gwoT (a : Inp) (i j : ℕ) : ℝ := ∑ s : Fin 512, y a s.val i * dh a s.val j

/-- A half tile's head of the two derivatives, and of the gate. -/
def doP (c : Dev nD) (arg3 : Memref sig .tc .vmem S512x512 .f32) (harg3 : arg3.IsWhole) (arg4 : Memref sig .tc .vmem S512x512 .f32) (harg4 : arg4.IsWhole) (arg7 : Memref sig .tc .vmem S1x128 .f32) (harg7 : arg7.IsWhole) (x2 x3 : Vec Ideal S512x512 .f32) (x6 : Vec Ideal S1x128 .f32) (p q P : ℕ) (inb : ∀ a, (![p, q] : Fin 2 → ℕ) a + (Sh 256 128).size a ≤ (Sh 512 512).size a) (d : FVec Ideal S256x1024 .f32) (hs : S256x1024.Slices ![0, P] S256x128) : FVec Ideal S256x128 .f32 :=
  k0_pay104 (kernelRun0_B.sl.r c arg7 harg7 x6) (k0_pay9 (View.readAt (Elt Ideal) arg3.view (Rect.unit (s := S512x512) ![p, q] S256x128.size inb).toLoadRect (harg3.unread x2))) (k0_pay10 (View.readAt (Elt Ideal) arg3.view (Rect.unit (s := S512x512) ![p, q] S256x128.size inb).toLoadRect (harg3.unread x2))) (extractStridedSlice S256x128 ![0, P] d hs) (mulf (View.readAt (Elt Ideal) arg4.view (Rect.unit (s := S512x512) ![p, q] S256x128.size inb).toLoadRect (harg4.unread x3)) (k0_pay11 (View.readAt (Elt Ideal) arg4.view (Rect.unit (s := S512x512) ![p, q] S256x128.size inb).toLoadRect (harg4.unread x3))))
def dzP (c : Dev nD) (arg3 : Memref sig .tc .vmem S512x512 .f32) (harg3 : arg3.IsWhole) (arg4 : Memref sig .tc .vmem S512x512 .f32) (harg4 : arg4.IsWhole) (arg7 : Memref sig .tc .vmem S1x128 .f32) (harg7 : arg7.IsWhole) (x2 x3 : Vec Ideal S512x512 .f32) (x6 : Vec Ideal S1x128 .f32) (p q P : ℕ) (inb : ∀ a, (![p, q] : Fin 2 → ℕ) a + (Sh 256 128).size a ≤ (Sh 512 512).size a) (d : FVec Ideal S256x1024 .f32) (hs : S256x1024.Slices ![0, P] S256x128) : FVec Ideal S256x128 .bf16 :=
  dzOf (kernelRun0_B.sl.r c arg7 harg7 x6) (View.readAt (Elt Ideal) arg4.view (Rect.unit (s := S512x512) ![p, q] S256x128.size inb).toLoadRect (harg4.unread x3)) (k0_pay10 (View.readAt (Elt Ideal) arg3.view (Rect.unit (s := S512x512) ![p, q] S256x128.size inb).toLoadRect (harg3.unread x2))) (k0_pay11 (View.readAt (Elt Ideal) arg4.view (Rect.unit (s := S512x512) ![p, q] S256x128.size inb).toLoadRect (harg4.unread x3))) (extractStridedSlice S256x128 ![0, P] d hs)
def gdP (c : Dev nD) (arg3 : Memref sig .tc .vmem S512x512 .f32) (harg3 : arg3.IsWhole) (arg4 : Memref sig .tc .vmem S512x512 .f32) (harg4 : arg4.IsWhole) (x2 x3 : Vec Ideal S512x512 .f32) (p q P : ℕ) (inb : ∀ a, (![p, q] : Fin 2 → ℕ) a + (Sh 256 128).size a ≤ (Sh 512 512).size a) (d : FVec Ideal S256x1024 .f32) (hs : S256x1024.Slices ![0, P] S256x128) (w : FVec Ideal S1x128 .f32) : FVec Ideal S1x128 .f32 :=
  k0_pay103 (k0_pay10 (View.readAt (Elt Ideal) arg3.view (Rect.unit (s := S512x512) ![p, q] S256x128.size inb).toLoadRect (harg3.unread x2))) w (extractStridedSlice S256x128 ![0, P] d hs) (mulf (View.readAt (Elt Ideal) arg4.view (Rect.unit (s := S512x512) ![p, q] S256x128.size inb).toLoadRect (harg4.unread x3)) (k0_pay11 (View.readAt (Elt Ideal) arg4.view (Rect.unit (s := S512x512) ![p, q] S256x128.size inb).toLoadRect (harg4.unread x3))))
/-- The eight pieces, last stored first. -/
def doL (c : Dev nD) (arg3 : Memref sig .tc .vmem S512x512 .f32) (harg3 : arg3.IsWhole) (arg4 : Memref sig .tc .vmem S512x512 .f32) (harg4 : arg4.IsWhole) (arg7 : Memref sig .tc .vmem S1x128 .f32) (harg7 : arg7.IsWhole) (x2 x3 : Vec Ideal S512x512 .f32) (x6 : Vec Ideal S1x128 .f32) (d0 d1 : FVec Ideal S256x1024 .f32) : List (View.Piece (Elt Ideal) S512x512 .f32) := [
  ⟨Rect.unit ![256, 384] S256x128.size inb_S512x512_S256x128_256_384, doP c arg3 harg3 arg4 harg4 arg7 harg7 x2 x3 x6 256 384 896 inb_S512x512_S256x128_256_384 d1 slices_S256x1024_o0_896_S256x128⟩,
  ⟨Rect.unit ![256, 256] S256x128.size inb_S512x512_S256x128_256_256, doP c arg3 harg3 arg4 harg4 arg7 harg7 x2 x3 x6 256 256 768 inb_S512x512_S256x128_256_256 d1 slices_S256x1024_o0_768_S256x128⟩,
  ⟨Rect.unit ![256, 128] S256x128.size inb_S512x512_S256x128_256_128, doP c arg3 harg3 arg4 harg4 arg7 harg7 x2 x3 x6 256 128 640 inb_S512x512_S256x128_256_128 d1 slices_S256x1024_o0_640_S256x128⟩,
  ⟨Rect.unit ![256, 0] S256x128.size inb_S512x512_S256x128_256_0, doP c arg3 harg3 arg4 harg4 arg7 harg7 x2 x3 x6 256 0 512 inb_S512x512_S256x128_256_0 d1 slices_S256x1024_o0_512_S256x128⟩,
  ⟨Rect.unit ![0, 384] S256x128.size inb_S512x512_S256x128_0_384, doP c arg3 harg3 arg4 harg4 arg7 harg7 x2 x3 x6 0 384 896 inb_S512x512_S256x128_0_384 d0 slices_S256x1024_o0_896_S256x128⟩,
  ⟨Rect.unit ![0, 256] S256x128.size inb_S512x512_S256x128_0_256, doP c arg3 harg3 arg4 harg4 arg7 harg7 x2 x3 x6 0 256 768 inb_S512x512_S256x128_0_256 d0 slices_S256x1024_o0_768_S256x128⟩,
  ⟨Rect.unit ![0, 128] S256x128.size inb_S512x512_S256x128_0_128, doP c arg3 harg3 arg4 harg4 arg7 harg7 x2 x3 x6 0 128 640 inb_S512x512_S256x128_0_128 d0 slices_S256x1024_o0_640_S256x128⟩,
  ⟨Rect.unit ![0, 0] S256x128.size inb_S512x512_S256x128_0_0, doP c arg3 harg3 arg4 harg4 arg7 harg7 x2 x3 x6 0 0 512 inb_S512x512_S256x128_0_0 d0 slices_S256x1024_o0_512_S256x128⟩]
/-- The eight pieces, last stored first. -/
def dzL (c : Dev nD) (arg3 : Memref sig .tc .vmem S512x512 .f32) (harg3 : arg3.IsWhole) (arg4 : Memref sig .tc .vmem S512x512 .f32) (harg4 : arg4.IsWhole) (arg7 : Memref sig .tc .vmem S1x128 .f32) (harg7 : arg7.IsWhole) (x2 x3 : Vec Ideal S512x512 .f32) (x6 : Vec Ideal S1x128 .f32) (d0 d1 : FVec Ideal S256x1024 .f32) : List (View.Piece (Elt Ideal) S512x512 .bf16) := [
  ⟨Rect.unit ![256, 384] S256x128.size inb_S512x512_S256x128_256_384, dzP c arg3 harg3 arg4 harg4 arg7 harg7 x2 x3 x6 256 384 896 inb_S512x512_S256x128_256_384 d1 slices_S256x1024_o0_896_S256x128⟩,
  ⟨Rect.unit ![256, 256] S256x128.size inb_S512x512_S256x128_256_256, dzP c arg3 harg3 arg4 harg4 arg7 harg7 x2 x3 x6 256 256 768 inb_S512x512_S256x128_256_256 d1 slices_S256x1024_o0_768_S256x128⟩,
  ⟨Rect.unit ![256, 128] S256x128.size inb_S512x512_S256x128_256_128, dzP c arg3 harg3 arg4 harg4 arg7 harg7 x2 x3 x6 256 128 640 inb_S512x512_S256x128_256_128 d1 slices_S256x1024_o0_640_S256x128⟩,
  ⟨Rect.unit ![256, 0] S256x128.size inb_S512x512_S256x128_256_0, dzP c arg3 harg3 arg4 harg4 arg7 harg7 x2 x3 x6 256 0 512 inb_S512x512_S256x128_256_0 d1 slices_S256x1024_o0_512_S256x128⟩,
  ⟨Rect.unit ![0, 384] S256x128.size inb_S512x512_S256x128_0_384, dzP c arg3 harg3 arg4 harg4 arg7 harg7 x2 x3 x6 0 384 896 inb_S512x512_S256x128_0_384 d0 slices_S256x1024_o0_896_S256x128⟩,
  ⟨Rect.unit ![0, 256] S256x128.size inb_S512x512_S256x128_0_256, dzP c arg3 harg3 arg4 harg4 arg7 harg7 x2 x3 x6 0 256 768 inb_S512x512_S256x128_0_256 d0 slices_S256x1024_o0_768_S256x128⟩,
  ⟨Rect.unit ![0, 128] S256x128.size inb_S512x512_S256x128_0_128, dzP c arg3 harg3 arg4 harg4 arg7 harg7 x2 x3 x6 0 128 640 inb_S512x512_S256x128_0_128 d0 slices_S256x1024_o0_640_S256x128⟩,
  ⟨Rect.unit ![0, 0] S256x128.size inb_S512x512_S256x128_0_0, dzP c arg3 harg3 arg4 harg4 arg7 harg7 x2 x3 x6 0 0 512 inb_S512x512_S256x128_0_0 d0 slices_S256x1024_o0_512_S256x128⟩]
/-- The four heads' sums of a half tile, from zero. -/
def gdS (c : Dev nD) (arg3 : Memref sig .tc .vmem S512x512 .f32) (harg3 : arg3.IsWhole) (arg4 : Memref sig .tc .vmem S512x512 .f32) (harg4 : arg4.IsWhole)
    (x2 x3 : Vec Ideal S512x512 .f32) (d0 d1 : FVec Ideal S256x1024 .f32) : FVec Ideal S1x128 .f32 × FVec Ideal S1x128 .f32 :=
  ((gdP c arg3 harg3 arg4 harg4 x2 x3 0 384 896 inb_S512x512_S256x128_0_384 d0 slices_S256x1024_o0_896_S256x128 (gdP c arg3 harg3 arg4 harg4 x2 x3 0 256 768 inb_S512x512_S256x128_0_256 d0 slices_S256x1024_o0_768_S256x128 (gdP c arg3 harg3 arg4 harg4 x2 x3 0 128 640 inb_S512x512_S256x128_0_128 d0 slices_S256x1024_o0_640_S256x128 (gdP c arg3 harg3 arg4 harg4 x2 x3 0 0 512 inb_S512x512_S256x128_0_0 d0 slices_S256x1024_o0_512_S256x128 (broadcast S1x128 (FloatOps.ofBits FTy.f32 0x00000000#32)))))),
   (gdP c arg3 harg3 arg4 harg4 x2 x3 256 384 896 inb_S512x512_S256x128_256_384 d1 slices_S256x1024_o0_896_S256x128 (gdP c arg3 harg3 arg4 harg4 x2 x3 256 256 768 inb_S512x512_S256x128_256_256 d1 slices_S256x1024_o0_768_S256x128 (gdP c arg3 harg3 arg4 harg4 x2 x3 256 128 640 inb_S512x512_S256x128_256_128 d1 slices_S256x1024_o0_640_S256x128 (gdP c arg3 harg3 arg4 harg4 x2 x3 256 0 512 inb_S512x512_S256x128_256_0 d1 slices_S256x1024_o0_512_S256x128 (broadcast S1x128 (FloatOps.ofBits FTy.f32 0x00000000#32)))))))

section
variable (c : Dev nD) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1x128 .f32) (harg7 : arg7.IsWhole) (arg8 : Memref sig .tc .vmem S1x1024 .f32) (harg8 : arg8.IsWhole)
variable (arg10 : Memref sig .tc .vmem S512x1024 .f32) (arg17 : Memref sig .tc .vmem S512x1024 .bf16) (arg18 : Memref sig .tc .vmem S1024x512 .bf16)
variable {a : Inp} {x0 : Vec Ideal S512x1024 .f32} {x1 x2 x3 : Vec Ideal S512x512 .f32} {x4 : Vec Ideal S512x1024 .f32} {x5 : Vec Ideal S1024x1024 .bf16} {x6 : Vec Ideal S1x128 .f32} {x7 : Vec Ideal S1x1024 .f32}
variable (H : TileOk a x0 x1 x2 x3 x4 x5 x6 x7)
include H

theorem do_head (p q P : ℕ) (inb : ∀ a, (![p, q] : Fin 2 → ℕ) a + (Sh 256 128).size a ≤ (Sh 512 512).size a) {d : S256x1024.Idx → EReal} (hd : R2 d (dyT a p)) (hP : P = 512 + q) (hs : S256x1024.Slices ![0, P] S256x128) :
    R2 (k0_pay104 (F := Ideal) (kernelRun0_B.sl.r c arg7 harg7 x6) (k0_pay9 (View.readAt (Elt Ideal) arg3.view (Rect.unit (s := S512x512) ![p, q] S256x128.size inb).toLoadRect (harg3.unread x2))) (k0_pay10 (View.readAt (Elt Ideal) arg3.view (Rect.unit (s := S512x512) ![p, q] S256x128.size inb).toLoadRect (harg3.unread x2))) (extractStridedSlice S256x128 ![0, P] d hs) (mulf (View.readAt (Elt Ideal) arg4.view (Rect.unit (s := S512x512) ![p, q] S256x128.size inb).toLoadRect (harg4.unread x3)) (k0_pay11 (View.readAt (Elt Ideal) arg4.view (Rect.unit (s := S512x512) ![p, q] S256x128.size inb).toLoadRect (harg4.unread x3))))) (dOT a p q) :=
  pay104 (ld_nw c arg7 harg7 H) (pay9 (ld_o arg3 harg3 H p q inb)) (pay10 (ld_o arg3 harg3 H p q inb)) (dyd_slice hd hP hs)
    (gate (ld_z arg4 harg4 H p q inb) (pay11 (ld_z arg4 harg4 H p q inb)))
theorem dz_head (p q P : ℕ) (inb : ∀ a, (![p, q] : Fin 2 → ℕ) a + (Sh 256 128).size a ≤ (Sh 512 512).size a) {d : S256x1024.Idx → EReal} (hd : R2 d (dyT a p)) (hP : P = 512 + q) (hs : S256x1024.Slices ![0, P] S256x128) :
    R2 (dzOf (kernelRun0_B.sl.r c arg7 harg7 x6) (View.readAt (Elt Ideal) arg4.view (Rect.unit (s := S512x512) ![p, q] S256x128.size inb).toLoadRect (harg4.unread x3)) (k0_pay10 (F := Ideal) (View.readAt (Elt Ideal) arg3.view (Rect.unit (s := S512x512) ![p, q] S256x128.size inb).toLoadRect (harg3.unread x2))) (k0_pay11 (View.readAt (Elt Ideal) arg4.view (Rect.unit (s := S512x512) ![p, q] S256x128.size inb).toLoadRect (harg4.unread x3))) (extractStridedSlice S256x128 ![0, P] d hs)) (dzT a p q) :=
  dz_ok (ld_nw c arg7 harg7 H) (ld_z arg4 harg4 H p q inb) (pay10 (ld_o arg3 harg3 H p q inb)) (pay11 (ld_z arg4 harg4 H p q inb))
    (dyd_slice hd hP hs)
theorem gd_head (p q P : ℕ) (inb : ∀ a, (![p, q] : Fin 2 → ℕ) a + (Sh 256 128).size a ≤ (Sh 512 512).size a) {d : S256x1024.Idx → EReal} (hd : R2 d (dyT a p)) (hP : P = 512 + q) (hs : S256x1024.Slices ![0, P] S256x128) {w : S1x128.Idx → EReal} {f : ℕ → ℕ → ℝ} (hw : R2 w f) :
    R2 (k0_pay103 (F := Ideal) (k0_pay10 (View.readAt (Elt Ideal) arg3.view (Rect.unit (s := S512x512) ![p, q] S256x128.size inb).toLoadRect (harg3.unread x2))) w (extractStridedSlice S256x128 ![0, P] d hs) (mulf (View.readAt (Elt Ideal) arg4.view (Rect.unit (s := S512x512) ![p, q] S256x128.size inb).toLoadRect (harg4.unread x3)) (k0_pay11 (View.readAt (Elt Ideal) arg4.view (Rect.unit (s := S512x512) ![p, q] S256x128.size inb).toLoadRect (harg4.unread x3))))) (fun i j => f i j + ∑ k : Fin 256, gdT a p q k.val j) :=
  pay103 hw (pay10 (ld_o arg3 harg3 H p q inb)) (dyd_slice hd hP hs) (gate (ld_z arg4 harg4 H p q inb) (pay11 (ld_z arg4 harg4 H p q inb)))

/-- The pieces of the heads' derivatives. -/
theorem do_piece (p q P : ℕ) (inb : ∀ a, (![p, q] : Fin 2 → ℕ) a + (Sh 256 128).size a ≤ (Sh 512 512).size a) {d : S256x1024.Idx → EReal} (hd : R2 d (dyT a p)) (hP : P = 512 + q) (hs : S256x1024.Slices ![0, P] S256x128) (hq : q % 128 = 0) (inbo : ∀ a, (![p, q] : Fin 2 → ℕ) a + (Sh 256 128).size a ≤ (Sh 512 512).size a) :
    PieceOk (doA a) ⟨Rect.unit (s := Sh 512 512) ![p, q] (Sh 256 128).size inbo,
      k0_pay104 (F := Ideal) (kernelRun0_B.sl.r c arg7 harg7 x6) (k0_pay9 (View.readAt (Elt Ideal) arg3.view (Rect.unit (s := S512x512) ![p, q] S256x128.size inb).toLoadRect (harg3.unread x2))) (k0_pay10 (View.readAt (Elt Ideal) arg3.view (Rect.unit (s := S512x512) ![p, q] S256x128.size inb).toLoadRect (harg3.unread x2))) (extractStridedSlice S256x128 ![0, P] d hs) (mulf (View.readAt (Elt Ideal) arg4.view (Rect.unit (s := S512x512) ![p, q] S256x128.size inb).toLoadRect (harg4.unread x3)) (k0_pay11 (View.readAt (Elt Ideal) arg4.view (Rect.unit (s := S512x512) ![p, q] S256x128.size inb).toLoadRect (harg4.unread x3))))⟩ :=
  PieceOk.unit (do_head c arg3 harg3 arg4 harg4 arg7 harg7 H p q P inb hd hP hs) inbo fun i _ j hj => by
    obtain ⟨e1, e2⟩ := head_col hq hj
    rw [doA, e1, e2]; rfl
theorem dz_piece (p q P : ℕ) (inb : ∀ a, (![p, q] : Fin 2 → ℕ) a + (Sh 256 128).size a ≤ (Sh 512 512).size a) {d : S256x1024.Idx → EReal} (hd : R2 d (dyT a p)) (hP : P = 512 + q) (hs : S256x1024.Slices ![0, P] S256x128) (hq : q % 128 = 0) (inbo : ∀ a, (![p, q] : Fin 2 → ℕ) a + (Sh 256 128).size a ≤ (Sh 512 512).size a) :
    PieceOk (dzA a) ⟨Rect.unit (s := Sh 512 512) ![p, q] (Sh 256 128).size inbo,
      dzOf (kernelRun0_B.sl.r c arg7 harg7 x6) (View.readAt (Elt Ideal) arg4.view (Rect.unit (s := S512x512) ![p, q] S256x128.size inb).toLoadRect (harg4.unread x3)) (k0_pay10 (F := Ideal) (View.readAt (Elt Ideal) arg3.view (Rect.unit (s := S512x512) ![p, q] S256x128.size inb).toLoadRect (harg3.unread x2))) (k0_pay11 (View.readAt (Elt Ideal) arg4.view (Rect.unit (s := S512x512) ![p, q] S256x128.size inb).toLoadRect (harg4.unread x3))) (extractStridedSlice S256x128 ![0, P] d hs)⟩ :=
  PieceOk.unit (dz_head c arg3 harg3 arg4 harg4 arg7 harg7 H p q P inb hd hP hs) inbo fun i _ j hj => by
    obtain ⟨e1, e2⟩ := head_col hq hj
    rw [dzA, e1, e2]; rfl
theorem do_all {d0 d1 : FVec Ideal S256x1024 .f32} (h0 : R2 d0 (dyT a 0)) (h1 : R2 d1 (dyT a 256)) :
    R2 (View.canon (doL c arg3 harg3 arg4 harg4 arg7 harg7 x2 x3 x6 d0 d1)) (doA a) :=
  R2.canonf _ _ (List.forall_mem_cons.2 ⟨do_piece c arg3 harg3 arg4 harg4 arg7 harg7 H 256 384 896 inb_S512x512_S256x128_256_384 h1 rfl slices_S256x1024_o0_896_S256x128 rfl inb_S512x512_S256x128_256_384,
    List.forall_mem_cons.2 ⟨do_piece c arg3 harg3 arg4 harg4 arg7 harg7 H 256 256 768 inb_S512x512_S256x128_256_256 h1 rfl slices_S256x1024_o0_768_S256x128 rfl inb_S512x512_S256x128_256_256,
    List.forall_mem_cons.2 ⟨do_piece c arg3 harg3 arg4 harg4 arg7 harg7 H 256 128 640 inb_S512x512_S256x128_256_128 h1 rfl slices_S256x1024_o0_640_S256x128 rfl inb_S512x512_S256x128_256_128,
    List.forall_mem_cons.2 ⟨do_piece c arg3 harg3 arg4 harg4 arg7 harg7 H 256 0 512 inb_S512x512_S256x128_256_0 h1 rfl slices_S256x1024_o0_512_S256x128 rfl inb_S512x512_S256x128_256_0,
    List.forall_mem_cons.2 ⟨do_piece c arg3 harg3 arg4 harg4 arg7 harg7 H 0 384 896 inb_S512x512_S256x128_0_384 h0 rfl slices_S256x1024_o0_896_S256x128 rfl inb_S512x512_S256x128_0_384,
    List.forall_mem_cons.2 ⟨do_piece c arg3 harg3 arg4 harg4 arg7 harg7 H 0 256 768 inb_S512x512_S256x128_0_256 h0 rfl slices_S256x1024_o0_768_S256x128 rfl inb_S512x512_S256x128_0_256,
    List.forall_mem_cons.2 ⟨do_piece c arg3 harg3 arg4 harg4 arg7 harg7 H 0 128 640 inb_S512x512_S256x128_0_128 h0 rfl slices_S256x1024_o0_640_S256x128 rfl inb_S512x512_S256x128_0_128,
    List.forall_mem_cons.2 ⟨do_piece c arg3 harg3 arg4 harg4 arg7 harg7 H 0 0 512 inb_S512x512_S256x128_0_0 h0 rfl slices_S256x1024_o0_512_S256x128 rfl inb_S512x512_S256x128_0_0,
    fun _ h => absurd h List.not_mem_nil⟩⟩⟩⟩⟩⟩⟩⟩)
    (fun i j => ex_cons fun h0 => ex_cons fun h1 => ex_cons fun h2 => ex_cons fun h3 => ex_cons fun h4 => ex_cons fun h5 => ex_cons fun h6 => ex_cons fun h7 => absurd h0 (by have := i.2; have := j.2; omega))
theorem dz_all {d0 d1 : FVec Ideal S256x1024 .f32} (h0 : R2 d0 (dyT a 0)) (h1 : R2 d1 (dyT a 256)) :
    R2 (View.canon (dzL c arg3 harg3 arg4 harg4 arg7 harg7 x2 x3 x6 d0 d1)) (dzA a) :=
  R2.canonb _ _ (List.forall_mem_cons.2 ⟨dz_piece c arg3 harg3 arg4 harg4 arg7 harg7 H 256 384 896 inb_S512x512_S256x128_256_384 h1 rfl slices_S256x1024_o0_896_S256x128 rfl inb_S512x512_S256x128_256_384,
    List.forall_mem_cons.2 ⟨dz_piece c arg3 harg3 arg4 harg4 arg7 harg7 H 256 256 768 inb_S512x512_S256x128_256_256 h1 rfl slices_S256x1024_o0_768_S256x128 rfl inb_S512x512_S256x128_256_256,
    List.forall_mem_cons.2 ⟨dz_piece c arg3 harg3 arg4 harg4 arg7 harg7 H 256 128 640 inb_S512x512_S256x128_256_128 h1 rfl slices_S256x1024_o0_640_S256x128 rfl inb_S512x512_S256x128_256_128,
    List.forall_mem_cons.2 ⟨dz_piece c arg3 harg3 arg4 harg4 arg7 harg7 H 256 0 512 inb_S512x512_S256x128_256_0 h1 rfl slices_S256x1024_o0_512_S256x128 rfl inb_S512x512_S256x128_256_0,
    List.forall_mem_cons.2 ⟨dz_piece c arg3 harg3 arg4 harg4 arg7 harg7 H 0 384 896 inb_S512x512_S256x128_0_384 h0 rfl slices_S256x1024_o0_896_S256x128 rfl inb_S512x512_S256x128_0_384,
    List.forall_mem_cons.2 ⟨dz_piece c arg3 harg3 arg4 harg4 arg7 harg7 H 0 256 768 inb_S512x512_S256x128_0_256 h0 rfl slices_S256x1024_o0_768_S256x128 rfl inb_S512x512_S256x128_0_256,
    List.forall_mem_cons.2 ⟨dz_piece c arg3 harg3 arg4 harg4 arg7 harg7 H 0 128 640 inb_S512x512_S256x128_0_128 h0 rfl slices_S256x1024_o0_640_S256x128 rfl inb_S512x512_S256x128_0_128,
    List.forall_mem_cons.2 ⟨dz_piece c arg3 harg3 arg4 harg4 arg7 harg7 H 0 0 512 inb_S512x512_S256x128_0_0 h0 rfl slices_S256x1024_o0_512_S256x128 rfl inb_S512x512_S256x128_0_0,
    fun _ h => absurd h List.not_mem_nil⟩⟩⟩⟩⟩⟩⟩⟩)
    (fun i j => ex_cons fun h0 => ex_cons fun h1 => ex_cons fun h2 => ex_cons fun h3 => ex_cons fun h4 => ex_cons fun h5 => ex_cons fun h6 => ex_cons fun h7 => absurd h0 (by have := i.2; have := j.2; omega))

/-! What the case's stores leave, at any grid point. -/
theorem dyp_all {d0 d1 : FVec Ideal S256x1024 .f32} (h0 : R2 d0 (dyT a 0)) (h1 : R2 d1 (dyT a 256)) :
    R2 (View.canon ([⟨Rect.unit ![256, 0] S256x512.size inb_S512x512_S256x512_256_0, k0_pay85 d1⟩,
      ⟨Rect.unit ![0, 0] S256x512.size inb_S512x512_S256x512_0_0, k0_pay85 d0⟩] : List (View.Piece (Elt Ideal) S512x512 .f32))) (dy a) :=
  R2.canonf _ _ (List.forall_mem_cons.2 ⟨PieceOk.unit (dyp_slice h1) _ (fun i _ j _ => by rw [Nat.zero_add j]; rfl),
    List.forall_mem_cons.2 ⟨PieceOk.unit (dyp_slice h0) _ (fun i _ j _ => by rw [Nat.zero_add j]; rfl), fun _ h => absurd h List.not_mem_nil⟩⟩)
    (fun i j => ex_cons fun h0 => ex_cons fun h1 => absurd h0 (by have := i.2; have := j.2; omega))

/-- The loss row: half the two halves' sums, added to the row before. -/
theorem loss_all {w : FVec Ideal S1x128 .f32} {f : ℕ → ℕ → ℝ} (hw : R2 w f) (v : View sig .tc .vmem S1x128 .f32)
    (L L' : List (View.Piece (Elt Ideal) S1x128 .f32)) :
    R2 (View.canon ((⟨Rect.unit ![0, 0] S1x128.size inb_S1x128_S1x128_0_0, k0_pay81 (kernelRun0_B.sl.r_1 c arg8 harg8 x7) (kernelRun0_B.sl.r_48 c arg1 harg1 arg2 harg2 arg3 harg3 arg4 harg4 arg6 harg6 arg7 harg7 arg17 x0 x1 x2 x3 x5 x6)
      (View.readAt (Elt Ideal) arg5.view (Rect.unit (s := S512x1024) ![256, 0] S256x1024.size inb_S512x1024_S256x1024_256_0).toLoadRect (harg5.unread x4))
      (v.readCov (Val := Elt Ideal) (⟨Rect.unit ![0, 0] S1x128.size inb_S1x128_S1x128_0_0,
        k0_pay70 (k0_pay68 w) (kernelRun0_B.sl.r_47 c arg1 harg1 arg2 harg2 arg3 harg3 arg4 harg4 arg5 harg5 arg6 harg6 arg7 harg7 arg8 harg8 arg17 x0 x1 x2 x3 x4 x5 x6 x7) kernelRun0_B.sl.cst_137⟩ :: L) (Rect.unit ![0, 0] S1x128.size inb_S1x128_S1x128_0_0).toLoadRect)⟩ :: L'
        : List (View.Piece (Elt Ideal) S1x128 .f32))))
      (fun i j => f i j + lossT a i j) := by
  have h1 := pay70 hw (ld_fw c arg8 harg8 H) (hv0 c arg1 harg1 arg2 harg2 arg3 harg3 arg4 harg4 arg6 harg6 arg7 harg7 arg17 H) (H.tg.load0 arg5 harg5 inb_S512x1024_S256x1024_0_0)
  have h2 := pay70 (h1.headCov v L inb_S1x128_S1x128_0_0 inb_S1x128_S1x128_0_0) (ld_fw c arg8 harg8 H) (hv1 c arg1 harg1 arg2 harg2 arg3 harg3 arg4 harg4 arg6 harg6 arg7 harg7 arg17 H)
    (H.tg.load0 arg5 harg5 inb_S512x1024_S256x1024_256_0)
  exact (h2.head L' inb_S1x128_S1x128_0_0).congr fun _ _ _ _ => by rw [lossT, sum_tile]; ring

/-- The final norm's weight's derivative. -/
theorem gfn_all {w : FVec Ideal S1x1024 .f32} {f : ℕ → ℕ → ℝ} (hw : R2 w f) (v : View sig .tc .vmem S1x1024 .f32)
    (L L' : List (View.Piece (Elt Ideal) S1x1024 .f32)) :
    R2 (View.canon ((⟨Rect.unit ![0, 0] S1x1024.size inb_S1x1024_S1x1024_0_0, k0_pay83 (kernelRun0_B.sl.r_1 c arg8 harg8 x7) (kernelRun0_B.sl.r_48 c arg1 harg1 arg2 harg2 arg3 harg3 arg4 harg4 arg6 harg6 arg7 harg7 arg17 x0 x1 x2 x3 x5 x6)
      (View.readAt (Elt Ideal) arg5.view (Rect.unit (s := S512x1024) ![256, 0] S256x1024.size inb_S512x1024_S256x1024_256_0).toLoadRect (harg5.unread x4))
      (v.readCov (Val := Elt Ideal) (⟨Rect.unit ![0, 0] S1x1024.size inb_S1x1024_S1x1024_0_0,
        k0_pay72 (kernelRun0_B.sl.r_44 c arg1 harg1 arg2 harg2 arg3 harg3 arg4 harg4 arg6 harg6 arg7 harg7 arg17 x0 x1 x2 x3 x5 x6) (kernelRun0_B.sl.r_45 c arg1 harg1 arg2 harg2 arg3 harg3 arg4 harg4 arg5 harg5 arg6 harg6 arg7 harg7 arg8 harg8 arg17 x0 x1 x2 x3 x4 x5 x6 x7) w⟩ :: L) (Rect.unit ![0, 0] S1x1024.size inb_S1x1024_S1x1024_0_0).toLoadRect)⟩ :: L'
        : List (View.Piece (Elt Ideal) S1x1024 .f32))))
      (fun i j => f i j + gfnT a i j) := by
  have h1 := pay72 hw (hh0 c arg1 harg1 arg2 harg2 arg3 harg3 arg4 harg4 arg6 harg6 arg7 harg7 arg17 H) (er0 c arg1 harg1 arg2 harg2 arg3 harg3 arg4 harg4 arg5 harg5 arg6 harg6 arg7 harg7 arg8 harg8 arg17 H)
  have h2 := pay72 (h1.headCov v L inb_S1x1024_S1x1024_0_0 inb_S1x1024_S1x1024_0_0) (pay66 (hv1 c arg1 harg1 arg2 harg2 arg3 harg3 arg4 harg4 arg6 harg6 arg7 harg7 arg17 H))
    (pay67 (ld_fw c arg8 harg8 H) (hv1 c arg1 harg1 arg2 harg2 arg3 harg3 arg4 harg4 arg6 harg6 arg7 harg7 arg17 H) (H.tg.load0 arg5 harg5 inb_S512x1024_S256x1024_256_0))
  exact (h2.head L' inb_S1x1024_S1x1024_0_0).congr fun i _ j _ => by
    rw [gfnT, sum_tile (fun s => dt a s j * hh a s j)]; exact add_assoc _ _ _

theorem gds_ok {d0 d1 : FVec Ideal S256x1024 .f32} (h0 : R2 d0 (dyT a 0)) (h1 : R2 d1 (dyT a 256)) :
    R2 (gdS c arg3 harg3 arg4 harg4 x2 x3 d0 d1).1 (fun _ j => 0 + ∑ k : Fin 256, gdT a 0 0 k.val j + ∑ k : Fin 256, gdT a 0 128 k.val j + ∑ k : Fin 256, gdT a 0 256 k.val j + ∑ k : Fin 256, gdT a 0 384 k.val j) ∧
    R2 (gdS c arg3 harg3 arg4 harg4 x2 x3 d0 d1).2 (fun _ j => 0 + ∑ k : Fin 256, gdT a 256 0 k.val j + ∑ k : Fin 256, gdT a 256 128 k.val j + ∑ k : Fin 256, gdT a 256 256 k.val j + ∑ k : Fin 256, gdT a 256 384 k.val j) :=
  ⟨(gd_head arg3 harg3 arg4 harg4 H 0 384 896 inb_S512x512_S256x128_0_384 h0 rfl slices_S256x1024_o0_896_S256x128 (gd_head arg3 harg3 arg4 harg4 H 0 256 768 inb_S512x512_S256x128_0_256 h0 rfl slices_S256x1024_o0_768_S256x128 (gd_head arg3 harg3 arg4 harg4 H 0 128 640 inb_S512x512_S256x128_0_128 h0 rfl slices_S256x1024_o0_640_S256x128 (gd_head arg3 harg3 arg4 harg4 H 0 0 512 inb_S512x512_S256x128_0_0 h0 rfl slices_S256x1024_o0_512_S256x128 (R2.const lit_zero))))),
   (gd_head arg3 harg3 arg4 harg4 H 256 384 896 inb_S512x512_S256x128_256_384 h1 rfl slices_S256x1024_o0_896_S256x128 (gd_head arg3 harg3 arg4 harg4 H 256 256 768 inb_S512x512_S256x128_256_256 h1 rfl slices_S256x1024_o0_768_S256x128 (gd_head arg3 harg3 arg4 harg4 H 256 128 640 inb_S512x512_S256x128_256_128 h1 rfl slices_S256x1024_o0_640_S256x128 (gd_head arg3 harg3 arg4 harg4 H 256 0 512 inb_S512x512_S256x128_256_0 h1 rfl slices_S256x1024_o0_512_S256x128 (R2.const lit_zero)))))⟩
theorem gd_all {d0 d1 : FVec Ideal S256x1024 .f32} (h0 : R2 d0 (dyT a 0)) (h1 : R2 d1 (dyT a 256))
    {w : FVec Ideal S1x128 .f32} {f : ℕ → ℕ → ℝ} (hw : R2 w f) (v : View sig .tc .vmem S1x128 .f32)
    (L L' : List (View.Piece (Elt Ideal) S1x128 .f32)) :
    R2 (View.canon ((⟨Rect.unit ![0, 0] S1x128.size inb_S1x128_S1x128_0_0, k0_pay1 (gdS c arg3 harg3 arg4 harg4 x2 x3 d0 d1).2
      (v.readCov (Val := Elt Ideal) (⟨Rect.unit ![0, 0] S1x128.size inb_S1x128_S1x128_0_0,
        k0_pay1 (gdS c arg3 harg3 arg4 harg4 x2 x3 d0 d1).1 w⟩ :: L) (Rect.unit ![0, 0] S1x128.size inb_S1x128_S1x128_0_0).toLoadRect)⟩ :: L'
        : List (View.Piece (Elt Ideal) S1x128 .f32))))
      (fun i j => f i j + gdnT a i j) := by
  obtain ⟨g0, g1⟩ := gds_ok c arg3 harg3 arg4 harg4 H h0 h1
  have s1 := (hw.cast_self shapeCasts_S1x128_S1x128).add g0
  have s2 := ((s1.headCov v L inb_S1x128_S1x128_0_0 inb_S1x128_S1x128_0_0).cast_self shapeCasts_S1x128_S1x128).add g1
  exact (s2.head L' inb_S1x128_S1x128_0_0).congr fun i _ j _ => by
    rw [gdnT, sum_tile (gdR a j)]; simp only [gdR, Finset.sum_add_distrib, gdT]; ring

/-- The weights' derivative, added to what the points before gave. -/
theorem gwo_all {w : FVec Ideal S1024x1024 .f32} {f : ℕ → ℕ → ℝ} (hw : R2 w f) :
    R2 (k0_pay111 w (kernelRun0_B.sl.v537 c arg2 harg2 arg3 harg3 arg4 harg4 arg7 harg7 arg18 x1 x2 x3 x6) (kernelRun0_B.sl.v538 c arg1 harg1 arg2 harg2 arg3 harg3 arg4 harg4 arg5 harg5 arg6 harg6 arg7 harg7 arg8 harg8 arg10 arg17 x0 x1 x2 x3 x4 x5 x6 x7))
      (fun i j => f i j + gwoT a i j) :=
  pay111 hw (v537_ok c arg2 harg2 arg3 harg3 arg4 harg4 arg7 harg7 arg18 H) (v538_ok c arg1 harg1 arg2 harg2 arg3 harg3 arg4 harg4 arg5 harg5 arg6 harg6 arg7 harg7 arg8 harg8 arg10 arg17 H)
end
end Out
-- ==== Proof.Out.Cases.lean ====
/-
  What every grid point leaves: the derivatives of its 512 rows, and the running sums over the points so far.
-/
module

public import proofs.«01_k».proof.Proof.Out.Grads

@[expose] public section

set_option maxRecDepth 16384

noncomputable section

open scoped BigOperators
open Idealize.ShloMosaic Idealize.ShloMosaic.TcCoe Idealize.ShloMosaic.ValueIdx Cert.KernelIdeal Cert.KernelIdeal.Gen Cert.KernelIdeal.Value

namespace Out

/-- What a list of stores leaves, read back whole. -/
theorem R2.ofWritesf {sig κ sp} {m n : ℕ} {f : ℕ → ℕ → ℝ} {v : View sig κ sp (Sh m n) .f32} {L : List (View.Piece (Elt Ideal) (Sh m n) .f32)}
    (h : R2 (View.canon L) f) : R2 (v.read (Elt Ideal) (v.writes (Elt Ideal) v.junk L)) f := by
  rw [View.read_writes_junk_eq_canon]; exact h
theorem R2.ofWritesb {sig κ sp} {m n : ℕ} {f : ℕ → ℕ → ℝ} {v : View sig κ sp (Sh m n) .bf16} {L : List (View.Piece (Elt Ideal) (Sh m n) .bf16)}
    (h : R2 (View.canon L) f) : R2 (v.read (Elt Ideal) (v.writes (Elt Ideal) v.junk L)) f := by
  rw [View.read_writes_junk_eq_canon]; exact h

abbrev St : Type := Vec Ideal S1024x1024 .bf16 × Vec Ideal S512x1024 .f32 × Vec Ideal S512x512 .f32 × Vec Ideal S512x512 .f32 × Vec Ideal S512x512 .bf16 × Vec Ideal S1x128 .f32 × Vec Ideal S1x1024 .f32 × Vec Ideal S1x128 .f32 × Vec Ideal S1024x1024 .f32

/-- What the row derivatives are and the running sums hold. -/
structure StOk (a : Inp) (fl ff fg fS : ℕ → ℕ → ℝ) (s : St) : Prop where
  dh : R2 s.2.1 (dh a)
  dyp : R2 s.2.2.1 (dy a)
  dO : R2 s.2.2.2.1 (doA a)
  dz : R2 s.2.2.2.2.1 (dzA a)
  loss : R2 s.2.2.2.2.2.1 fl
  gfn : R2 s.2.2.2.2.2.2.1 ff
  gd : R2 s.2.2.2.2.2.2.2.1 fg
  acc : R2 s.2.2.2.2.2.2.2.2 fS

section
variable (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1x128 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S512x1024 .bf16) (harg17 : arg17.IsWhole) (arg18 : Memref sig .tc .vmem S1024x512 .bf16) (harg18 : arg18.IsWhole) (arg19 : Memref sig .tc .vmem S1024x1024 .f32) (harg19 : arg19.IsWhole)
variable {a : Inp} {x0 : Vec Ideal S512x1024 .f32} {x1 x2 x3 : Vec Ideal S512x512 .f32} {x4 : Vec Ideal S512x1024 .f32} {x5 : Vec Ideal S1024x1024 .bf16} {x6 : Vec Ideal S1x128 .f32} {x7 : Vec Ideal S1x1024 .f32}
variable (H : TileOk a x0 x1 x2 x3 x4 x5 x6 x7)
include H

section
variable (hc0 : ¬cond0_0 i) (hc1 : ¬cond0_1 i) {xo13 : Vec Ideal S1x128 .f32} {xo14 : Vec Ideal S1x1024 .f32} {xo15 : Vec Ideal S1x128 .f32} {xs2 : Vec Ideal S1024x1024 .f32} {fl ff fg fS : ℕ → ℕ → ℝ} (hl : R2 xo13 fl) (hf : R2 xo14 ff) (hg : R2 xo15 fg) (hS : R2 xs2 fS)
theorem out0_B_9_ok : R2 (out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (dh a) := by
  unfold out0_B_9
  rw [View.read_writes_junk_eq_canon]
  unfold kernelRun0_B
  dsimp only
  exact out9_ok c arg1 harg1 arg2 harg2 arg3 harg3 arg4 harg4 arg5 harg5 arg6 harg6 arg7 harg7 arg8 harg8 arg17 H
theorem out0_B_10_ok : R2 (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (dy a) := by
  unfold out0_B_10
  rw [View.read_writes_junk_eq_canon]
  unfold kernelRun0_B
  dsimp only
  exact dyp_all H (dy0 c arg1 harg1 arg2 harg2 arg3 harg3 arg4 harg4 arg5 harg5 arg6 harg6 arg7 harg7 arg8 harg8 arg17 H) (dy1 c arg1 harg1 arg2 harg2 arg3 harg3 arg4 harg4 arg5 harg5 arg6 harg6 arg7 harg7 arg8 harg8 arg17 H)
set_option maxHeartbeats 1000000 in
theorem out0_B_11_ok : R2 (out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (doA a) := by
  unfold out0_B_11
  rw [View.read_writes_junk_eq_canon]
  unfold kernelRun0_B
  dsimp only
  exact do_all c arg3 harg3 arg4 harg4 arg7 harg7 H (dy0 c arg1 harg1 arg2 harg2 arg3 harg3 arg4 harg4 arg5 harg5 arg6 harg6 arg7 harg7 arg8 harg8 arg17 H) (dy1 c arg1 harg1 arg2 harg2 arg3 harg3 arg4 harg4 arg5 harg5 arg6 harg6 arg7 harg7 arg8 harg8 arg17 H)
theorem out0_B_12_ok : R2 (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (dzA a) := by
  unfold out0_B_12
  rw [View.read_writes_junk_eq_canon]
  unfold kernelRun0_B
  dsimp only
  exact dz_all c arg3 harg3 arg4 harg4 arg7 harg7 H (dy0 c arg1 harg1 arg2 harg2 arg3 harg3 arg4 harg4 arg5 harg5 arg6 harg6 arg7 harg7 arg8 harg8 arg17 H) (dy1 c arg1 harg1 arg2 harg2 arg3 harg3 arg4 harg4 arg5 harg5 arg6 harg6 arg7 harg7 arg8 harg8 arg17 H)
include hl in
theorem out0_B_13_ok : R2 (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (fun i j => fl i j + lossT a i j) := by
  unfold out0_B_13
  rw [View.read_writes_junk_eq_canon]
  unfold kernelRun0_B
  dsimp only
  exact loss_all c arg1 harg1 arg2 harg2 arg3 harg3 arg4 harg4 arg5 harg5 arg6 harg6 arg7 harg7 arg8 harg8 arg17 H (hl.load00 arg14 harg14 inb_S1x128_S1x128_0_0) arg14.view _ _
include hf in
theorem out0_B_14_ok : R2 (out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (fun i j => ff i j + gfnT a i j) := by
  unfold out0_B_14
  rw [View.read_writes_junk_eq_canon]
  unfold kernelRun0_B
  dsimp only
  exact gfn_all c arg1 harg1 arg2 harg2 arg3 harg3 arg4 harg4 arg5 harg5 arg6 harg6 arg7 harg7 arg8 harg8 arg17 H (hf.load00 arg15 harg15 inb_S1x1024_S1x1024_0_0) arg15.view _ _
include hg in
theorem out0_B_15_ok : R2 (out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (fun i j => fg i j + gdnT a i j) := by
  unfold out0_B_15
  rw [View.read_writes_junk_eq_canon]
  unfold kernelRun0_B
  dsimp only
  exact gd_all c arg3 harg3 arg4 harg4 H (dy0 c arg1 harg1 arg2 harg2 arg3 harg3 arg4 harg4 arg5 harg5 arg6 harg6 arg7 harg7 arg8 harg8 arg17 H) (dy1 c arg1 harg1 arg2 harg2 arg3 harg3 arg4 harg4 arg5 harg5 arg6 harg6 arg7 harg7 arg8 harg8 arg17 H) (hg.load00 arg16 harg16 inb_S1x128_S1x128_0_0) arg16.view _ _
include hS in
theorem sout0_B_2_ok : R2 (sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (fun i j => fS i j + gwoT a i j) := by
  unfold sout0_B_2
  rw [View.read_writes_junk_eq_canon]
  unfold kernelRun0_B
  dsimp only
  exact (gwo_all c arg1 harg1 arg2 harg2 arg3 harg3 arg4 harg4 arg5 harg5 arg6 harg6 arg7 harg7 arg8 harg8 arg10 arg17 arg18 H (hS.load00 arg19 harg19 inb_S1024x1024_S1024x1024_0_0)).head _ inb_S1024x1024_S1024x1024_0_0
end

section
variable (hc0 : ¬cond0_0 i) (hc1 : cond0_1 i) {xo13 : Vec Ideal S1x128 .f32} {xo14 : Vec Ideal S1x1024 .f32} {xo15 : Vec Ideal S1x128 .f32} {xs2 : Vec Ideal S1024x1024 .f32} {fl ff fg fS : ℕ → ℕ → ℝ} (hl : R2 xo13 fl) (hf : R2 xo14 ff) (hg : R2 xo15 fg) (hS : R2 xs2 fS)
theorem out0_C_9_ok : R2 (out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (dh a) := by
  unfold out0_C_9
  rw [View.read_writes_junk_eq_canon]
  unfold kernelRun0_C
  dsimp only
  exact out9_ok c arg1 harg1 arg2 harg2 arg3 harg3 arg4 harg4 arg5 harg5 arg6 harg6 arg7 harg7 arg8 harg8 arg17 H
theorem out0_C_10_ok : R2 (out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (dy a) := by
  unfold out0_C_10
  rw [View.read_writes_junk_eq_canon]
  unfold kernelRun0_C
  dsimp only
  exact dyp_all H (dy0 c arg1 harg1 arg2 harg2 arg3 harg3 arg4 harg4 arg5 harg5 arg6 harg6 arg7 harg7 arg8 harg8 arg17 H) (dy1 c arg1 harg1 arg2 harg2 arg3 harg3 arg4 harg4 arg5 harg5 arg6 harg6 arg7 harg7 arg8 harg8 arg17 H)
set_option maxHeartbeats 1000000 in
theorem out0_C_11_ok : R2 (out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (doA a) := by
  unfold out0_C_11
  rw [View.read_writes_junk_eq_canon]
  unfold kernelRun0_C
  dsimp only
  exact do_all c arg3 harg3 arg4 harg4 arg7 harg7 H (dy0 c arg1 harg1 arg2 harg2 arg3 harg3 arg4 harg4 arg5 harg5 arg6 harg6 arg7 harg7 arg8 harg8 arg17 H) (dy1 c arg1 harg1 arg2 harg2 arg3 harg3 arg4 harg4 arg5 harg5 arg6 harg6 arg7 harg7 arg8 harg8 arg17 H)
theorem out0_C_12_ok : R2 (out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (dzA a) := by
  unfold out0_C_12
  rw [View.read_writes_junk_eq_canon]
  unfold kernelRun0_C
  dsimp only
  exact dz_all c arg3 harg3 arg4 harg4 arg7 harg7 H (dy0 c arg1 harg1 arg2 harg2 arg3 harg3 arg4 harg4 arg5 harg5 arg6 harg6 arg7 harg7 arg8 harg8 arg17 H) (dy1 c arg1 harg1 arg2 harg2 arg3 harg3 arg4 harg4 arg5 harg5 arg6 harg6 arg7 harg7 arg8 harg8 arg17 H)
include hl in
theorem out0_C_13_ok : R2 (out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (fun i j => fl i j + lossT a i j) := by
  unfold out0_C_13
  rw [View.read_writes_junk_eq_canon]
  unfold kernelRun0_C
  dsimp only
  exact loss_all c arg1 harg1 arg2 harg2 arg3 harg3 arg4 harg4 arg5 harg5 arg6 harg6 arg7 harg7 arg8 harg8 arg17 H (hl.load00 arg14 harg14 inb_S1x128_S1x128_0_0) arg14.view _ _
include hf in
theorem out0_C_14_ok : R2 (out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (fun i j => ff i j + gfnT a i j) := by
  unfold out0_C_14
  rw [View.read_writes_junk_eq_canon]
  unfold kernelRun0_C
  dsimp only
  exact gfn_all c arg1 harg1 arg2 harg2 arg3 harg3 arg4 harg4 arg5 harg5 arg6 harg6 arg7 harg7 arg8 harg8 arg17 H (hf.load00 arg15 harg15 inb_S1x1024_S1x1024_0_0) arg15.view _ _
include hg in
theorem out0_C_15_ok : R2 (out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (fun i j => fg i j + gdnT a i j) := by
  unfold out0_C_15
  rw [View.read_writes_junk_eq_canon]
  unfold kernelRun0_C
  dsimp only
  exact gd_all c arg3 harg3 arg4 harg4 H (dy0 c arg1 harg1 arg2 harg2 arg3 harg3 arg4 harg4 arg5 harg5 arg6 harg6 arg7 harg7 arg8 harg8 arg17 H) (dy1 c arg1 harg1 arg2 harg2 arg3 harg3 arg4 harg4 arg5 harg5 arg6 harg6 arg7 harg7 arg8 harg8 arg17 H) (hg.load00 arg16 harg16 inb_S1x128_S1x128_0_0) arg16.view _ _
include hS in
theorem sout0_C_2_ok : R2 (sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (fun i j => fS i j + gwoT a i j) := by
  unfold sout0_C_2
  rw [View.read_writes_junk_eq_canon]
  unfold kernelRun0_C
  dsimp only
  exact (gwo_all c arg1 harg1 arg2 harg2 arg3 harg3 arg4 harg4 arg5 harg5 arg6 harg6 arg7 harg7 arg8 harg8 arg10 arg17 arg18 H (hS.load00 arg19 harg19 inb_S1024x1024_S1024x1024_0_0)).head _ inb_S1024x1024_S1024x1024_0_0
include hS in
set_option maxHeartbeats 1000000 in
theorem out0_C_8_ok : R2 (out0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xo13 xo14 xo15 xs2) (fun i j => fS i j + gwoT a i j) := by
  unfold out0_C_8
  rw [View.read_writes_junk_eq_canon]
  unfold kernelRun0_C
  dsimp only
  exact ((R2.headCov (gwo_all c arg1 harg1 arg2 harg2 arg3 harg3 arg4 harg4 arg5 harg5 arg6 harg6 arg7 harg7 arg8 harg8 arg10 arg17 arg18 H (hS.load00 arg19 harg19 inb_S1024x1024_S1024x1024_0_0)) arg19.view _ inb_S1024x1024_S1024x1024_0_0 inb_S1024x1024_S1024x1024_0_0).trunc bits_lt).headb _ inb_S1024x1024_S1024x1024_0_0
end

section
variable (hc0 : cond0_0 i) (hc1 : ¬cond0_1 i)
theorem out0_A_9_ok : R2 (out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7) (dh a) := by
  unfold out0_A_9
  rw [View.read_writes_junk_eq_canon]
  unfold kernelRun0_A
  dsimp only
  exact out9_ok c arg1 harg1 arg2 harg2 arg3 harg3 arg4 harg4 arg5 harg5 arg6 harg6 arg7 harg7 arg8 harg8 arg17 H
theorem out0_A_10_ok : R2 (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7) (dy a) := by
  unfold out0_A_10
  rw [View.read_writes_junk_eq_canon]
  unfold kernelRun0_A
  dsimp only
  exact dyp_all H (dy0 c arg1 harg1 arg2 harg2 arg3 harg3 arg4 harg4 arg5 harg5 arg6 harg6 arg7 harg7 arg8 harg8 arg17 H) (dy1 c arg1 harg1 arg2 harg2 arg3 harg3 arg4 harg4 arg5 harg5 arg6 harg6 arg7 harg7 arg8 harg8 arg17 H)
set_option maxHeartbeats 1000000 in
theorem out0_A_11_ok : R2 (out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7) (doA a) := by
  unfold out0_A_11
  rw [View.read_writes_junk_eq_canon]
  unfold kernelRun0_A
  dsimp only
  exact do_all c arg3 harg3 arg4 harg4 arg7 harg7 H (dy0 c arg1 harg1 arg2 harg2 arg3 harg3 arg4 harg4 arg5 harg5 arg6 harg6 arg7 harg7 arg8 harg8 arg17 H) (dy1 c arg1 harg1 arg2 harg2 arg3 harg3 arg4 harg4 arg5 harg5 arg6 harg6 arg7 harg7 arg8 harg8 arg17 H)
theorem out0_A_12_ok : R2 (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7) (dzA a) := by
  unfold out0_A_12
  rw [View.read_writes_junk_eq_canon]
  unfold kernelRun0_A
  dsimp only
  exact dz_all c arg3 harg3 arg4 harg4 arg7 harg7 H (dy0 c arg1 harg1 arg2 harg2 arg3 harg3 arg4 harg4 arg5 harg5 arg6 harg6 arg7 harg7 arg8 harg8 arg17 H) (dy1 c arg1 harg1 arg2 harg2 arg3 harg3 arg4 harg4 arg5 harg5 arg6 harg6 arg7 harg7 arg8 harg8 arg17 H)
theorem out0_A_13_ok : R2 (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7) (fun i j => 0 + lossT a i j) := by
  unfold out0_A_13
  rw [View.read_writes_junk_eq_canon]
  unfold kernelRun0_A
  dsimp only
  exact loss_all c arg1 harg1 arg2 harg2 arg3 harg3 arg4 harg4 arg5 harg5 arg6 harg6 arg7 harg7 arg8 harg8 arg17 H (R2.headCov (R2.const lit_zero) arg14.view [] inb_S1x128_S1x128_0_0 inb_S1x128_S1x128_0_0) arg14.view _ _
theorem out0_A_14_ok : R2 (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7) (fun i j => 0 + gfnT a i j) := by
  unfold out0_A_14
  rw [View.read_writes_junk_eq_canon]
  unfold kernelRun0_A
  dsimp only
  exact gfn_all c arg1 harg1 arg2 harg2 arg3 harg3 arg4 harg4 arg5 harg5 arg6 harg6 arg7 harg7 arg8 harg8 arg17 H (R2.headCov (R2.const lit_zero) arg15.view [] inb_S1x1024_S1x1024_0_0 inb_S1x1024_S1x1024_0_0) arg15.view _ _
theorem out0_A_15_ok : R2 (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7) (fun i j => 0 + gdnT a i j) := by
  unfold out0_A_15
  rw [View.read_writes_junk_eq_canon]
  unfold kernelRun0_A
  dsimp only
  exact gd_all c arg3 harg3 arg4 harg4 H (dy0 c arg1 harg1 arg2 harg2 arg3 harg3 arg4 harg4 arg5 harg5 arg6 harg6 arg7 harg7 arg8 harg8 arg17 H) (dy1 c arg1 harg1 arg2 harg2 arg3 harg3 arg4 harg4 arg5 harg5 arg6 harg6 arg7 harg7 arg8 harg8 arg17 H) (R2.headCov (R2.const lit_zero) arg16.view [] inb_S1x128_S1x128_0_0 inb_S1x128_S1x128_0_0) arg16.view _ _
theorem sout0_A_2_ok : R2 (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7) (fun i j => 0 + gwoT a i j) := by
  unfold sout0_A_2
  rw [View.read_writes_junk_eq_canon]
  unfold kernelRun0_A
  dsimp only
  exact (gwo_all c arg1 harg1 arg2 harg2 arg3 harg3 arg4 harg4 arg5 harg5 arg6 harg6 arg7 harg7 arg8 harg8 arg10 arg17 arg18 H (R2.headCov ((R2.const lit_zero).cast_self shapeCasts_S1024x1024_S1024x1024) arg19.view [] inb_S1024x1024_S1024x1024_0_0 inb_S1024x1024_S1024x1024_0_0)).head _ inb_S1024x1024_S1024x1024_0_0
end
end
end Out
-- ==== Proof.Out.Blocks.lean ====
/-
  The blocks that a grid point reads, as parts of the launch arrays: point `t` reads rows `512 t …`, and the weights whole.
-/
module

public import proofs.«01_k».proof.Proof.Out.Cases

@[expose] public section

set_option maxRecDepth 16384

noncomputable section

open scoped BigOperators
open Idealize.ShloMosaic Idealize.ShloMosaic.TcCoe Idealize.ShloMosaic.ValueIdx Cert.KernelIdeal Cert.KernelIdeal.Gen

namespace Out

/-- The launch arrays hold the inputs `a`; the gate is columns `2560 … 3071` of the projection. -/
structure ArgsOk (m : (ℓ : Loc nD τ sig) → Buf (Elt Ideal) ℓ) (c : Dev nD) (a : Inp) : Prop where
  x : R2 (m := 4096) (n := 1024) (m ((c : Thread nD τ).loc main_arg0)) a.x
  yp : R2 (m := 4096) (n := 512) (m ((c : Thread nD τ).loc main_arg1)) a.yp
  o : R2 (m := 4096) (n := 512) (m ((c : Thread nD τ).loc main_arg2)) a.o
  pr : ∀ (i : Fin 4096) (j : Fin 512), m ((c : Thread nD τ).loc main_arg3) (ix2 i (⟨2560 + j.val, by omega⟩ : Fin 3200)) = ((a.z i.val j.val : ℝ) : EReal)
  tg : R2 (m := 4096) (n := 1024) (m ((c : Thread nD τ).loc main_arg4)) a.tg
  W : R2 (m := 1024) (n := 1024) (m ((c : Thread nD τ).loc main_arg5)) a.W
  nw : R2 (m := 1) (n := 128) (m ((c : Thread nD τ).loc main_arg6)) (nwT a)
  fw : R2 (m := 1) (n := 1024) (m ((c : Thread nD τ).loc main_arg7)) (fwT a)

section
variable (m : (ℓ : Loc nD τ sig) → Buf (Elt Ideal) ℓ) (c : Dev nD) (t : Fin cfg0.N)

theorem N8 : t.val < 8 := lt_of_lt_of_eq t.isLt N_0

theorem row_lt (i : Fin 512) : 512 * t.val + i.val < 4096 := by have := N8 t; omega

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 5 := by decide +kernel
theorem idx4 : ∀ t : Fin cfg0.N, win0_4.index t 0 = t.val ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel

theorem blk0 (i : Fin 512) (j : Fin 1024) :
    iblk m c 0 t (ix2 i j) = m ((c : Thread nD τ).loc main_arg0) (ix2 ⟨512 * t.val + i.val, row_lt t i⟩ j) := by
  blk_ext [iblk, V_main_arg0, idx0 t]
  show t.val * 512 + i.val = 512 * t.val + i.val
  omega
theorem blk1 (i : Fin 512) (j : Fin 512) :
    iblk m c 1 t (ix2 i j) = m ((c : Thread nD τ).loc main_arg1) (ix2 ⟨512 * t.val + i.val, row_lt t i⟩ j) := by
  blk_ext [iblk, V_main_arg1, idx1 t]
  show t.val * 512 + i.val = 512 * t.val + i.val
  omega
theorem blk2 (i : Fin 512) (j : Fin 512) :
    iblk m c 2 t (ix2 i j) = m ((c : Thread nD τ).loc main_arg2) (ix2 ⟨512 * t.val + i.val, row_lt t i⟩ j) := by
  blk_ext [iblk, V_main_arg2, idx2 t]
  show t.val * 512 + i.val = 512 * t.val + i.val
  omega
theorem blk3 (i j : Fin 512) :
    X0_3 m c t (ix2 i j) = m ((c : Thread nD τ).loc main_arg3) (ix2 ⟨512 * t.val + i.val, row_lt t i⟩ ⟨2560 + j.val, by omega⟩) := by
  unfold X0_3 Pipeline.Window.fill
  rw [dif_pos (moved0_3 t _)]
  blk_ext [iblk, V_main_arg3, idx3 t]
  show t.val * 512 + i.val = 512 * t.val + i.val
  omega
theorem blk4 (i : Fin 512) (j : Fin 1024) :
    iblk m c 4 t (ix2 i j) = m ((c : Thread nD τ).loc main_arg4) (ix2 ⟨512 * t.val + i.val, row_lt t i⟩ j) := by
  blk_ext [iblk, V_main_arg4, idx4 t]
  show t.val * 512 + i.val = 512 * t.val + i.val
  omega
/-- The weights, which the host narrows. -/
theorem blk5 (i j : Fin 1024) : iblk m c 5 t (ix2 i j) = m ((c : Thread nD τ).loc main_arg5) (ix2 i j) := by
  blk_ext [iblk, idx5 t]
theorem blk6 (i : Fin 1) (j : Fin 128) : iblk m c 6 t (ix2 i j) = m ((c : Thread nD τ).loc main_arg6) (ix2 i j) := by
  blk_ext [iblk, V_main_arg6, idx6 t]
theorem blk7 (i : Fin 1) (j : Fin 1024) : iblk m c 7 t (ix2 i j) = m ((c : Thread nD τ).loc main_arg7) (ix2 i j) := by
  blk_ext [iblk, V_main_arg7, idx7 t]

theorem tile_ok {a : Inp} (h : ArgsOk m c a) :
    TileOk (a.shift (512 * t.val)) (iblk m c 0 t) (iblk m c 1 t) (iblk m c 2 t) (X0_3 m c t) (iblk m c 4 t) (iblk m c 5 t) (iblk m c 6 t) (iblk m c 7 t) where
  x := fun i j => (blk0 m c t i j).trans (h.x _ _)
  yp := fun i j => (blk1 m c t i j).trans (h.yp _ _)
  o := fun i j => (blk2 m c t i j).trans (h.o _ _)
  z := fun i j => (blk3 m c t i j).trans (h.pr ⟨512 * t.val + i.val, row_lt t i⟩ j)
  tg := fun i j => (blk4 m c t i j).trans (h.tg _ _)
  W := fun i j => (blk5 m c t i j).trans (h.W _ _)
  nw := fun i j => (blk6 m c t i j).trans (h.nw _ _)
  fw := fun i j => (blk7 m c t i j).trans (h.fw _ _)
end
end Out
end
-- ==== Proof.Out.Steps.lean ====
/-
  The grid's eight points in order: the running sums after each, and what the last leaves.
-/
module

public import proofs.«01_k».proof.Proof.Out.Blocks

@[expose] public section

set_option maxRecDepth 16384

noncomputable section

open scoped BigOperators
open Idealize.ShloMosaic Idealize.ShloMosaic.TcCoe Idealize.ShloMosaic.ValueIdx Cert.KernelIdeal Cert.KernelIdeal.Gen Cert.KernelIdeal.Value

namespace Out

section
variable (m : (ℓ : Loc nD τ sig) → Buf (Elt Ideal) ℓ) (c : Dev nD) (t : Fin cfg0.N)
variable {a : Inp} (h : ArgsOk m c a)
include h

theorem stepA (acc : St) (h0 : t.val % 8 = 0) (h1 : ¬t.val % 8 = 7) :
    StOk (a.shift (512 * t.val)) (fun i j => 0 + lossT (a.shift (512 * t.val)) i j) (fun i j => 0 + gfnT (a.shift (512 * t.val)) i j)
      (fun i j => 0 + gdnT (a.shift (512 * t.val)) i j) (fun i j => 0 + gwoT (a.shift (512 * t.val)) i j) (stAt0 m c t.val t.isLt acc) := by
  rw [stAt0_A m c t acc h0 h1]
  have e9 := out0_A_9_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) ((hcond0_0 t).mpr h0) (fun e => h1 ((hcond0_1 t).mp e))
  have e10 := out0_A_10_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) ((hcond0_0 t).mpr h0) (fun e => h1 ((hcond0_1 t).mp e))
  have e11 := out0_A_11_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) ((hcond0_0 t).mpr h0) (fun e => h1 ((hcond0_1 t).mp e))
  have e12 := out0_A_12_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) ((hcond0_0 t).mpr h0) (fun e => h1 ((hcond0_1 t).mp e))
  have e13 := out0_A_13_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) ((hcond0_0 t).mpr h0) (fun e => h1 ((hcond0_1 t).mp e))
  have e14 := out0_A_14_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) ((hcond0_0 t).mpr h0) (fun e => h1 ((hcond0_1 t).mp e))
  have e15 := out0_A_15_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) ((hcond0_0 t).mpr h0) (fun e => h1 ((hcond0_1 t).mp e))
  have e16 := sout0_A_2_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) ((hcond0_0 t).mpr h0) (fun e => h1 ((hcond0_1 t).mp e))
  constructor <;> dsimp only
  · exact e9
  · exact e10
  · exact e11
  · exact e12
  · exact e13
  · exact e14
  · exact e15
  · exact e16
theorem stepB (acc : St) (h0 : ¬t.val % 8 = 0) (h1 : ¬t.val % 8 = 7) {fl ff fg fS : ℕ → ℕ → ℝ} {a0 : Inp} (P : StOk a0 fl ff fg fS acc) :
    StOk (a.shift (512 * t.val)) (fun i j => fl i j + lossT (a.shift (512 * t.val)) i j) (fun i j => ff i j + gfnT (a.shift (512 * t.val)) i j)
      (fun i j => fg i j + gdnT (a.shift (512 * t.val)) i j) (fun i j => fS i j + gwoT (a.shift (512 * t.val)) i j) (stAt0 m c t.val t.isLt acc) := by
  rw [stAt0_B m c t acc h0 h1]
  have e9 := out0_B_9_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) (fun e => h1 ((hcond0_1 t).mp e)) (xo13 := acc.2.2.2.2.2.1) (xo14 := acc.2.2.2.2.2.2.1) (xo15 := acc.2.2.2.2.2.2.2.1) (xs2 := acc.2.2.2.2.2.2.2.2)
  have e10 := out0_B_10_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) (fun e => h1 ((hcond0_1 t).mp e)) (xo13 := acc.2.2.2.2.2.1) (xo14 := acc.2.2.2.2.2.2.1) (xo15 := acc.2.2.2.2.2.2.2.1) (xs2 := acc.2.2.2.2.2.2.2.2)
  have e11 := out0_B_11_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) (fun e => h1 ((hcond0_1 t).mp e)) (xo13 := acc.2.2.2.2.2.1) (xo14 := acc.2.2.2.2.2.2.1) (xo15 := acc.2.2.2.2.2.2.2.1) (xs2 := acc.2.2.2.2.2.2.2.2)
  have e12 := out0_B_12_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) (fun e => h1 ((hcond0_1 t).mp e)) (xo13 := acc.2.2.2.2.2.1) (xo14 := acc.2.2.2.2.2.2.1) (xo15 := acc.2.2.2.2.2.2.2.1) (xs2 := acc.2.2.2.2.2.2.2.2)
  have e13 := out0_B_13_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) (fun e => h1 ((hcond0_1 t).mp e)) (xo13 := acc.2.2.2.2.2.1) (xo14 := acc.2.2.2.2.2.2.1) (xo15 := acc.2.2.2.2.2.2.2.1) (xs2 := acc.2.2.2.2.2.2.2.2) P.loss
  have e14 := out0_B_14_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) (fun e => h1 ((hcond0_1 t).mp e)) (xo13 := acc.2.2.2.2.2.1) (xo14 := acc.2.2.2.2.2.2.1) (xo15 := acc.2.2.2.2.2.2.2.1) (xs2 := acc.2.2.2.2.2.2.2.2) P.gfn
  have e15 := out0_B_15_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) (fun e => h1 ((hcond0_1 t).mp e)) (xo13 := acc.2.2.2.2.2.1) (xo14 := acc.2.2.2.2.2.2.1) (xo15 := acc.2.2.2.2.2.2.2.1) (xs2 := acc.2.2.2.2.2.2.2.2) P.gd
  have e16 := sout0_B_2_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) (fun e => h1 ((hcond0_1 t).mp e)) (xo13 := acc.2.2.2.2.2.1) (xo14 := acc.2.2.2.2.2.2.1) (xo15 := acc.2.2.2.2.2.2.2.1) (xs2 := acc.2.2.2.2.2.2.2.2) P.acc
  constructor <;> dsimp only
  · exact e9
  · exact e10
  · exact e11
  · exact e12
  · exact e13
  · exact e14
  · exact e15
  · exact e16
theorem stepC (acc : St) (h0 : ¬t.val % 8 = 0) (h1 : t.val % 8 = 7) {fl ff fg fS : ℕ → ℕ → ℝ} {a0 : Inp} (P : StOk a0 fl ff fg fS acc) :
    StOk (a.shift (512 * t.val)) (fun i j => fl i j + lossT (a.shift (512 * t.val)) i j) (fun i j => ff i j + gfnT (a.shift (512 * t.val)) i j)
      (fun i j => fg i j + gdnT (a.shift (512 * t.val)) i j) (fun i j => fS i j + gwoT (a.shift (512 * t.val)) i j) (stAt0 m c t.val t.isLt acc) := by
  rw [stAt0_C m c t acc h0 h1]
  have e9 := out0_C_9_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) ((hcond0_1 t).mpr h1) (xo13 := acc.2.2.2.2.2.1) (xo14 := acc.2.2.2.2.2.2.1) (xo15 := acc.2.2.2.2.2.2.2.1) (xs2 := acc.2.2.2.2.2.2.2.2)
  have e10 := out0_C_10_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) ((hcond0_1 t).mpr h1) (xo13 := acc.2.2.2.2.2.1) (xo14 := acc.2.2.2.2.2.2.1) (xo15 := acc.2.2.2.2.2.2.2.1) (xs2 := acc.2.2.2.2.2.2.2.2)
  have e11 := out0_C_11_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) ((hcond0_1 t).mpr h1) (xo13 := acc.2.2.2.2.2.1) (xo14 := acc.2.2.2.2.2.2.1) (xo15 := acc.2.2.2.2.2.2.2.1) (xs2 := acc.2.2.2.2.2.2.2.2)
  have e12 := out0_C_12_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) ((hcond0_1 t).mpr h1) (xo13 := acc.2.2.2.2.2.1) (xo14 := acc.2.2.2.2.2.2.1) (xo15 := acc.2.2.2.2.2.2.2.1) (xs2 := acc.2.2.2.2.2.2.2.2)
  have e13 := out0_C_13_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) ((hcond0_1 t).mpr h1) (xo13 := acc.2.2.2.2.2.1) (xo14 := acc.2.2.2.2.2.2.1) (xo15 := acc.2.2.2.2.2.2.2.1) (xs2 := acc.2.2.2.2.2.2.2.2) P.loss
  have e14 := out0_C_14_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) ((hcond0_1 t).mpr h1) (xo13 := acc.2.2.2.2.2.1) (xo14 := acc.2.2.2.2.2.2.1) (xo15 := acc.2.2.2.2.2.2.2.1) (xs2 := acc.2.2.2.2.2.2.2.2) P.gfn
  have e15 := out0_C_15_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) ((hcond0_1 t).mpr h1) (xo13 := acc.2.2.2.2.2.1) (xo14 := acc.2.2.2.2.2.2.1) (xo15 := acc.2.2.2.2.2.2.2.1) (xs2 := acc.2.2.2.2.2.2.2.2) P.gd
  have e16 := sout0_C_2_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) ((hcond0_1 t).mpr h1) (xo13 := acc.2.2.2.2.2.1) (xo14 := acc.2.2.2.2.2.2.1) (xo15 := acc.2.2.2.2.2.2.2.1) (xs2 := acc.2.2.2.2.2.2.2.2) P.acc
  constructor <;> dsimp only
  · exact e9
  · exact e10
  · exact e11
  · exact e12
  · exact e13
  · exact e14
  · exact e15
  · exact e16
/-- The last point narrows the weights' whole sum. -/
theorem lastC (acc : St) (h0 : ¬t.val % 8 = 0) (h1 : t.val % 8 = 7) {fl ff fg fS : ℕ → ℕ → ℝ} {a0 : Inp} (P : StOk a0 fl ff fg fS acc) :
    R2 (stAt0 m c t.val t.isLt acc).1 (fun i j => fS i j + gwoT (a.shift (512 * t.val)) i j) := by
  rw [stAt0_C m c t acc h0 h1]
  have e := out0_C_8_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (tile_ok m c t h) (fun e => h0 ((hcond0_0 t).mp e)) ((hcond0_1 t).mpr h1) (xo13 := acc.2.2.2.2.2.1) (xo14 := acc.2.2.2.2.2.2.1) (xo15 := acc.2.2.2.2.2.2.2.1) (xs2 := acc.2.2.2.2.2.2.2.2) P.acc
  dsimp only
  exact e
end
end Out
end
-- ==== Proof.Out.Fold.lean ====
/-
  The grid's sums over its eight tiles, and the arrays the kernel leaves: each of its results as a function of the inputs.
-/
module

public import proofs.«01_k».proof.Proof.Out.Steps

@[expose] public section

set_option maxRecDepth 16384

noncomputable section

open scoped BigOperators
open Idealize.ShloMosaic Idealize.ShloMosaic.TcCoe Idealize.ShloMosaic.ValueIdx Cert.KernelIdeal Cert.KernelIdeal.Gen Cert.KernelIdeal.Value

namespace Out

/-- A tile's part summed over the tiles up to `n`. -/
def upTo (a : Inp) (g : Inp → ℕ → ℕ → ℝ) (n i j : ℕ) : ℝ := ∑ k ∈ Finset.range (n + 1), g (a.shift (512 * k)) i j
theorem upTo_zero (a : Inp) (g) (i j : ℕ) : upTo a g 0 i j = 0 + g (a.shift (512 * 0)) i j := by
  rw [upTo, Finset.sum_range_one, zero_add]
theorem upTo_succ (a : Inp) (g) (n i j : ℕ) : upTo a g (n + 1) i j = upTo a g n i j + g (a.shift (512 * (n + 1))) i j := by
  rw [upTo, Finset.sum_range_succ, ← upTo]

/-- Rows summed tile by tile are the rows summed. -/
theorem sum_tiles (f : ℕ → ℝ) (n : ℕ) :
    ∑ k ∈ Finset.range n, ∑ s : Fin 512, f (512 * k + s.val) = ∑ s ∈ Finset.range (512 * n), f s := by
  induction n with
  | zero => simp
  | succ n ih => rw [Finset.sum_range_succ, ih, Nat.mul_succ, Finset.sum_range_add, Fin.sum_univ_eq_sum_range (fun s => f (512 * n + s)) 512]
theorem upTo_rows {a : Inp} {g : Inp → ℕ → ℕ → ℝ} {i j : ℕ} (f : ℕ → ℝ) (e : ∀ b, g (a.shift b) i j = ∑ s : Fin 512, f (b + s.val)) :
    upTo a g 7 i j = ∑ s : Fin 4096, f s.val := by
  rw [Fin.sum_univ_eq_sum_range f 4096, upTo]
  simp only [e]
  exact sum_tiles f 8

section
variable (m : (ℓ : Loc nD τ sig) → Buf (Elt Ideal) ℓ) (c : Dev nD)
variable {a : Inp} (h : ArgsOk m c a)
include h

/-- A point after the first adds its tile. -/
theorem step_succ (n k : ℕ) (hk : k < cfg0.N) (en : k = n + 1) (acc : St)
    (P : StOk (a.shift (512 * n)) (upTo a lossT n) (upTo a gfnT n) (upTo a gdnT n) (upTo a gwoT n) acc) :
    StOk (a.shift (512 * (n + 1))) (upTo a lossT (n + 1)) (upTo a gfnT (n + 1)) (upTo a gdnT (n + 1)) (upTo a gwoT (n + 1)) (stAt0 m c k hk acc) := by
  have h8 : k < 8 := lt_of_lt_of_eq hk N_0
  subst en
  have h0 : ¬(n + 1) % 8 = 0 := by omega
  have e : StOk (a.shift (512 * (n + 1))) (fun i j => upTo a lossT n i j + lossT (a.shift (512 * (n + 1))) i j)
      (fun i j => upTo a gfnT n i j + gfnT (a.shift (512 * (n + 1))) i j) (fun i j => upTo a gdnT n i j + gdnT (a.shift (512 * (n + 1))) i j)
      (fun i j => upTo a gwoT n i j + gwoT (a.shift (512 * (n + 1))) i j) (stAt0 m c (n + 1) hk acc) := by
    by_cases h1 : (n + 1) % 8 = 7
    · exact stepC m c ⟨n + 1, hk⟩ h acc h0 h1 P
    · exact stepB m c ⟨n + 1, hk⟩ h acc h0 h1 P
  exact ⟨e.dh, e.dyp, e.dO, e.dz, e.loss.congr fun i _ j _ => (upTo_succ a lossT n i j).symm, e.gfn.congr fun i _ j _ => (upTo_succ a gfnT n i j).symm,
    e.gd.congr fun i _ j _ => (upTo_succ a gdnT n i j).symm, e.acc.congr fun i _ j _ => (upTo_succ a gwoT n i j).symm⟩

/-- The state after each point. -/
theorem fold_ok : ∀ (n : ℕ) (hn : 0 + n < cfg0.N),
    StOk (a.shift (512 * n)) (upTo a lossT n) (upTo a gfnT n) (upTo a gdnT n) (upTo a gwoT n)
      (Pipeline.accAt (fun n h => stAt0 m c n h junk0) (stAt0 m c) 0 n hn)
  | 0, hn => by
    have e := stepA m c ⟨0, hn⟩ h junk0 rfl (fun e => absurd e (show ¬0 % 8 = 7 by decide))
    exact ⟨e.dh, e.dyp, e.dO, e.dz, e.loss.congr fun i _ j _ => (upTo_zero a lossT i j).symm, e.gfn.congr fun i _ j _ => (upTo_zero a gfnT i j).symm,
      e.gd.congr fun i _ j _ => (upTo_zero a gdnT i j).symm, e.acc.congr fun i _ j _ => (upTo_zero a gwoT i j).symm⟩
  | n + 1, hn => by
    rw [Pipeline.accAt_succ]
    exact step_succ m c h n _ hn (Nat.zero_add _) _ (fold_ok n (Nat.lt_of_succ_lt hn))

/-- The weights' gradient as the last point writes it. -/
theorem fold_last (k : ℕ) (hk : k < cfg0.N) (en : k = 6 + 1) (acc : St)
    (P : StOk (a.shift (512 * 6)) (upTo a lossT 6) (upTo a gfnT 6) (upTo a gdnT 6) (upTo a gwoT 6) acc) :
    R2 (stAt0 m c k hk acc).1 (upTo a gwoT 7) := by
  subst en
  have e := lastC m c ⟨6 + 1, hk⟩ h acc (show ¬(6 + 1) % 8 = 0 by decide) rfl P
  exact e.congr fun i _ j _ => (upTo_succ a gwoT 6 i j).symm

theorem out8 : R2 (m := 1024) (n := 1024) (G8 m c) (fun i j => ∑ s : Fin 4096, y a s.val i * dh a s.val j) := by
  rw [G8_last]
  have e := fold_last m c h (0 + (6 + 1)) (lt_of_lt_of_eq (by decide) N_0.symm) rfl _ (fold_ok m c h 6 (lt_of_lt_of_eq (by decide) N_0.symm))
  exact e.congr fun i _ j _ => upTo_rows (fun s => y a s i * dh a s j) fun _ => rfl
theorem out13 : R2 (m := 1) (n := 128) (G13 m c) (fun _ _ => 1 / 2 * ∑ s : Fin 4096, lr a s.val) := by
  rw [G13_last]
  have e := (fold_ok m c h 7 (lt_of_lt_of_eq (by decide) N_0.symm)).loss
  refine e.congr fun i _ j _ => (upTo_rows (fun s => 1 / 2 * lr a s) fun _ => ?_).trans (Finset.mul_sum _ _ _).symm
  exact Finset.mul_sum _ _ _
theorem out14 : R2 (m := 1) (n := 1024) (G14 m c) (fun _ j => ∑ s : Fin 4096, dt a s.val j * hh a s.val j) := by
  rw [G14_last]
  exact (fold_ok m c h 7 (lt_of_lt_of_eq (by decide) N_0.symm)).gfn.congr fun i _ j _ => upTo_rows (fun s => dt a s j * hh a s j) fun _ => rfl
theorem out15 : R2 (m := 1) (n := 128) (G15 m c) (fun _ j => ∑ s : Fin 4096, gdR a j s.val) := by
  rw [G15_last]
  exact (fold_ok m c h 7 (lt_of_lt_of_eq (by decide) N_0.symm)).gd.congr fun i _ j _ => upTo_rows (fun s => gdR a j s) fun _ => rfl

theorem out9 : R2 (m := 4096) (n := 1024) (G9 m c) (dh a) := fun i j => by
  have hp : pt9Of (ix2 i j) = i.val / 512 := by show 1 * (i.val / 512 - 0) + 1 * (j.val / 1024 - 0) = _; omega
  have hN : i.val / 512 < cfg0.N := lt_of_lt_of_eq (by omega) N_0.symm
  unfold G9
  rw [dif_pos (by rw [hp]; exact hN), fold0_congr m c _ _ _ (by rw [Nat.zero_add]; exact hN) hp]
  refine ((fold_ok m c h (i.val / 512) (by rw [Nat.zero_add]; exact hN)).dh.at _).trans ?_
  show ((dh a (512 * (i.val / 512) + i.val % 512) (j.val % 1024) : ℝ) : EReal) = _
  rw [Nat.div_add_mod, Nat.mod_eq_of_lt j.2]
theorem out10 : R2 (m := 4096) (n := 512) (G10 m c) (dy a) := fun i j => by
  have hp : pt10Of (ix2 i j) = i.val / 512 := by show 1 * (i.val / 512 - 0) + 1 * (j.val / 512 - 0) = _; omega
  have hN : i.val / 512 < cfg0.N := lt_of_lt_of_eq (by omega) N_0.symm
  unfold G10
  rw [dif_pos (by rw [hp]; exact hN), fold0_congr m c _ _ _ (by rw [Nat.zero_add]; exact hN) hp]
  refine ((fold_ok m c h (i.val / 512) (by rw [Nat.zero_add]; exact hN)).dyp.at _).trans ?_
  show ((dy a (512 * (i.val / 512) + i.val % 512) (j.val % 512) : ℝ) : EReal) = _
  rw [Nat.div_add_mod, Nat.mod_eq_of_lt j.2]
theorem out11 : R2 (m := 4096) (n := 512) (G11 m c) (doA a) := fun i j => by
  have hp : pt11Of (ix2 i j) = i.val / 512 := by show 1 * (i.val / 512 - 0) + 1 * (j.val / 512 - 0) = _; omega
  have hN : i.val / 512 < cfg0.N := lt_of_lt_of_eq (by omega) N_0.symm
  unfold G11
  rw [dif_pos (by rw [hp]; exact hN), fold0_congr m c _ _ _ (by rw [Nat.zero_add]; exact hN) hp]
  refine ((fold_ok m c h (i.val / 512) (by rw [Nat.zero_add]; exact hN)).dO.at _).trans ?_
  show ((doA a (512 * (i.val / 512) + i.val % 512) (j.val % 512) : ℝ) : EReal) = _
  rw [Nat.div_add_mod, Nat.mod_eq_of_lt j.2]
theorem out12 : R2 (m := 4096) (n := 512) (G12 m c) (dzA a) := fun i j => by
  have hp : pt12Of (ix2 i j) = i.val / 512 := by show 1 * (i.val / 512 - 0) + 1 * (j.val / 512 - 0) = _; omega
  have hN : i.val / 512 < cfg0.N := lt_of_lt_of_eq (by omega) N_0.symm
  unfold G12
  rw [dif_pos (by rw [hp]; exact hN), fold0_congr m c _ _ _ (by rw [Nat.zero_add]; exact hN) hp]
  refine ((fold_ok m c h (i.val / 512) (by rw [Nat.zero_add]; exact hN)).dz.at _).trans ?_
  show ((dzA a (512 * (i.val / 512) + i.val % 512) (j.val % 512) : ℝ) : EReal) = _
  rw [Nat.div_add_mod, Nat.mod_eq_of_lt j.2]
end
end Out
end
-- ==== Proof.Out.Ref.lean ====
/-
  The reference's loss and gradient, read one operation at a time: each array it computes is the spec's function of the inputs.
-/
module

public import proofs.«01_k».proof.Proof.Gen.ReferenceIdeal.Read
public import proofs.«01_k».proof.Proof.Out.Grads
public import Idealize.ShloMosaic.Lib.Pointwise.Reduce

@[expose] public section

set_option maxRecDepth 16384

noncomputable section

open scoped BigOperators
open Idealize.ShloMosaic Idealize.ShloMosaic.ValueIdx Cert.ReferenceIdeal Cert.ReferenceIdeal.Gen Cert.ReferenceIdeal.Read

namespace Out

/-- The ideal array `v` holds the reals `f`, index by index. -/
abbrev EqR {s : Shape} (v : s.Idx → EReal) (f : s.Idx → ℝ) : Prop := ∀ i, v i = ((f i : ℝ) : EReal)

theorem o_mul (a b : ℝ) : FloatOps.mulf (F := Ideal) (φ := .f32) (a : EReal) (b : EReal) = ((a * b : ℝ) : EReal) := (EReal.coe_mul a b).symm
theorem o_add (a b : ℝ) : FloatOps.addf (F := Ideal) (φ := .f32) (a : EReal) (b : EReal) = ((a + b : ℝ) : EReal) := (EReal.coe_add a b).symm
theorem o_sub (a b : ℝ) : FloatOps.subf (F := Ideal) (φ := .f32) (a : EReal) (b : EReal) = ((a - b : ℝ) : EReal) := (EReal.coe_sub a b).symm
theorem o_neg (a : ℝ) : FloatOps.hostNegf (F := Ideal) (φ := .f32) (a : EReal) = ((-a : ℝ) : EReal) := (EReal.coe_neg a).symm
theorem o_div (a b : ℝ) (hb : b ≠ 0) : FloatOps.hostDivf (F := Ideal) (φ := .f32) (a : EReal) (b : EReal) = ((a / b : ℝ) : EReal) := by
  show Ideal.div (a : EReal) (b : EReal) = _
  rw [Ideal.div, if_neg (by exact_mod_cast hb), ← EReal.coe_inv, ← EReal.coe_mul]; rfl
theorem o_rsqrt (a : ℝ) (h : 0 < a) : FloatOps.hostUnary (F := Ideal) (φ := .f32) .rsqrt (a : EReal) = (((√a)⁻¹ : ℝ) : EReal) := by
  show Ideal.rsqrt (a : EReal) = _
  rw [Ideal.rsqrt_coe, if_neg (not_lt.2 h.le), if_neg h.ne']
theorem o_exp (a : ℝ) : FloatOps.hostUnary (F := Ideal) (φ := .f32) .exp (a : EReal) = ((Real.exp a : ℝ) : EReal) := rfl
theorem o_sum {n : ℕ} (f : Fin n → ℝ) : ((0 : ℝ) : EReal) + ∑ k, (f k : EReal) = ((∑ k, f k : ℝ) : EReal) := by
  rw [EReal.coe_zero, zero_add, coe_sum]
theorem o_dot {n : ℕ} (f g : Fin n → ℝ) : ∑ k, (f k : EReal) * (g k : EReal) = ((∑ k, f k * g k : ℝ) : EReal) := by
  rw [coe_sum]; exact Finset.sum_congr rfl fun k _ => (EReal.coe_mul _ _).symm
theorem lit_neghalf : Ideal.ofBits .f32 0xBF000000#32 = ((-(1 / 2) : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

/-- A sum over the first two of three axes. -/
theorem sum_first_two {n0 n1 n2 : ℕ} (h : (⟨3, ![n0, n1, n2]⟩ : Shape).ReducesTo [0, 1] ⟨1, ![n2]⟩) (v : (⟨3, ![n0, n1, n2]⟩ : Shape).Idx → EReal) (init : EReal)
    (j : (⟨1, ![n2]⟩ : Shape).Idx) : Ideal.hostReduceAdd h v init j = init + ∑ a : Fin n0, ∑ b : Fin n1, v (ValueIdx.ix3 a b (j 0)) := by
  refine congrArg (init + ·) ?_
  refine (Finset.sum_filter_eq_sum_of_fiber (fun i => h.drop i = j) (fun k : Fin n0 × Fin n1 => ValueIdx.ix3 k.1 k.2 (j 0)) (fun _ _ e => Prod.ext (congrFun e 0) (congrFun e 1)) (fun i => ?_) v).trans ?_
  · constructor
    · intro e
      refine ⟨(i 0, i 1), ?_⟩
      have e0 : i 2 = j 0 := Fin.ext (congrArg Fin.val (congrFun e 0))
      rw [← e0]; exact (ValueIdx.eq_ix3 i).symm
    · rintro ⟨k, rfl⟩
      funext b
      match b with
      | ⟨0, _⟩ => rfl
  · simp only [Fintype.sum_prod_type]

/-- The derivative through a root-mean-square norm, the reference's three terms against the kernel's two. -/
theorem rms_back (v : ℝ) (hv : 0 < v) (d x S N : ℝ) (hN : N ≠ 0) :
    d * (√v)⁻¹ + x * (S * (-(1 / 2) * ((√v)⁻¹ / v)) / N) + S * (-(1 / 2) * ((√v)⁻¹ / v)) / N * x
      = (√v)⁻¹ * (d - x * (√v)⁻¹ * ((√v)⁻¹ * S / N)) := by
  have e : (√v)⁻¹ * (√v)⁻¹ = v⁻¹ := by rw [← mul_inv, Real.mul_self_sqrt hv.le]
  have : (√v)⁻¹ / v = (√v)⁻¹ * ((√v)⁻¹ * (√v)⁻¹) := by rw [e]; rfl
  rw [this]; field_simp; ring

/-- The two norms' means. -/
def vo (a : Inp) (s q : ℕ) : ℝ := (∑ j : Fin 128, a.o s (q + j.val) * a.o s (q + j.val)) / 128 + eps
def vh (a : Inp) (s : ℕ) : ℝ := (∑ d : Fin 1024, hv a s d.val * hv a s d.val) / 1024 + eps
theorem vo_pos (a : Inp) (s q : ℕ) : 0 < vo a s q :=
  add_pos_of_nonneg_of_pos (div_nonneg (Finset.sum_nonneg fun _ _ => mul_self_nonneg _) (by norm_num)) eps_pos
theorem vh_pos (a : Inp) (s : ℕ) : 0 < vh a s :=
  add_pos_of_nonneg_of_pos (div_nonneg (Finset.sum_nonneg fun _ _ => mul_self_nonneg _) (by norm_num)) eps_pos

namespace Ref

/-- The reference's arguments hold the inputs. -/
structure RefIn (x0 : (⟨S4096x1024, .f32⟩ : BufTy).Contents (Elt Ideal)) (x1 x2 : (⟨S4096x512, .f32⟩ : BufTy).Contents (Elt Ideal))
    (x3 : (⟨S4096x3200, .f32⟩ : BufTy).Contents (Elt Ideal)) (x4 : (⟨S4096x1024, .f32⟩ : BufTy).Contents (Elt Ideal))
    (x5 : (⟨S1024x1024, .f32⟩ : BufTy).Contents (Elt Ideal)) (x6 : (⟨S1x128, .f32⟩ : BufTy).Contents (Elt Ideal))
    (x7 : (⟨S1x1024, .f32⟩ : BufTy).Contents (Elt Ideal)) (a : Inp) : Prop where
  x : EqR x0 fun i => a.x (i 0).val (i 1).val
  yp : EqR x1 fun i => a.yp (i 0).val (i 1).val
  o : EqR x2 fun i => a.o (i 0).val (i 1).val
  pr : EqR (val_main_v0 (F := Ideal) x3) fun i => a.z (i 0).val (i 1).val
  tg : EqR x4 fun i => a.tg (i 0).val (i 1).val
  W : EqR x5 fun i => a.W (i 0).val (i 1).val
  nw : EqR x6 fun i => a.nw (i 1).val
  fw : EqR x7 fun i => a.fw (i 1).val

/-! The literals. -/
theorem c_zero : FloatOps.ofBits (F := Ideal) .f32 0x00000000#32 = (((0) : ℝ) : EReal) := lit_zero
theorem c_128 : FloatOps.ofBits (F := Ideal) .f32 0x43000000#32 = (((128) : ℝ) : EReal) := lit_128
theorem c_eps : FloatOps.ofBits (F := Ideal) .f32 0x358637BD#32 = (((eps) : ℝ) : EReal) := lit_eps
theorem c_neghalf : FloatOps.ofBits (F := Ideal) .f32 0xBF000000#32 = (((-(1 / 2)) : ℝ) : EReal) := lit_neghalf
theorem c_1024 : FloatOps.ofBits (F := Ideal) .f32 0x44800000#32 = (((1024) : ℝ) : EReal) := lit_1024
theorem c_two : FloatOps.ofBits (F := Ideal) .f32 0x40000000#32 = (((2) : ℝ) : EReal) := lit_two
theorem c_half : FloatOps.ofBits (F := Ideal) .f32 0x3F000000#32 = (((1 / 2) : ℝ) : EReal) := lit_half
theorem c_one : FloatOps.ofBits (F := Ideal) .f32 0x3F800000#32 = (((1) : ℝ) : EReal) := lit_one
theorem n128 : (128 : ℝ) ≠ 0 := by norm_num
theorem n1024 : (1024 : ℝ) ≠ 0 := by norm_num
theorem head_idx {p q r : ℕ} (hq : q < 4) (hr : r < 128) : ((p * 4 + q) * 128 + r) / 512 = p ∧ ((p * 4 + q) * 128 + r) % 512 = 128 * q + r := by omega
theorem one_idx {p q r : ℕ} (hq : q < 4) (hr : r < 1) : ((p * 4 + q) * 1 + r) / 4 = p ∧ ((p * 4 + q) * 1 + r) % 4 = q := by omega
theorem col_idx {p e : ℕ} (he : e < 512) : (p * 512 + e) / 512 = p ∧ (p * 512 + e) / 128 % 4 = e / 128 ∧ (p * 512 + e) % 128 = e % 128 := by omega

/-- The rows' indices. -/
def contrIdx4096 : Fin 4096 ≃ S4096.Idx where
  toFun k := ValueIdx.ix1 k
  invFun i := i 0
  left_inv _ := rfl
  right_inv i := funext fun b => by
    match b with
    | ⟨0, _⟩ => rfl

section
variable {x0 : (⟨S4096x1024, .f32⟩ : BufTy).Contents (Elt Ideal)} {x1 x2 : (⟨S4096x512, .f32⟩ : BufTy).Contents (Elt Ideal)}
  {x3 : (⟨S4096x3200, .f32⟩ : BufTy).Contents (Elt Ideal)} {x4 : (⟨S4096x1024, .f32⟩ : BufTy).Contents (Elt Ideal)}
  {x5 : (⟨S1024x1024, .f32⟩ : BufTy).Contents (Elt Ideal)} {x6 : (⟨S1x128, .f32⟩ : BufTy).Contents (Elt Ideal)} {x7 : (⟨S1x1024, .f32⟩ : BufTy).Contents (Elt Ideal)}
variable {a : Inp}
variable (h : RefIn x0 x1 x2 x3 x4 x5 x6 x7 a)
include h

theorem e1 : EqR (val_main_v1 (F := Ideal) x2) fun i => a.o (i 0).val (128 * (i 1).val + (i 2).val) := fun i => by
  rw [val_main_v1_apply, h.o]
  show ((a.o ((((i 0).val * 4 + (i 1).val) * 128 + (i 2).val) / 512) ((((i 0).val * 4 + (i 1).val) * 128 + (i 2).val) % 512) : ℝ) : EReal) = _
  rw [(head_idx (i 1).isLt (i 2).isLt).1, (head_idx (i 1).isLt (i 2).isLt).2]
theorem e8 : EqR (val_main_v8 (F := Ideal) x2) fun i => vo a (i 0).val (128 * (i 1).val) := fun i => by
  simp only [val_main_v8_apply, val_main_v6_apply, val_main_v4_apply, val_main_v3_apply, val_main_v2_apply, val_main_v5_apply, val_main_cst_apply, val_main_cst_0_apply, val_main_v7_apply, val_main_cst_1_apply, e1 h, c_zero, c_128, c_eps, o_mul, o_sum, o_div _ _ n128, o_add]
  rfl
theorem e9 : EqR (val_main_v9 (F := Ideal) x2) fun i => ro a (i 0).val (128 * (i 1).val) := fun i => by
  simp only [val_main_v9_apply, e8 h, o_rsqrt _ (vo_pos _ _ _)]
  rfl
theorem e12 : EqR (val_main_v12 (F := Ideal) x2) fun i => -(1 / 2) * (ro a (i 0).val (128 * (i 1).val) / vo a (i 0).val (128 * (i 1).val)) := fun i => by
  simp only [val_main_v12_apply, val_main_v11_apply, val_main_cst_2_apply, val_main_v10_apply, e8 h, e9 h, c_neghalf, o_div _ _ (vo_pos _ _ _).ne', o_mul]
theorem e14 : EqR (val_main_v14 (F := Ideal) x2) fun i => oh a (i 0).val (128 * (i 1).val) (i 2).val := fun i => by
  simp only [val_main_v14_apply, val_main_v13_apply, e1 h, e9 h, o_mul, oh]
theorem e15 : EqR (val_main_v15 (F := Ideal) x6) fun i => a.nw (i 2).val := fun i => by
  simp only [val_main_v15_apply, h.nw]
theorem e17 : EqR (val_main_v17 (F := Ideal) x2 x6) fun i => oh a (i 0).val (128 * (i 1).val) (i 2).val * a.nw (i 2).val := fun i => by
  simp only [val_main_v17_apply, val_main_v16_apply, e14 h, e15 h, o_mul]
theorem e18 : EqR (val_main_v18 (F := Ideal) x3) fun i => a.z (i 0).val (128 * (i 1).val + (i 2).val) := fun i => by
  rw [val_main_v18_apply, h.pr]
  show ((a.z ((((i 0).val * 4 + (i 1).val) * 128 + (i 2).val) / 512) ((((i 0).val * 4 + (i 1).val) * 128 + (i 2).val) % 512) : ℝ) : EReal) = _
  rw [(head_idx (i 1).isLt (i 2).isLt).1, (head_idx (i 1).isLt (i 2).isLt).2]
theorem e19s : EqR (val_main_v19_2 (F := Ideal) x3) fun i => sg (a.z (i 0).val (128 * (i 1).val + (i 2).val)) := fun i => by
  simp only [val_main_v19_2_apply, val_main_call0_v4_apply, val_main_call0_v3_apply, val_main_call0_v2_apply, val_main_call0_v1_apply, val_main_call0_v0_apply, val_main_call0_cst_apply, val_main_call0_cst_0_apply, e18 h, c_one, o_neg, o_exp, o_add]
  rw [o_div _ _ (by have := Real.exp_pos (-(a.z (i 0).val (128 * (i 1).val + (i 2).val))); positivity), one_div]; rfl
theorem e19d : EqR (val_main_v19_1 (F := Ideal) x3) fun i => sg (a.z (i 0).val (128 * (i 1).val + (i 2).val)) * (1 - sg (a.z (i 0).val (128 * (i 1).val + (i 2).val))) := fun i => by
  simp only [val_main_v19_1_apply, val_main_call0_v7_apply, val_main_call0_v6_apply, val_main_call0_cst_1_apply, e19s h, c_one, o_sub, o_mul]
theorem e19 : EqR (val_main_v19_0 (F := Ideal) x3) fun i => sl a (i 0).val (128 * (i 1).val + (i 2).val) := fun i => by
  simp only [val_main_v19_0_apply, e18 h, e19s h, o_mul]
  rfl
theorem e20 : EqR (val_main_v20 (F := Ideal) x2 x3 x6) fun i => yd a (i 0).val (128 * (i 1).val) (i 2).val := fun i => by
  simp only [val_main_v20_apply, e17 h, e19 h, o_mul]
  rfl
theorem e21 : EqR (val_main_v21 (F := Ideal) x2 x3 x6) fun i => yd a (i 0).val (128 * ((i 1).val / 128)) ((i 1).val % 128) := fun i => by
  rw [val_main_v21_apply, e20 h]
  show ((yd a (((i 0).val * 512 + (i 1).val) / 512) (128 * (((i 0).val * 512 + (i 1).val) / 128 % 4)) (((i 0).val * 512 + (i 1).val) % 128) : ℝ) : EReal) = _
  rw [(col_idx (i 1).isLt).1, (col_idx (i 1).isLt).2.1, (col_idx (i 1).isLt).2.2]
theorem e22 : EqR (val_main_v22 (F := Ideal) x1 x2 x3 x6) fun i => y a (i 0).val (i 1).val := fun i => by
  unfold val_main_v22 y
  dsimp only
  by_cases hc : (i 1).val < 512
  · rw [if_pos hc, concatenate_pair_apply_left (s₁ := S4096x512) (s₂ := S4096x512) (t := S4096x1024) 1 _ _ concatenates_S4096x512_S4096x512_S4096x1024_d1 i rfl (ValueIdx.ix2 (n0 := 4096) (n1 := 512) (i 0) ⟨(i 1).val, hc⟩) (fun b => by
      match b with
      | ⟨0, _⟩ => rfl
      | ⟨1, _⟩ => rfl), h.yp]
  · have h1 : (i 1).val < 1024 := (i 1).isLt
    rw [if_neg hc, concatenate_pair_apply_right (s₁ := S4096x512) (s₂ := S4096x512) (t := S4096x1024) 1 _ _ concatenates_S4096x512_S4096x512_S4096x1024_d1 i rfl rfl (ValueIdx.ix2 (n0 := 4096) (n1 := 512) (i 0) ⟨(i 1).val - 512, by omega⟩) (fun b hb => by
      match b with
      | ⟨0, _⟩ => rfl
      | ⟨1, _⟩ => exact absurd rfl hb) (by show (i 1).val - 512 + 512 = (i 1).val; omega), e21 h]
theorem e24 : EqR (val_main_v24 (F := Ideal) x0 x1 x2 x3 x5 x6) fun i => hv a (i 0).val (i 1).val := fun i => by
  simp only [val_main_v24_apply, val_main_v23_apply, h.x, e22 h, h.W, o_dot, o_add]
  rfl
theorem e31 : EqR (val_main_v31 (F := Ideal) x0 x1 x2 x3 x5 x6) fun i => vh a (i 0).val := fun i => by
  simp only [val_main_v31_apply, val_main_v29_apply, val_main_v27_apply, val_main_v26_apply, val_main_v25_apply, val_main_v28_apply, val_main_v30_apply, val_main_cst_3_apply, val_main_cst_4_apply, val_main_cst_5_apply, e24 h, c_zero, c_1024, c_eps, o_mul, o_sum, o_div _ _ n1024, o_add]
  rfl
theorem e32 : EqR (val_main_v32 (F := Ideal) x0 x1 x2 x3 x5 x6) fun i => r2 a (i 0).val := fun i => by
  simp only [val_main_v32_apply, e31 h, o_rsqrt _ (vh_pos _ _)]
  rfl
theorem e35 : EqR (val_main_v35 (F := Ideal) x0 x1 x2 x3 x5 x6) fun i => -(1 / 2) * (r2 a (i 0).val / vh a (i 0).val) := fun i => by
  simp only [val_main_v35_apply, val_main_v34_apply, val_main_cst_6_apply, val_main_v33_apply, e31 h, e32 h, c_neghalf, o_div _ _ (vh_pos _ _).ne', o_mul]
theorem e37 : EqR (val_main_v37 (F := Ideal) x0 x1 x2 x3 x5 x6) fun i => hh a (i 0).val (i 1).val := fun i => by
  simp only [val_main_v37_apply, val_main_v36_apply, e24 h, e32 h, o_mul]
  rfl
theorem e40 : EqR (val_main_v40 (F := Ideal) x0 x1 x2 x3 x4 x5 x6 x7) fun i => er a (i 0).val (i 1).val := fun i => by
  simp only [val_main_v40_apply, val_main_v39_apply, val_main_v38_apply, e37 h, h.fw, h.tg, o_mul, o_sub]
  rfl
theorem e46 : EqR (val_main_v46 (F := Ideal) x0 x1 x2 x3 x4 x5 x6 x7) fun i => lr a (i 0).val := fun i => by
  simp only [val_main_v46_apply, val_main_v45_apply, val_main_cst_9_apply, val_main_v44_apply, val_main_cst_8_apply, val_main_v41_apply, e40 h, c_zero, c_1024, o_mul, o_sum, o_div _ _ n1024]
  rw [lr, mul_one_div]
theorem e48 : EqR (val_main_v48 (F := Ideal) x0 x1 x2 x3 x4 x5 x6 x7) fun _ => 1 / 2 * ∑ s : Fin 4096, lr a s.val := fun i => by
  simp only [val_main_v48_apply, val_main_cst_11_apply, val_main_v47_apply, val_main_cst_10_apply, e46 h, c_zero, c_half]
  rw [← (Equiv.sum_comp (contrIdx4096) (fun j : S4096.Idx => ((lr a (j 0).val : ℝ) : EReal)))]
  rw [← o_mul, ← o_sum]; rfl
theorem e54 : EqR (val_main_v54 (F := Ideal) x0 x1 x2 x3 x4 x5 x6 x7) fun i => dt a (i 0).val (i 1).val := fun i => by
  simp only [val_main_v54_apply, val_main_v53_apply, val_main_v52_apply, val_main_v50_apply, val_main_v49_apply, val_main_cst_12_apply, val_main_cst_13_apply, val_main_v51_apply, val_main_cst_14_apply, val_main_v43_apply, val_main_v42_apply, val_main_cst_7_apply, e40 h, c_half, c_one, c_1024, c_two, o_mul, o_div _ _ n1024]
  rw [dt]; congr 1; ring
theorem e57 : EqR (val_main_v57 (F := Ideal) x0 x1 x2 x3 x4 x5 x6 x7) fun i => ∑ s : Fin 4096, dt a s.val (i 1).val * hh a s.val (i 1).val := fun i => by
  simp only [val_main_v57_apply, val_main_v56_apply, val_main_cst_15_apply, val_main_v55_apply, e37 h, e54 h, c_zero, o_mul, o_sum]
  have h0 : (i 0).val < 1 := (i 0).isLt
  have e : (i 0).val * 1024 + (i 1).val = (i 1).val := by omega
  rw [e]
  exact congrArg _ (Finset.sum_congr rfl fun _ _ => mul_comm _ _)
theorem e59 : EqR (val_main_v59 (F := Ideal) x0 x1 x2 x3 x4 x5 x6 x7) fun i => dn a (i 0).val (i 1).val := fun i => by
  simp only [val_main_v59_apply, val_main_v58_apply, e54 h, h.fw, o_mul, dn]
theorem e67 : EqR (val_main_v67 (F := Ideal) x0 x1 x2 x3 x4 x5 x6 x7) fun i => (∑ d : Fin 1024, hv a (i 0).val d.val * dn a (i 0).val d.val) * (-(1 / 2) * (r2 a (i 0).val / vh a (i 0).val)) / 1024 := fun i => by
  simp only [val_main_v67_apply, val_main_v66_apply, val_main_cst_17_apply, val_main_v65_apply, val_main_v62_apply, val_main_v61_apply, val_main_cst_16_apply, val_main_v60_apply, e24 h, e59 h, e35 h, c_zero, c_1024, o_mul, o_sum, o_div _ _ n1024]
  have h0 : (i 1).val < 1 := (i 1).isLt
  have e : (i 0).val * 1 + (i 1).val = (i 0).val := by omega
  rw [e]
theorem e69 : EqR (val_main_v69 (F := Ideal) x0 x1 x2 x3 x4 x5 x6 x7) fun i => (∑ d : Fin 1024, hv a (i 0).val d.val * dn a (i 0).val d.val) * (-(1 / 2) * (r2 a (i 0).val / vh a (i 0).val)) / 1024 := fun i => by
  simp only [val_main_v69_apply, val_main_v68_apply, val_main_cst_18_apply, e67 h, c_zero, EReal.coe_zero, zero_add, Finset.univ_unique, Finset.sum_singleton]
theorem e73 : EqR (val_main_v73 (F := Ideal) x0 x1 x2 x3 x4 x5 x6 x7) fun i => dh a (i 0).val (i 1).val := fun i => by
  simp only [val_main_v73_apply, val_main_v72_apply, val_main_v71_apply, val_main_v70_apply, val_main_v64_apply, val_main_v63_apply, e24 h, e59 h, e32 h, e69 h, o_mul, o_add]
  refine congrArg _ ((rms_back (vh a (i 0).val) (vh_pos _ _) (dn a (i 0).val (i 1).val) (hv a (i 0).val (i 1).val) (∑ d : Fin 1024, hv a (i 0).val d.val * dn a (i 0).val d.val) 1024 n1024).trans ?_)
  show r2 a (i 0).val * (dn a (i 0).val (i 1).val - hh a (i 0).val (i 1).val * (r2 a (i 0).val * (∑ d : Fin 1024, hv a (i 0).val d.val * dn a (i 0).val d.val) / 1024)) = r2 a (i 0).val * (dn a (i 0).val (i 1).val - hh a (i 0).val (i 1).val * m2 a (i 0).val)
  rw [m2, Finset.mul_sum]
  congr 4
  exact Finset.sum_congr rfl fun d _ => by rw [hh]; ring
theorem e75 : EqR (val_main_v75 (F := Ideal) x0 x1 x2 x3 x4 x5 x6 x7) fun i => ∑ s : Fin 4096, y a s.val (i 0).val * dh a s.val (i 1).val := fun i => by
  simp only [val_main_v75_apply, val_main_v74_apply, e73 h, e22 h, o_dot]
  exact congrArg _ (Finset.sum_congr rfl fun _ _ => mul_comm _ _)
theorem e76 : EqR (val_main_v76 (F := Ideal) x0 x1 x2 x3 x4 x5 x6 x7) fun i => dy a (i 0).val (i 1).val := fun i => by
  simp only [val_main_v76_apply, e73 h, h.W, o_dot]
  rfl
theorem e77 : EqR (val_main_v77 (F := Ideal) x0 x1 x2 x3 x4 x5 x6 x7) fun i => dy a (i 0).val (i 1).val := fun i => by
  simp only [val_main_v77_apply, e76 h]
theorem e79 : EqR (val_main_v79 (F := Ideal) x0 x1 x2 x3 x4 x5 x6 x7) fun i => dyd a (i 0).val (128 * (i 1).val) (i 2).val := fun i => by
  rw [val_main_v79_apply, val_main_v78_apply, e76 h]
  show ((dy a ((((i 0).val * 4 + (i 1).val) * 128 + (i 2).val) / 512) (512 + (((i 0).val * 4 + (i 1).val) * 128 + (i 2).val) % 512) : ℝ) : EReal) = _
  rw [(head_idx (i 1).isLt (i 2).isLt).1, (head_idx (i 1).isLt (i 2).isLt).2]; rfl
theorem e82 : EqR (val_main_v82 (F := Ideal) x0 x1 x2 x3 x4 x5 x6 x7) fun i => dz a (i 0).val (128 * (i 1).val) (i 2).val := fun i => by
  simp only [val_main_v82_apply, val_main_call1_v0_apply, val_main_call1_v1_apply, val_main_call1_v2_apply, val_main_v80_apply, e79 h, e17 h, e18 h, e19s h, e19d h, o_mul, o_add]
  rw [dz]; congr 1; ring
theorem e83 : EqR (val_main_v83 (F := Ideal) x0 x1 x2 x3 x4 x5 x6 x7) fun i => dzA a (i 0).val (i 1).val := fun i => by
  rw [val_main_v83_apply, e82 h]
  show ((dz a (((i 0).val * 512 + (i 1).val) / 512) (128 * (((i 0).val * 512 + (i 1).val) / 128 % 4)) (((i 0).val * 512 + (i 1).val) % 128) : ℝ) : EReal) = _
  rw [(col_idx (i 1).isLt).1, (col_idx (i 1).isLt).2.1, (col_idx (i 1).isLt).2.2]; rfl
theorem e81 : EqR (val_main_v81 (F := Ideal) x0 x1 x2 x3 x4 x5 x6 x7) fun i => dyd a (i 0).val (128 * (i 1).val) (i 2).val * sl a (i 0).val (128 * (i 1).val + (i 2).val) := fun i => by
  simp only [val_main_v81_apply, e79 h, e19 h, o_mul]
theorem e84 : EqR (val_main_v84 (F := Ideal) x0 x1 x2 x3 x4 x5 x6 x7) fun i => gd a (i 0).val (128 * (i 1).val) (i 2).val := fun i => by
  simp only [val_main_v84_apply, e14 h, e81 h, o_mul]
  rw [gd]; congr 1; ring
theorem e85 : EqR (val_main_v85 (F := Ideal) x0 x1 x2 x3 x4 x5 x6 x7) fun i => ∑ s : Fin 4096, gdR a (i 0).val s.val := fun i => by
  unfold val_main_v85
  simp only [Host.reduceAdd, Ideal.hostReduceAdd_def]
  rw [sum_first_two]
  simp only [val_main_cst_19_apply, e84 h, c_zero, ← coe_sum, ← EReal.coe_add, zero_add]
  refine congrArg _ (Finset.sum_congr rfl fun s _ => ?_)
  rw [Fin.sum_univ_four]; rfl
theorem e90 : EqR (val_main_v90 (F := Ideal) x0 x1 x2 x3 x4 x5 x6 x7) fun i => ∑ s : Fin 4096, gdR a (i 1).val s.val := fun i => by
  rw [val_main_v90_apply]
  unfold val_main_v89
  simp only [Host.reduceAdd, Ideal.hostReduceAdd_def]
  rw [sum_first_two]
  simp only [val_main_cst_20_apply, val_main_v86_apply, e85 h, c_zero, ← coe_sum, ← EReal.coe_add, zero_add, Finset.univ_unique, Finset.sum_singleton]
  show ((∑ s : Fin 4096, gdR a ((0 * 1 + 0) * 128 + (i 1).val) s.val : ℝ) : EReal) = _
  rw [show (0 * 1 + 0) * 128 + (i 1).val = (i 1).val by omega]
theorem e88 : EqR (val_main_v88 (F := Ideal) x0 x1 x2 x3 x4 x5 x6 x7) fun i => de a (i 0).val (128 * (i 1).val) (i 2).val := fun i => by
  simp only [val_main_v88_apply, val_main_v87_apply, e81 h, e15 h, o_mul]
  rw [de]; congr 1; ring
theorem e98 : EqR (val_main_v98 (F := Ideal) x0 x1 x2 x3 x4 x5 x6 x7) fun i => (∑ j : Fin 128, a.o (i 0).val (128 * (i 1).val + j.val) * de a (i 0).val (128 * (i 1).val) j.val) * (-(1 / 2) * (ro a (i 0).val (128 * (i 1).val) / vo a (i 0).val (128 * (i 1).val))) / 128 := fun i => by
  simp only [val_main_v98_apply, val_main_v97_apply, val_main_cst_22_apply, val_main_v96_apply, val_main_v93_apply, val_main_v92_apply, val_main_cst_21_apply, val_main_v91_apply, e1 h, e88 h, e12 h, c_zero, c_128, o_mul, o_sum, o_div _ _ n128]
  rw [(one_idx (i 1).isLt (i 2).isLt).1, (one_idx (i 1).isLt (i 2).isLt).2]
theorem e100 : EqR (val_main_v100 (F := Ideal) x0 x1 x2 x3 x4 x5 x6 x7) fun i => (∑ j : Fin 128, a.o (i 0).val (128 * (i 1).val + j.val) * de a (i 0).val (128 * (i 1).val) j.val) * (-(1 / 2) * (ro a (i 0).val (128 * (i 1).val) / vo a (i 0).val (128 * (i 1).val))) / 128 := fun i => by
  simp only [val_main_v100_apply, val_main_v99_apply, val_main_cst_23_apply, e98 h, c_zero, EReal.coe_zero, zero_add, Finset.univ_unique, Finset.sum_singleton]
theorem e104 : EqR (val_main_v104 (F := Ideal) x0 x1 x2 x3 x4 x5 x6 x7) fun i => dO a (i 0).val (128 * (i 1).val) (i 2).val := fun i => by
  simp only [val_main_v104_apply, val_main_v103_apply, val_main_v102_apply, val_main_v101_apply, val_main_v95_apply, val_main_v94_apply, e1 h, e88 h, e9 h, e100 h, o_mul, o_add]
  refine congrArg _ ((rms_back (vo a (i 0).val (128 * (i 1).val)) (vo_pos _ _ _) (de a (i 0).val (128 * (i 1).val) (i 2).val) (a.o (i 0).val (128 * (i 1).val + (i 2).val)) (∑ j : Fin 128, a.o (i 0).val (128 * (i 1).val + j.val) * de a (i 0).val (128 * (i 1).val) j.val) 128 n128).trans ?_)
  show ro a (i 0).val (128 * (i 1).val) * (de a (i 0).val (128 * (i 1).val) (i 2).val - oh a (i 0).val (128 * (i 1).val) (i 2).val * (ro a (i 0).val (128 * (i 1).val) * (∑ j : Fin 128, a.o (i 0).val (128 * (i 1).val + j.val) * de a (i 0).val (128 * (i 1).val) j.val) / 128)) = ro a (i 0).val (128 * (i 1).val) * (de a (i 0).val (128 * (i 1).val) (i 2).val - oh a (i 0).val (128 * (i 1).val) (i 2).val * mo a (i 0).val (128 * (i 1).val))
  rw [mo, Finset.mul_sum]
  congr 4
  exact Finset.sum_congr rfl fun d _ => by rw [oh]; ring
theorem e105 : EqR (val_main_v105 (F := Ideal) x0 x1 x2 x3 x4 x5 x6 x7) fun i => doA a (i 0).val (i 1).val := fun i => by
  rw [val_main_v105_apply, e104 h]
  show ((dO a (((i 0).val * 512 + (i 1).val) / 512) (128 * (((i 0).val * 512 + (i 1).val) / 128 % 4)) (((i 0).val * 512 + (i 1).val) % 128) : ℝ) : EReal) = _
  rw [(col_idx (i 1).isLt).1, (col_idx (i 1).isLt).2.1, (col_idx (i 1).isLt).2.2]; rfl
end
end Ref
end Out
end
-- ==== Proof.Out.Fin.lean ====
/-
  What the precondition says: every entry that the step reads is a real number.
-/
module

public import proofs.«01_k».proof.Proof.Out.Fold
public import proofs.«01_k».proof.Proof.Out.Ref
public import proofs.«01_k».proof.Proof.Gen.Pre_finite
public import proofs.«01_k».proof.Defs
public import Idealize.ShloMosaic.Lib.ReduceAll

@[expose] public section

set_option maxRecDepth 16384

noncomputable section

open Idealize.ShloMosaic

namespace Out

instance : Subsingleton Cert.Pre_finite.S_.Idx := ⟨fun _ _ => funext fun a => a.elim0⟩

/-- An entry whose absolute value is below `∞` is a real. -/
theorem real_of_abs (e : EReal) (h : Ideal.cmp .olt (max e (-e)) (Ideal.ofBits .f32 0x7F800000#32) = 1#1) : e = ((e.toReal : ℝ) : EReal) := by
  have ht : Ideal.ofBits .f32 0x7F800000#32 = (⊤ : EReal) := by simp [Ideal.ofBits, Ideal.ieee]
  rw [ht] at h
  have hl : max e (-e) < ⊤ := by
    by_contra hc
    simp [Ideal.cmp, hc] at h
  refine (EReal.coe_toReal (fun hc => ?_) (fun hc => ?_)).symm
  · subst hc; simp at hl
  · subst hc; simp at hl

section
variable {s : Shape} (x : FVec Ideal s .f32) (hb : Cert.Pre_finite.S_.BroadcastsInDim s (![] : Fin 0 → Fin s.rank))
  {axes : List (Fin s.rank)} (hr : s.ReducesTo axes Cert.Pre_finite.S_) (hS : 0 < Cert.Pre_finite.S_.numel)

/-- The conjunction over the array. -/
def allFin : IVec Cert.Pre_finite.S_ 1 :=
  Host.reduce IntOp.andi (cmpf .olt (Host.absf x) (broadcastInDim s ![] hb (constant Cert.Pre_finite.S_ .f32 0x7F800000#32))) (constantI Cert.Pre_finite.S_ 1 1#1) hr hS

theorem real_of_all (j : Cert.Pre_finite.S_.Idx) (h : allFin x hb hr hS j = 1#1) (i : s.Idx) : x i = (((x i : EReal).toReal : ℝ) : EReal) :=
  real_of_abs _ (Host.reduce_andi_all _ _ hr hS j h i)
end

open Cert.Pre_finite Cert.Pre_finite.Facts in
theorem reals {x0 : FVec Ideal S4096x1024 .f32} {x1 x2 : FVec Ideal S4096x512 .f32} {x3 : FVec Ideal S4096x3200 .f32} {x4 : FVec Ideal S4096x1024 .f32}
    {x5 : FVec Ideal S1024x1024 .f32} {x6 : FVec Ideal S1x128 .f32} {x7 : FVec Ideal S1x1024 .f32} (h : fn (F := Ideal) x0 x1 x2 x3 x4 x5 x6 x7 = fun _ => 1#1) :
    (∀ i, x0 i = (((x0 i : EReal).toReal : ℝ) : EReal)) ∧ (∀ i, x1 i = (((x1 i : EReal).toReal : ℝ) : EReal)) ∧ (∀ i, x2 i = (((x2 i : EReal).toReal : ℝ) : EReal))
    ∧ (∀ i, extractStridedSlice S4096x512 ![0, 2560] x3 slices_S4096x3200_S4096x512_0_2560 i = (((extractStridedSlice S4096x512 ![0, 2560] x3 slices_S4096x3200_S4096x512_0_2560 i : EReal).toReal : ℝ) : EReal))
    ∧ (∀ i, x4 i = (((x4 i : EReal).toReal : ℝ) : EReal)) ∧ (∀ i, x5 i = (((x5 i : EReal).toReal : ℝ) : EReal)) ∧ (∀ i, x6 i = (((x6 i : EReal).toReal : ℝ) : EReal))
    ∧ (∀ i, x7 i = (((x7 i : EReal).toReal : ℝ) : EReal)) := by
  have e : IntOp.andi (IntOp.andi (IntOp.andi (IntOp.andi (IntOp.andi (IntOp.andi (IntOp.andi
      (allFin x0 bcast_S_S4096x1024 reducesTo_S4096x1024_S_d0_1 h_S_ (fun a => a.elim0)) (allFin x1 bcast_S_S4096x512 reducesTo_S4096x512_S_d0_1 h_S_ (fun a => a.elim0)))
      (allFin x2 bcast_S_S4096x512 reducesTo_S4096x512_S_d0_1 h_S_ (fun a => a.elim0)))
      (allFin (extractStridedSlice S4096x512 ![0, 2560] x3 slices_S4096x3200_S4096x512_0_2560) bcast_S_S4096x512 reducesTo_S4096x512_S_d0_1 h_S_ (fun a => a.elim0)))
      (allFin x4 bcast_S_S4096x1024 reducesTo_S4096x1024_S_d0_1 h_S_ (fun a => a.elim0))) (allFin x5 bcast_S_S1024x1024 reducesTo_S1024x1024_S_d0_1 h_S_ (fun a => a.elim0)))
      (allFin x6 bcast_S_S1x128 reducesTo_S1x128_S_d0_1 h_S_ (fun a => a.elim0))) (allFin x7 bcast_S_S1x1024 reducesTo_S1x1024_S_d0_1 h_S_ (fun a => a.elim0)) = 1#1 :=
    congrFun h (fun a => a.elim0)
  clear h
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨real_of_all _ _ _ _ _ h0, real_of_all _ _ _ _ _ h1, real_of_all _ _ _ _ _ h2, real_of_all _ _ _ _ _ h3, real_of_all _ _ _ _ _ h4, real_of_all _ _ _ _ _ h5,
    real_of_all _ _ _ _ _ h6, real_of_all _ _ _ _ _ h7⟩

end Out

end
-- ==== Proof.Out.Main.lean ====
/-
  The two programs from finite arguments: each result of the kernel is the reference's, entry by entry.
-/
module

public import proofs.«01_k».proof.Proof.Out.Fin
public import proofs.«01_k».proof.Proof.Gen.KernelIdeal.Value
public import proofs.«01_k».proof.Proof.Gen.ReferenceIdeal.Run
public import proofs.«01_k».proof.Proof.Gen.ReferenceIdeal.Read

@[expose] public section

set_option maxRecDepth 16384

noncomputable section

open Idealize.ShloMosaic Idealize.SL.Sem

namespace Out

/-- The real at an index of natural numbers, zero outside the array. -/
def realAt {m n : ℕ} (v : (Sh m n).Idx → EReal) (i j : ℕ) : ℝ :=
  if h : i < m ∧ j < n then (v (ValueIdx.ix2 ⟨i, h.1⟩ ⟨j, h.2⟩)).toReal else 0

theorem realAt_eq {m n : ℕ} (v : (Sh m n).Idx → EReal) (i : Fin m) (j : Fin n) : realAt v i.val j.val = (v (ValueIdx.ix2 i j)).toReal :=
  dif_pos ⟨i.2, j.2⟩

theorem R2_realAt {m n : ℕ} (v : (Sh m n).Idx → EReal) (h : ∀ i, v i = (((v i).toReal : ℝ) : EReal)) : R2 v (realAt v) := fun i j =>
  (h _).trans (congrArg _ (realAt_eq v i j).symm)

/-- Two arrays with the same reals are one. -/
theorem R2.same {m n : ℕ} {v w : (Sh m n).Idx → EReal} {f : ℕ → ℕ → ℝ} (h : R2 v f) (e : ∀ i, w i = ((f (i 0).val (i 1).val : ℝ) : EReal)) : w = v :=
  funext fun i => (e i).trans (h.at i).symm

/-- The inputs of the arrays. -/
def inpOf (x0 : (Sh 4096 1024).Idx → EReal) (x1 x2 x3' : (Sh 4096 512).Idx → EReal) (x4 : (Sh 4096 1024).Idx → EReal) (x5 : (Sh 1024 1024).Idx → EReal)
    (x6 : (Sh 1 128).Idx → EReal) (x7 : (Sh 1 1024).Idx → EReal) : Inp where
  x := realAt x0
  yp := realAt x1
  o := realAt x2
  z := realAt x3'
  tg := realAt x4
  W := realAt x5
  nw := fun j => realAt x6 0 j
  fw := fun j => realAt x7 0 j

/-- Both programs hold the inputs. -/
theorem holds (m : (ℓ : Loc Cert.KernelIdeal.nD Cert.KernelIdeal.τ Cert.KernelIdeal.sig) → Buf (Elt Ideal) ℓ) (c : Dev Cert.KernelIdeal.nD)
    (h : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1) :
    ∃ a : Inp, ArgsOk m c a ∧ Ref.RefIn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) a := by
  obtain ⟨h0, h1, h2, h3, h4, h5, h6, h7⟩ := reals h
  have r0 := R2_realAt (m := 4096) (n := 1024) _ h0
  have r1 := R2_realAt (m := 4096) (n := 512) _ h1
  have r2 := R2_realAt (m := 4096) (n := 512) _ h2
  have r3 := R2_realAt (m := 4096) (n := 512) _ h3
  have r4 := R2_realAt (m := 4096) (n := 1024) _ h4
  have r5 := R2_realAt (m := 1024) (n := 1024) _ h5
  have r6 := R2_realAt (m := 1) (n := 128) _ h6
  have r7 := R2_realAt (m := 1) (n := 1024) _ h7
  refine ⟨inpOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (extractStridedSlice Cert.Pre_finite.S4096x512 ![0, 2560] (m ((c.tc : Thread Cert.KernelIdeal.nD Cert.KernelIdeal.τ).loc Cert.KernelIdeal.main_arg3)) Cert.Pre_finite.Facts.slices_S4096x3200_S4096x512_0_2560)
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ⟨r0, r1, r2, fun i j => ?_, r4, r5, fun i j => ?_, fun i j => ?_⟩, ⟨r0.at, r1.at, r2.at, fun i => ?_, r4.at, r5.at, fun i => ?_, fun i => ?_⟩⟩
  · have e := r3 i j
    refine (congrArg _ (?_ : _ = _)).trans e
    exact funext fun d => by fin_cases d <;> (apply Fin.ext; simp)
  · exact (r6 i j).trans (by rw [Subsingleton.elim i 0]; rfl)
  · exact (r7 i j).trans (by rw [Subsingleton.elim i 0]; rfl)
  · exact r3.at i
  · exact (r6.at i).trans (by rw [show (i 0).val = 0 from Nat.lt_one_iff.1 (i 0).isLt]; rfl)
  · exact (r7.at i).trans (by rw [show (i 0).val = 0 from Nat.lt_one_iff.1 (i 0).isLt]; rfl)

section
open Cert.ReferenceIdeal Cert.ReferenceIdeal.Read Cert.KernelIdeal.Value
variable (m : (ℓ : Loc Cert.KernelIdeal.nD Cert.KernelIdeal.τ Cert.KernelIdeal.sig) → Buf (Elt Ideal) ℓ) (c : Dev Cert.KernelIdeal.nD) {a : Inp} (h : ArgsOk m c a)
  {x0 : (⟨S4096x1024, .f32⟩ : BufTy).Contents (Elt Ideal)} {x1 x2 : (⟨S4096x512, .f32⟩ : BufTy).Contents (Elt Ideal)}
  {x3 : (⟨S4096x3200, .f32⟩ : BufTy).Contents (Elt Ideal)} {x4 : (⟨S4096x1024, .f32⟩ : BufTy).Contents (Elt Ideal)}
  {x5 : (⟨S1024x1024, .f32⟩ : BufTy).Contents (Elt Ideal)} {x6 : (⟨S1x128, .f32⟩ : BufTy).Contents (Elt Ideal)} {x7 : (⟨S1x1024, .f32⟩ : BufTy).Contents (Elt Ideal)}
  (r : Ref.RefIn x0 x1 x2 x3 x4 x5 x6 x7 a)
include h r

theorem same8 : val_main_v106 (F := Ideal) x0 x1 x2 x3 x4 x5 x6 x7 = G8 m c := R2.same (out8 m c h) (fun i => (val_main_v106_apply x0 x1 x2 x3 x4 x5 x6 x7 i).trans (Ref.e75 r _))
theorem same9 : val_main_v73 (F := Ideal) x0 x1 x2 x3 x4 x5 x6 x7 = G9 m c := R2.same (out9 m c h) (fun i => Ref.e73 r i)
theorem same10 : val_main_v77 (F := Ideal) x0 x1 x2 x3 x4 x5 x6 x7 = G10 m c := R2.same (out10 m c h) (fun i => Ref.e77 r i)
theorem same11 : val_main_v105 (F := Ideal) x0 x1 x2 x3 x4 x5 x6 x7 = G11 m c := R2.same (out11 m c h) (fun i => Ref.e105 r i)
theorem same12 : val_main_v107 (F := Ideal) x0 x1 x2 x3 x4 x5 x6 x7 = G12 m c := R2.same (out12 m c h) (fun i => (val_main_v107_apply x0 x1 x2 x3 x4 x5 x6 x7 i).trans (Ref.e83 r _))
theorem same13 : val_main_v108 (F := Ideal) x0 x1 x2 x3 x4 x5 x6 x7 = G13 m c := R2.same (out13 m c h) (fun i => (val_main_v108_apply x0 x1 x2 x3 x4 x5 x6 x7 i).trans (Ref.e48 r _))
theorem same14 : val_main_v57 (F := Ideal) x0 x1 x2 x3 x4 x5 x6 x7 = G14 m c := R2.same (out14 m c h) (fun i => Ref.e57 r i)
theorem same15 : val_main_v90 (F := Ideal) x0 x1 x2 x3 x4 x5 x6 x7 = G15 m c := R2.same (out15 m c h) (fun i => Ref.e90 r i)
end

/-- The frame of the reference: its arguments end unchanged, and it declares no semaphore. -/
theorem frameR : Cert.quiescent_ReferenceIdeal (hReferenceIdeal := Cert.ReferenceIdeal.Gen.facts) := fun m g _ =>
  (θ_run Cert.ReferenceIdeal.defs _ _).mono (fun r h => ⟨fun c => (h c).2.2.2.2.2.2.2.2, sem_eq_zero_of_no_sems (by decide) r.2⟩)
    (Cert.ReferenceIdeal.Value.run (F := Ideal) m g)

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hm
  refine ⟨fun c => Cert.KernelIdeal.Value.G8 m c, fun c => Cert.KernelIdeal.Value.G9 m c, fun c => Cert.KernelIdeal.Value.G10 m c, fun c => Cert.KernelIdeal.Value.G11 m c,
    fun c => Cert.KernelIdeal.Value.G12 m c, fun c => Cert.KernelIdeal.Value.G13 m c, fun c => Cert.KernelIdeal.Value.G14 m c, fun c => Cert.KernelIdeal.Value.G15 m c,
    Cert.KernelIdeal.Value.run m g, (θ_run Cert.ReferenceIdeal.defs _ _).mono (fun _ h c => ?_) (Cert.ReferenceIdeal.Value.run (F := Ideal) m' g')⟩
  obtain ⟨q0, q1, q2, q3, q4, q5, q6, q7, qa⟩ := h c
  obtain ⟨a, ha, hr⟩ := holds m c (hp c)
  obtain ⟨e0, e1, e2, e3, e4, e5, e6, e7⟩ := hm c
  rw [← e0, ← e1, ← e2, ← e3, ← e4, ← e5, ← e6, ← e7] at hr
  have p0 := Cert.ReferenceIdeal.Read.val_main_v106_eq (F := Ideal) (StableHlo.launchContents m' c)
  have p1 := Cert.ReferenceIdeal.Read.val_main_v73_eq (F := Ideal) (StableHlo.launchContents m' c)
  have p2 := Cert.ReferenceIdeal.Read.val_main_v77_eq (F := Ideal) (StableHlo.launchContents m' c)
  have p3 := Cert.ReferenceIdeal.Read.val_main_v105_eq (F := Ideal) (StableHlo.launchContents m' c)
  have p4 := Cert.ReferenceIdeal.Read.val_main_v107_eq (F := Ideal) (StableHlo.launchContents m' c)
  have p5 := Cert.ReferenceIdeal.Read.val_main_v108_eq (F := Ideal) (StableHlo.launchContents m' c)
  have p6 := Cert.ReferenceIdeal.Read.val_main_v57_eq (F := Ideal) (StableHlo.launchContents m' c)
  have p7 := Cert.ReferenceIdeal.Read.val_main_v90_eq (F := Ideal) (StableHlo.launchContents m' c)
  exact ⟨q0.trans (p0.trans (same8 m c ha hr)), q1.trans (p1.trans (same9 m c ha hr)), q2.trans (p2.trans (same10 m c ha hr)), q3.trans (p3.trans (same11 m c ha hr)),
    q4.trans (p4.trans (same12 m c ha hr)), q5.trans (p5.trans (same13 m c ha hr)), q6.trans (p6.trans (same14 m c ha hr)), q7.trans (p7.trans (same15 m c ha hr)), qa⟩

end Out

end
-- ==== Proof.Win.El.lean ====
/-
  Blocks of extended reals by row and column, and what a list of stores of 512 columns each leaves.
-/
module

public import Idealize.ShloMosaic.Lib.ValueIdx
public import Idealize.ShloMosaic.Lib.Pipeline.Value
public import Idealize.ShloMosaic.Lib.Pipeline.ValueKit.Geometry
public import Idealize.ShloMosaic.Lib.KernelVsHost
public import Idealize.ShloMosaic.PureOps.Ideal.Laws
public import proofs.«01_k».proof.Proof.Gen.Kernel2Ideal.Value

@[expose] public section

set_option maxRecDepth 16384

noncomputable section

open scoped BigOperators
open Idealize.ShloMosaic Idealize.ShloMosaic.ValueIdx Cert.Kernel2Ideal Cert.Kernel2Ideal.Gen

namespace Win

/-- A block of `m` rows and `n` columns. -/
abbrev Sh (m n : ℕ) : Shape := ⟨2, ![m, n]⟩

/-- The block `v` holds `f i j` at row `i`, column `j`. -/
def E2 {m n : ℕ} (v : (Sh m n).Idx → EReal) (f : ℕ → ℕ → EReal) : Prop := ∀ (i : Fin m) (j : Fin n), v (ix2 i j) = f i.val j.val

section
variable {m n : ℕ} {v w : (Sh m n).Idx → EReal} {f g : ℕ → ℕ → EReal}

theorem E2.congr (h : E2 v f) (e : ∀ i < m, ∀ j < n, f i j = g i j) : E2 v g := fun i j => by
  rw [h i j, e _ i.2 _ j.2]
theorem E2.at (h : E2 v f) (i : (Sh m n).Idx) : v i = f (i 0).val (i 1).val := by
  rw [eq_ix2 i]; exact h _ _
theorem E2.slice {m' n' p q : ℕ} (h : E2 v f) (hs : (Sh m n).Slices ![p, q] (Sh m' n')) :
    E2 (extractStridedSlice (Sh m' n') ![p, q] v hs) (fun i j => f (p + i) (q + j)) := fun i j => by
  have h0 : p + m' ≤ m := hs.2 0
  have h1 : q + n' ≤ n := hs.2 1
  rw [extractStridedSlice_apply _ _ hs (ix2 i j) (ix2 ⟨p + i.val, by omega⟩ ⟨q + j.val, by omega⟩)
    (fun a => by match a with | ⟨0, _⟩ => rfl | ⟨1, _⟩ => rfl)]
  exact h _ _
end

/-- A whole buffer read through columns of it. -/
theorem E2.load {sig κ sp} {m n n' q : ℕ} {v : (Sh m n).Idx → EReal} {f : ℕ → ℕ → EReal} (h : E2 v f)
    (a : Memref sig κ sp (Sh m n) .f32) (ha : a.IsWhole)
    (inb : ∀ a, (![0, q] : Fin 2 → ℕ) a + (Sh m n').size a ≤ (Sh m n).size a) :
    E2 (m := m) (n := n') (View.readAt (Elt Ideal) a.view (Rect.unit (s := Sh m n) ![0, q] (Sh m n').size inb).toLoadRect (ha.unread v))
      (fun i j => f i (q + j)) := by
  have e : (View.readAt (Elt Ideal) a.view (Rect.unit (s := Sh m n) ![0, q] (Sh m n').size inb).toLoadRect (ha.unread v))
      = extractStridedSlice (Sh m n') ![0, q] v ⟨rfl, inb⟩ := by
    rw [View.readAt_eq_ld, ha.read_unread, View.ld_unit]
  rw [e]; exact (h.slice _).congr fun _ _ _ _ => by rw [Nat.zero_add]
theorem E2.loadb {sig κ sp} {m n : ℕ} {v : (Sh m n).Idx → EReal} {f : ℕ → ℕ → EReal} (h : E2 v f)
    (a : Memref sig κ sp (Sh m n) .bf16) (ha : a.IsWhole)
    (inb : ∀ a, (![0, 0] : Fin 2 → ℕ) a + (Sh m n).size a ≤ (Sh m n).size a) :
    E2 (m := m) (n := n) (View.readAt (Elt Ideal) a.view (Rect.unit (s := Sh m n) ![0, 0] (Sh m n).size inb).toLoadRect (ha.unread v)) f := by
  have e : (View.readAt (Elt Ideal) a.view (Rect.unit (s := Sh m n) ![0, 0] (Sh m n).size inb).toLoadRect (ha.unread v))
      = extractStridedSlice (Sh m n) ![0, 0] v ⟨rfl, inb⟩ := by
    rw [View.readAt_eq_ld, ha.read_unread, View.ld_unit]
  rw [e]; exact (h.slice _).congr fun _ _ _ _ => by rw [Nat.zero_add, Nat.zero_add]

/-- The running sum's 512 columns with one more product over 1024 rows. -/
theorem E2.mac {v : S1024x1024.Idx → EReal} {b : S1024x512.Idx → EReal} {s : S1024x512.Idx → EReal} {f g h : ℕ → ℕ → EReal}
    (hv : E2 (m := 1024) (n := 1024) v f) (hb : E2 (m := 1024) (n := 512) b g) (hs : E2 (m := 1024) (n := 512) s h) :
    E2 (m := 1024) (n := 512) (k0_pay10 (F := Ideal) v s b) (fun i j => h i j + ∑ k : Fin 1024, f i k.val * g k.val j) := fun i j => by
  unfold k0_pay10
  dsimp only
  rw [shapeCast_self]
  refine congrArg₂ (· + ·) (hs i j) ?_
  show FloatOps.matmul (F := Ideal) (φ₁ := .bf16) (φ₂ := .bf16) dot_S1024x1024_S1024x512_S1024x512_1_0_0_1_n_n none v b
      (constant S1024x512 .f32 0x00000000#32) (ix2 i j) = _
  rw [Ideal.matmul_constant_zero_apply, ← Equiv.sum_comp (contrEquiv1 dot_S1024x1024_S1024x512_S1024x512_1_0_0_1_n_n 1024 rfl rfl).symm]
  refine Finset.sum_congr rfl fun e _ => ?_
  rw [← hv i e, ← hb e j]
  congr 2 <;> (funext a; match a with | ⟨0, _⟩ => rfl | ⟨1, _⟩ => rfl)
theorem E2.same (v : S1024x1024.Idx → EReal) : k0_pay6 (F := Ideal) v = v := by
  unfold k0_pay6; dsimp only; rw [shapeCast_self]

/-! What stores of 512 columns leave, from left to right. -/

/-- A list of stores into the 1024 by 3584 scratch. -/
abbrev Ps : Type := List (View.Piece (Elt Ideal) S1024x3584 .f32)

/-- The columns below `k` hold `f`. -/
def Below (L : Ps) (f : ℕ → ℕ → EReal) (k : ℕ) : Prop := ∀ (i : Fin 1024) (j : Fin 3584), j.val < k → View.canon L (ix2 i j) = f i.val j.val
/-- The columns from `k` on hold zero. -/
def Rest (L : Ps) (k : ℕ) : Prop := ∀ (i : Fin 1024) (j : Fin 3584), k ≤ j.val → View.canon L (ix2 i j) = 0

theorem mem_cols {q : ℕ} (inb : ∀ a, (![0, q] : Fin 2 → ℕ) a + (Sh 1024 512).size a ≤ (Sh 1024 3584).size a) (i : Fin 1024) (j : Fin 3584)
    (h : ix2 i j ∈ (Rect.unit (s := Sh 1024 3584) ![0, q] (Sh 1024 512).size inb).set) : q ≤ j.val ∧ j.val < q + 512 := by
  have h1 := Rect.mem_set_unit.mp h 1
  exact ⟨h1.1, h1.2⟩

theorem Rest.cons {L : Ps} {k q : ℕ} (h : Rest L k) (hk : q + 512 = k) (inb : ∀ a, (![0, q] : Fin 2 → ℕ) a + (Sh 1024 512).size a ≤ (Sh 1024 3584).size a)
    (w : (Sh 1024 512).Idx → EReal) : Rest (⟨Rect.unit (s := Sh 1024 3584) ![0, q] (Sh 1024 512).size inb, w⟩ :: L) k := fun i j hj =>
  (View.canon_cons_of_not_mem (Val := Elt Ideal) (e := .f32) _ L fun hm => by have := mem_cols inb i j hm; omega).trans (h i j hj)
theorem Rest.mono {L : Ps} {k k' : ℕ} (h : Rest L k) (hk : k ≤ k') : Rest L k' := fun i j hj => h i j (hk.trans hj)

theorem Below.cons {L : Ps} {f : ℕ → ℕ → EReal} {q k : ℕ} (h : Below L f q) (hk : q + 512 = k) (inb : ∀ a, (![0, q] : Fin 2 → ℕ) a + (Sh 1024 512).size a ≤ (Sh 1024 3584).size a)
    (w : (Sh 1024 512).Idx → EReal) (hw : E2 w fun i j => f i (q + j)) :
    Below (⟨Rect.unit (s := Sh 1024 3584) ![0, q] (Sh 1024 512).size inb, w⟩ :: L) f k := fun i j hj => by
  by_cases hq : j.val < q
  · exact (View.canon_cons_of_not_mem (Val := Elt Ideal) (e := .f32) _ L fun hm => by have := mem_cols inb i j hm; omega).trans (h i j hq)
  · have e := View.canon_cons_emb (Val := Elt Ideal) (e := .f32) (Rect.unit (s := Sh 1024 3584) ![0, q] (Sh 1024 512).size inb) w L (ix2 i ⟨j.val - q, by omega⟩)
    have e2 : (Rect.unit (s := Sh 1024 3584) ![0, q] (Sh 1024 512).size inb).emb (ix2 i ⟨j.val - q, by omega⟩) = ix2 i j := by
      funext a
      refine Fin.ext ((ValueKit.rect_emb_unit_val _ _ _ _ _).trans ?_)
      match a with
      | ⟨0, _⟩ => exact Nat.zero_add _
      | ⟨1, _⟩ => show q + (j.val - q) = j.val; omega
    rw [e2] at e
    refine e.trans ((hw _ _).trans ?_)
    show f i.val (q + (j.val - q)) = _
    rw [Nat.add_sub_cancel' (Nat.le_of_not_lt hq)]
theorem Below.nil (L : Ps) (f : ℕ → ℕ → EReal) : Below L f 0 := fun _ _ h => absurd h (Nat.not_lt_zero _)

/-- The columns of a load of what the stores leave. -/
theorem cov_idx {q n : ℕ} (inb : ∀ a, (![0, q] : Fin 2 → ℕ) a + (Sh 1024 n).size a ≤ (Sh 1024 3584).size a) (i : Fin 1024) (j : Fin n) (hj : q + j.val < 3584) :
    (Rect.unit (s := Sh 1024 3584) ![0, q] (Sh 1024 n).size inb).toLoadRect.idx (ix2 i j) = ix2 i (⟨q + j.val, hj⟩ : Fin 3584) := by
  funext a
  match a with
  | ⟨0, _⟩ => exact Fin.ext (by show 0 + 1 * i.val = i.val; omega)
  | ⟨1, _⟩ => exact Fin.ext (by show q + 1 * j.val = q + j.val; omega)
theorem Rest.cov {sig κ sp} {L : Ps} {q : ℕ} (h : Rest L q) (a : View sig κ sp (Sh 1024 3584) .f32) (inb : ∀ a, (![0, q] : Fin 2 → ℕ) a + (Sh 1024 512).size a ≤ (Sh 1024 3584).size a) :
    E2 (m := 1024) (n := 512) (a.readCov (Val := Elt Ideal) L (Rect.unit (s := Sh 1024 3584) ![0, q] (Sh 1024 512).size inb).toLoadRect) (fun _ _ => 0) := fun i j => by
  have h1 : q + 512 ≤ 3584 := inb 1
  rw [View.readCov_eq_canon']
  exact (congrArg (View.canon L) (cov_idx inb i j (by omega))).trans (h _ _ (Nat.le_add_right _ _))
theorem Below.cov {sig κ sp} {L : Ps} {f : ℕ → ℕ → EReal} {q : ℕ} (h : Below L f 3584) (a : View sig κ sp (Sh 1024 3584) .f32) (inb : ∀ a, (![0, q] : Fin 2 → ℕ) a + (Sh 1024 896).size a ≤ (Sh 1024 3584).size a) :
    E2 (m := 1024) (n := 896) (a.readCov (Val := Elt Ideal) L (Rect.unit (s := Sh 1024 3584) ![0, q] (Sh 1024 896).size inb).toLoadRect) (fun i j => f i (q + j)) := fun i j => by
  have h1 : q + 896 ≤ 3584 := inb 1
  rw [View.readCov_eq_canon']
  exact (congrArg (View.canon L) (cov_idx inb i j (by omega))).trans (h _ _ (Fin.isLt _))
theorem Below.whole {L : Ps} {f : ℕ → ℕ → EReal} (h : Below L f 3584) : E2 (m := 1024) (n := 3584) (View.canon L) f := fun i j => h i j j.2

/-- The zero store leaves zero. -/
theorem Rest.zero (inb : ∀ a, (![0, 0] : Fin 2 → ℕ) a + (Sh 1024 3584).size a ≤ (Sh 1024 3584).size a) (L : Ps) :
    Rest (⟨Rect.unit (s := Sh 1024 3584) ![0, 0] (Sh 1024 3584).size inb, k0_pay5 (F := Ideal)⟩ :: L) 0 := fun i j _ => by
  have e := View.canon_cons_emb (Val := Elt Ideal) (e := .f32) (Rect.unit (s := Sh 1024 3584) ![0, 0] (Sh 1024 3584).size inb) (k0_pay5 (F := Ideal)) L (ix2 i j)
  have e2 : (Rect.unit (s := Sh 1024 3584) ![0, 0] (Sh 1024 3584).size inb).emb (ix2 i j) = ix2 i j := by
    funext k
    refine Fin.ext ((ValueKit.rect_emb_unit_val _ _ _ _ _).trans ?_)
    fin_cases k <;> exact Nat.zero_add _
  rw [e2] at e
  refine e.trans ?_
  unfold k0_pay5
  rw [shapeCast_self]
  show Ideal.ofBits .f32 0x00000000#32 = 0
  simp [Ideal.ofBits, Ideal.ieee]

end Win

end
-- ==== Proof.Win.Cases.lean ====
/-
  What every grid point leaves in the scratch, and what the last writes out.
-/
module

public import proofs.«01_k».proof.Proof.Win.El

@[expose] public section

set_option maxRecDepth 16384

noncomputable section

open scoped BigOperators
open Idealize.ShloMosaic Idealize.ShloMosaic.TcCoe Idealize.ShloMosaic.ValueIdx Cert.Kernel2Ideal Cert.Kernel2Ideal.Gen

namespace Win

/-- A point's blocks: 1024 columns of the transposed rows, and the seven pieces' 1024 rows side by side. -/
structure TileOk (a g : ℕ → ℕ → EReal) (x0 : Vec Ideal S1024x1024 .bf16) (x1 x2 x3 x4 x5 x6 x7 : Vec Ideal S1024x512 .bf16) : Prop where
  n : E2 (m := 1024) (n := 1024) x0 a
  p0 : E2 (m := 1024) (n := 512) x1 fun s j => g s (0 + j)
  p1 : E2 (m := 1024) (n := 512) x2 fun s j => g s (512 + j)
  p2 : E2 (m := 1024) (n := 512) x3 fun s j => g s (1024 + j)
  p3 : E2 (m := 1024) (n := 512) x4 fun s j => g s (1536 + j)
  p4 : E2 (m := 1024) (n := 512) x5 fun s j => g s (2048 + j)
  p5 : E2 (m := 1024) (n := 512) x6 fun s j => g s (2560 + j)
  p6 : E2 (m := 1024) (n := 512) x7 fun s j => g s (3072 + j)

/-- The running sum with one more point's product. -/
def more (a g h : ℕ → ℕ → EReal) (i j : ℕ) : EReal := h i j + ∑ k : Fin 1024, a i k.val * g k.val j

section
variable {a : ℕ → ℕ → EReal} {v : S1024x1024.Idx → EReal} {b s : S1024x512.Idx → EReal} {g h : ℕ → ℕ → EReal}
  (hv : E2 (m := 1024) (n := 1024) v a) (hb : E2 (m := 1024) (n := 512) b g) (hs : E2 (m := 1024) (n := 512) s h)
include hv hb hs
theorem mac7 : E2 (m := 1024) (n := 512) (k0_pay7 (F := Ideal) v s b) (more a g h) := by
  unfold k0_pay7; dsimp only; rw [E2.same]; exact E2.mac hv hb hs
theorem mac8 : E2 (m := 1024) (n := 512) (k0_pay8 (F := Ideal) v s b) (more a g h) := by
  unfold k0_pay8; dsimp only; rw [E2.same]; exact E2.mac hv hb hs
theorem mac9 : E2 (m := 1024) (n := 512) (k0_pay9 (F := Ideal) v s b) (more a g h) := by
  unfold k0_pay9; dsimp only; rw [E2.same]; exact E2.mac hv hb hs
theorem mac11 : E2 (m := 1024) (n := 512) (k0_pay11 (F := Ideal) v s b) (more a g h) := E2.mac hv hb hs
theorem mac12 : E2 (m := 1024) (n := 512) (k0_pay12 (F := Ideal) v s b) (more a g h) := E2.mac hv hb hs
theorem mac13 : E2 (m := 1024) (n := 512) (k0_pay13 (F := Ideal) v s b) (more a g h) := E2.mac hv hb hs
theorem mac10 : E2 (m := 1024) (n := 512) (k0_pay10 (F := Ideal) v s b) (more a g h) := E2.mac hv hb hs
end

/-- Seven stores of 512 columns. -/
theorem chain {f : ℕ → ℕ → EReal} {w0 w1 w2 w3 w4 w5 w6 : (Sh 1024 512).Idx → EReal}
    (h0 : E2 w0 fun i j => f i (0 + j)) (i0 : ∀ a, (![0, 0] : Fin 2 → ℕ) a + (Sh 1024 512).size a ≤ (Sh 1024 3584).size a)
    (h1 : E2 w1 fun i j => f i (512 + j)) (i1 : ∀ a, (![0, 512] : Fin 2 → ℕ) a + (Sh 1024 512).size a ≤ (Sh 1024 3584).size a)
    (h2 : E2 w2 fun i j => f i (1024 + j)) (i2 : ∀ a, (![0, 1024] : Fin 2 → ℕ) a + (Sh 1024 512).size a ≤ (Sh 1024 3584).size a)
    (h3 : E2 w3 fun i j => f i (1536 + j)) (i3 : ∀ a, (![0, 1536] : Fin 2 → ℕ) a + (Sh 1024 512).size a ≤ (Sh 1024 3584).size a)
    (h4 : E2 w4 fun i j => f i (2048 + j)) (i4 : ∀ a, (![0, 2048] : Fin 2 → ℕ) a + (Sh 1024 512).size a ≤ (Sh 1024 3584).size a)
    (h5 : E2 w5 fun i j => f i (2560 + j)) (i5 : ∀ a, (![0, 2560] : Fin 2 → ℕ) a + (Sh 1024 512).size a ≤ (Sh 1024 3584).size a)
    (h6 : E2 w6 fun i j => f i (3072 + j)) (i6 : ∀ a, (![0, 3072] : Fin 2 → ℕ) a + (Sh 1024 512).size a ≤ (Sh 1024 3584).size a)
    (L : Ps) : Below ([⟨Rect.unit (s := Sh 1024 3584) ![0, 3072] (Sh 1024 512).size i6, w6⟩,
      ⟨Rect.unit (s := Sh 1024 3584) ![0, 2560] (Sh 1024 512).size i5, w5⟩,
      ⟨Rect.unit (s := Sh 1024 3584) ![0, 2048] (Sh 1024 512).size i4, w4⟩,
      ⟨Rect.unit (s := Sh 1024 3584) ![0, 1536] (Sh 1024 512).size i3, w3⟩,
      ⟨Rect.unit (s := Sh 1024 3584) ![0, 1024] (Sh 1024 512).size i2, w2⟩,
      ⟨Rect.unit (s := Sh 1024 3584) ![0, 512] (Sh 1024 512).size i1, w1⟩,
      ⟨Rect.unit (s := Sh 1024 3584) ![0, 0] (Sh 1024 512).size i0, w0⟩] ++ L) f 3584 :=
  (((((((Below.nil L f).cons (k := 512) rfl i0 w0 h0).cons (k := 1024) rfl i1 w1 h1).cons (k := 1536) rfl i2 w2 h2).cons (k := 2048) rfl i3 w3 h3).cons (k := 2560) rfl i4 w4 h4).cons (k := 3072) rfl i5 w5 h5).cons (k := 3584) rfl i6 w6 h6

/-! What the last point writes out: every block of 768 columns with the next 128, turned left twice its number. -/

section
variable {v : S1024x896.Idx → EReal} {f : ℕ → ℕ → EReal}

theorem put {w : S1024x896.Idx → EReal} {f : ℕ → ℕ → EReal} (h : E2 (m := 1024) (n := 896) w f) (u : Fin 1) (i : Fin 1024) (j : Fin 896) :
    shapeCast S1x1024x896 w shapeCasts_S1024x896_S1x1024x896 (ValueIdx.ix3 u i j) = f i.val j.val := by
  have e := shapeCast_addUnit_apply ![1024, 896] w shapeCasts_S1024x896_S1x1024x896 (ValueIdx.ix3 u i j)
  refine e.trans ((congrArg w ?_).trans (h i j))
  funext a
  match a with
  | ⟨0, _⟩ => rfl
  | ⟨1, _⟩ => rfl

theorem rot {d : BitVec 32} {k : ℕ} (hd : d.toNat + k = 896) (hk : 0 < k) (h : E2 (m := 1024) (n := 896) v f) :
    E2 (m := 1024) (n := 896) (dynamicRotate 1 d none v rotates_S1024x896_d1) (fun i j => f i ((j + k) % 896)) := fun i j => by
  have hm : (j.val + k) % 896 < 896 := Nat.mod_lt _ (by decide)
  refine (dynamicRotate_apply (1 : Fin 2) d v rotates_S1024x896_d1 (ValueIdx.ix2 i j) (ValueIdx.ix2 i (⟨(j.val + k) % 896, hm⟩ : Fin 896)) ?_).trans (h _ _)
  intro b
  match b with
  | ⟨0, _⟩ => rfl
  | ⟨1, _⟩ =>
    show (j.val + k) % 896 = (j.val + 896 - d.toNat % 896) % 896
    rw [Nat.mod_eq_of_lt (show d.toNat < 896 by omega)]
    congr 1
    omega

variable (h : E2 (m := 1024) (n := 896) v f) (u : Fin 1) (i : Fin 1024) (j : Fin 896)
include h
theorem pay1_ok : k0_pay1 (F := Ideal) v (ValueIdx.ix3 u i j) = f i.val j.val := by
  unfold k0_pay1; exact put (w := truncf (F := Ideal) .bf16 v bitsLt_bf16_f32) h u i j
theorem pay2_ok : k0_pay2 (F := Ideal) v (ValueIdx.ix3 u i j) = f i.val ((j.val + 2) % 896) := by
  unfold k0_pay2; dsimp only; exact put (w := truncf (F := Ideal) .bf16 (dynamicRotate 1 894#32 none v rotates_S1024x896_d1) bitsLt_bf16_f32) (rot (k := 2) rfl (by decide) h) u i j
theorem pay3_ok : k0_pay3 (F := Ideal) v (ValueIdx.ix3 u i j) = f i.val ((j.val + 4) % 896) := by
  unfold k0_pay3; dsimp only; exact put (w := truncf (F := Ideal) .bf16 (dynamicRotate 1 892#32 none v rotates_S1024x896_d1) bitsLt_bf16_f32) (rot (k := 4) rfl (by decide) h) u i j
theorem pay4_ok : k0_pay4 (F := Ideal) v (ValueIdx.ix3 u i j) = f i.val ((j.val + 6) % 896) := by
  unfold k0_pay4; dsimp only; exact put (w := truncf (F := Ideal) .bf16 (dynamicRotate 1 890#32 none v rotates_S1024x896_d1) bitsLt_bf16_f32) (rot (k := 6) rfl (by decide) h) u i j
end

/-- The four blocks of a gradient with the columns `f`. -/
def turned (f : ℕ → ℕ → EReal) (y : S4x1024x896.Idx) : EReal :=
  f (y 1).val (768 * (y 0).val + ((y 2).val + 2 * (y 0).val) % 896)

/-- One stored block is its part of the four. -/
theorem turned_piece {f : ℕ → ℕ → EReal} {q : ℕ} (inb : ∀ a, (![q, 0, 0] : Fin 3 → ℕ) a + S1x1024x896.size a ≤ S4x1024x896.size a)
    {w : S1x1024x896.Idx → EReal}
    (hw : ∀ (u : Fin 1) (i : Fin 1024) (j : Fin 896), w (ValueIdx.ix3 u i j) = f i.val (768 * q + (j.val + 2 * q) % 896)) (x : S1x1024x896.Idx) :
    w x = turned f ((Rect.unit (s := S4x1024x896) ![q, 0, 0] S1x1024x896.size inb).emb x) := by
  have hx : (x 0).val = 0 := Nat.lt_one_iff.1 (x 0).isLt
  have e0 : (((Rect.unit (s := S4x1024x896) ![q, 0, 0] S1x1024x896.size inb).emb x) 0).val = q := by
    show q + 1 * (x 0).val = q; omega
  have e1 : (((Rect.unit (s := S4x1024x896) ![q, 0, 0] S1x1024x896.size inb).emb x) 1).val = (x 1).val := by
    show 0 + 1 * (x 1).val = _; omega
  have e2 : (((Rect.unit (s := S4x1024x896) ![q, 0, 0] S1x1024x896.size inb).emb x) 2).val = (x 2).val := by
    show 0 + 1 * (x 2).val = _; omega
  unfold turned
  rw [e0, e1, e2]
  refine (congrArg w ?_).trans (hw (x 0) (x 1) (x 2))
  funext a
  match a with
  | ⟨0, _⟩ => rfl
  | ⟨1, _⟩ => rfl
  | ⟨2, _⟩ => rfl

theorem turned_mem {q : ℕ} (inb : ∀ a, (![q, 0, 0] : Fin 3 → ℕ) a + S1x1024x896.size a ≤ S4x1024x896.size a) (y : S4x1024x896.Idx) (hy : (y 0).val = q) :
    y ∈ (Rect.unit (s := S4x1024x896) ![q, 0, 0] S1x1024x896.size inb).set :=
  Rect.mem_set_unit.mpr fun a => match a with
    | ⟨0, _⟩ => ⟨hy.ge, by show (y 0).val < q + 1; omega⟩
    | ⟨1, _⟩ => ⟨Nat.zero_le _, by show (y 1).val < 0 + 1024; have := (y 1).isLt; exact (Nat.zero_add 1024).symm ▸ this⟩
    | ⟨2, _⟩ => ⟨Nat.zero_le _, by show (y 2).val < 0 + 896; have := (y 2).isLt; exact (Nat.zero_add 896).symm ▸ this⟩

theorem turned_canon {f : ℕ → ℕ → EReal} {v0 v1 v2 v3 : S1024x896.Idx → EReal}
    (h0 : E2 (m := 1024) (n := 896) v0 fun i j => f i (0 + j)) (h1 : E2 (m := 1024) (n := 896) v1 fun i j => f i (768 + j))
    (h2 : E2 (m := 1024) (n := 896) v2 fun i j => f i (1536 + j)) (h3 : E2 (m := 1024) (n := 896) v3 fun i j => f i (2304 + j)) (y : S4x1024x896.Idx) :
    View.canon (Val := Elt Ideal) (e := .bf16) ([⟨Rect.unit (s := S4x1024x896) ![3, 0, 0] S1x1024x896.size inb_S4x1024x896_S1x1024x896_3_0_0, k0_pay4 (F := Ideal) v3⟩,
      ⟨Rect.unit (s := S4x1024x896) ![2, 0, 0] S1x1024x896.size inb_S4x1024x896_S1x1024x896_2_0_0, k0_pay3 (F := Ideal) v2⟩,
      ⟨Rect.unit (s := S4x1024x896) ![1, 0, 0] S1x1024x896.size inb_S4x1024x896_S1x1024x896_1_0_0, k0_pay2 (F := Ideal) v1⟩,
      ⟨Rect.unit (s := S4x1024x896) ![0, 0, 0] S1x1024x896.size inb_S4x1024x896_S1x1024x896_0_0_0, k0_pay1 (F := Ideal) v0⟩] : List (View.Piece (Elt Ideal) S4x1024x896 .bf16)) y = turned f y := by
  refine View.canon_apply_of_pieces (Val := Elt Ideal) (e := .bf16) (turned f) _ ?_ y ?_
  · intro p hp
    simp only [List.mem_cons, List.not_mem_nil, or_false] at hp
    rcases hp with rfl | rfl | rfl | rfl
    · exact turned_piece inb_S4x1024x896_S1x1024x896_3_0_0 fun u i j => pay4_ok h3 u i j
    · exact turned_piece inb_S4x1024x896_S1x1024x896_2_0_0 fun u i j => pay3_ok h2 u i j
    · exact turned_piece inb_S4x1024x896_S1x1024x896_1_0_0 fun u i j => pay2_ok h1 u i j
    · exact turned_piece inb_S4x1024x896_S1x1024x896_0_0_0 fun u i j => (pay1_ok h0 u i j).trans (congrArg (f i.val) (by show 0 + j.val = 0 + (j.val + 0) % 896; rw [Nat.add_zero, Nat.mod_eq_of_lt j.isLt]))
  · have hy : (y 0).val < 4 := (y 0).isLt
    have : (y 0).val = 3 ∨ (y 0).val = 2 ∨ (y 0).val = 1 ∨ (y 0).val = 0 := by omega
    rcases this with e | e | e | e
    · exact ⟨_, .head _, turned_mem inb_S4x1024x896_S1x1024x896_3_0_0 y e⟩
    · exact ⟨_, .tail _ (.head _), turned_mem inb_S4x1024x896_S1x1024x896_2_0_0 y e⟩
    · exact ⟨_, .tail _ (.tail _ (.head _)), turned_mem inb_S4x1024x896_S1x1024x896_1_0_0 y e⟩
    · exact ⟨_, .tail _ (.tail _ (.tail _ (.head _))), turned_mem inb_S4x1024x896_S1x1024x896_0_0_0 y e⟩

section
variable (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg10 : Memref sig .tc .vmem S4x1024x896 .bf16) (harg10 : arg10.IsWhole) (arg11 : Memref sig .tc .vmem S1024x3584 .f32) (harg11 : arg11.IsWhole)
variable {a g h : ℕ → ℕ → EReal} {x0 : Vec Ideal S1024x1024 .bf16} {x1 x2 x3 x4 x5 x6 x7 : Vec Ideal S1024x512 .bf16} (H : TileOk a g x0 x1 x2 x3 x4 x5 x6 x7)
include H

theorem sout0_B_0_ok (hc0 : ¬cond0_0 i) (hc1 : ¬cond0_1 i) {xs0 : Vec Ideal S1024x3584 .f32} (hS : E2 (m := 1024) (n := 3584) xs0 h) :
    E2 (m := 1024) (n := 3584) (sout0_B_0 c i arg1 harg1 arg2 harg2 arg3 harg3 arg4 harg4 arg5 harg5 arg6 harg6 arg7 harg7 arg8 harg8 arg10 harg10 arg11 harg11 hc0 hc1 x0 x1 x2 x3 x4 x5 x6 x7 xs0) (more a g h) := by
  unfold sout0_B_0
  rw [View.read_writes_junk_eq_canon]
  unfold kernelRun0_B
  dsimp only
  have hr : E2 (m := 1024) (n := 1024) (kernelRun0_B.sl.r c arg1 harg1 x0) a := by
    unfold kernelRun0_B.sl.r; rw [E2.same]; exact (H.n.loadb arg1 harg1 inb_S1024x1024_S1024x1024_0_0)
  exact Below.whole (chain
    (mac7 (H.n.loadb arg1 harg1 inb_S1024x1024_S1024x1024_0_0) (H.p0.loadb arg2 harg2 inb_S1024x512_S1024x512_0_0) (hS.load arg11 harg11 inb_S1024x3584_S1024x512_0_0)) inb_S1024x3584_S1024x512_0_0
    (mac8 (H.n.loadb arg1 harg1 inb_S1024x1024_S1024x1024_0_0) (H.p1.loadb arg3 harg3 inb_S1024x512_S1024x512_0_0) (hS.load arg11 harg11 inb_S1024x3584_S1024x512_0_512)) inb_S1024x3584_S1024x512_0_512
    (mac9 (H.n.loadb arg1 harg1 inb_S1024x1024_S1024x1024_0_0) (H.p2.loadb arg4 harg4 inb_S1024x512_S1024x512_0_0) (hS.load arg11 harg11 inb_S1024x3584_S1024x512_0_1024)) inb_S1024x3584_S1024x512_0_1024
    (mac10 hr (H.p3.loadb arg5 harg5 inb_S1024x512_S1024x512_0_0) (hS.load arg11 harg11 inb_S1024x3584_S1024x512_0_1536)) inb_S1024x3584_S1024x512_0_1536
    (mac11 hr (H.p4.loadb arg6 harg6 inb_S1024x512_S1024x512_0_0) (hS.load arg11 harg11 inb_S1024x3584_S1024x512_0_2048)) inb_S1024x3584_S1024x512_0_2048
    (mac12 hr (H.p5.loadb arg7 harg7 inb_S1024x512_S1024x512_0_0) (hS.load arg11 harg11 inb_S1024x3584_S1024x512_0_2560)) inb_S1024x3584_S1024x512_0_2560
    (mac13 hr (H.p6.loadb arg8 harg8 inb_S1024x512_S1024x512_0_0) (hS.load arg11 harg11 inb_S1024x3584_S1024x512_0_3072)) inb_S1024x3584_S1024x512_0_3072 [])

theorem sout0_A_0_ok (hc0 : cond0_0 i) (hc1 : ¬cond0_1 i) :
    E2 (m := 1024) (n := 3584) (sout0_A_0 c i arg1 harg1 arg2 harg2 arg3 harg3 arg4 harg4 arg5 harg5 arg6 harg6 arg7 harg7 arg8 harg8 arg10 harg10 arg11 harg11 hc0 hc1 x0 x1 x2 x3 x4 x5 x6 x7) (more a g fun _ _ => 0) := by
  unfold sout0_A_0
  rw [View.read_writes_junk_eq_canon]
  unfold kernelRun0_A
  dsimp only
  have hr : E2 (m := 1024) (n := 1024) (kernelRun0_A.sl.r c arg1 harg1 x0) a := by
    unfold kernelRun0_A.sl.r; rw [E2.same]; exact (H.n.loadb arg1 harg1 inb_S1024x1024_S1024x1024_0_0)
  have r1 : Rest kernelRun0_A.sl.HS0_1 0 := Rest.zero _ _
  have r2 : Rest (kernelRun0_A.sl.HS0_2 c arg1 harg1 arg2 harg2 arg11 x0 x1) 512 :=
    (r1.mono (by decide)).cons rfl inb_S1024x3584_S1024x512_0_0 _
  have r3 : Rest (kernelRun0_A.sl.HS0_3 c arg1 harg1 arg2 harg2 arg3 harg3 arg11 x0 x1 x2) 1024 :=
    (r2.mono (by decide)).cons rfl inb_S1024x3584_S1024x512_0_512 _
  have r4 : Rest (kernelRun0_A.sl.HS0_4 c arg1 harg1 arg2 harg2 arg3 harg3 arg4 harg4 arg11 x0 x1 x2 x3) 1536 :=
    (r3.mono (by decide)).cons rfl inb_S1024x3584_S1024x512_0_1024 _
  have r5 : Rest (kernelRun0_A.sl.HS0_5 c arg1 harg1 arg2 harg2 arg3 harg3 arg4 harg4 arg5 harg5 arg11 x0 x1 x2 x3 x4) 2048 :=
    (r4.mono (by decide)).cons rfl inb_S1024x3584_S1024x512_0_1536 _
  have r6 : Rest (kernelRun0_A.sl.HS0_6 c arg1 harg1 arg2 harg2 arg3 harg3 arg4 harg4 arg5 harg5 arg6 harg6 arg11 x0 x1 x2 x3 x4 x5) 2560 :=
    (r5.mono (by decide)).cons rfl inb_S1024x3584_S1024x512_0_2048 _
  have r7 : Rest (kernelRun0_A.sl.HS0_7 c arg1 harg1 arg2 harg2 arg3 harg3 arg4 harg4 arg5 harg5 arg6 harg6 arg7 harg7 arg11 x0 x1 x2 x3 x4 x5 x6) 3072 :=
    (r6.mono (by decide)).cons rfl inb_S1024x3584_S1024x512_0_2560 _
  exact Below.whole (chain
    (mac7 (H.n.loadb arg1 harg1 inb_S1024x1024_S1024x1024_0_0) (H.p0.loadb arg2 harg2 inb_S1024x512_S1024x512_0_0) (r1.cov arg11.view inb_S1024x3584_S1024x512_0_0)) inb_S1024x3584_S1024x512_0_0
    (mac8 (H.n.loadb arg1 harg1 inb_S1024x1024_S1024x1024_0_0) (H.p1.loadb arg3 harg3 inb_S1024x512_S1024x512_0_0) (r2.cov arg11.view inb_S1024x3584_S1024x512_0_512)) inb_S1024x3584_S1024x512_0_512
    (mac9 (H.n.loadb arg1 harg1 inb_S1024x1024_S1024x1024_0_0) (H.p2.loadb arg4 harg4 inb_S1024x512_S1024x512_0_0) (r3.cov arg11.view inb_S1024x3584_S1024x512_0_1024)) inb_S1024x3584_S1024x512_0_1024
    (mac10 hr (H.p3.loadb arg5 harg5 inb_S1024x512_S1024x512_0_0) (r4.cov arg11.view inb_S1024x3584_S1024x512_0_1536)) inb_S1024x3584_S1024x512_0_1536
    (mac11 hr (H.p4.loadb arg6 harg6 inb_S1024x512_S1024x512_0_0) (r5.cov arg11.view inb_S1024x3584_S1024x512_0_2048)) inb_S1024x3584_S1024x512_0_2048
    (mac12 hr (H.p5.loadb arg7 harg7 inb_S1024x512_S1024x512_0_0) (r6.cov arg11.view inb_S1024x3584_S1024x512_0_2560)) inb_S1024x3584_S1024x512_0_2560
    (mac13 hr (H.p6.loadb arg8 harg8 inb_S1024x512_S1024x512_0_0) (r7.cov arg11.view inb_S1024x3584_S1024x512_0_3072)) inb_S1024x3584_S1024x512_0_3072
    kernelRun0_A.sl.HS0_1)

theorem HS0_7_C (hc0 : ¬cond0_0 i) (hc1 : cond0_1 i) {xs0 : Vec Ideal S1024x3584 .f32} (hS : E2 (m := 1024) (n := 3584) xs0 h) :
    Below (kernelRun0_C.sl.HS0_7 c arg1 harg1 arg2 harg2 arg3 harg3 arg4 harg4 arg5 harg5 arg6 harg6 arg7 harg7 arg8 harg8 arg11 harg11 x0 x1 x2 x3 x4 x5 x6 x7 xs0) (more a g h) 3584 := by
  unfold kernelRun0_C.sl.HS0_7
  have hr : E2 (m := 1024) (n := 1024) (kernelRun0_C.sl.r c arg1 harg1 x0) a := by
    unfold kernelRun0_C.sl.r; rw [E2.same]; exact (H.n.loadb arg1 harg1 inb_S1024x1024_S1024x1024_0_0)
  exact chain
    (mac7 (H.n.loadb arg1 harg1 inb_S1024x1024_S1024x1024_0_0) (H.p0.loadb arg2 harg2 inb_S1024x512_S1024x512_0_0) (hS.load arg11 harg11 inb_S1024x3584_S1024x512_0_0)) inb_S1024x3584_S1024x512_0_0
    (mac8 (H.n.loadb arg1 harg1 inb_S1024x1024_S1024x1024_0_0) (H.p1.loadb arg3 harg3 inb_S1024x512_S1024x512_0_0) (hS.load arg11 harg11 inb_S1024x3584_S1024x512_0_512)) inb_S1024x3584_S1024x512_0_512
    (mac9 (H.n.loadb arg1 harg1 inb_S1024x1024_S1024x1024_0_0) (H.p2.loadb arg4 harg4 inb_S1024x512_S1024x512_0_0) (hS.load arg11 harg11 inb_S1024x3584_S1024x512_0_1024)) inb_S1024x3584_S1024x512_0_1024
    (mac10 hr (H.p3.loadb arg5 harg5 inb_S1024x512_S1024x512_0_0) (hS.load arg11 harg11 inb_S1024x3584_S1024x512_0_1536)) inb_S1024x3584_S1024x512_0_1536
    (mac11 hr (H.p4.loadb arg6 harg6 inb_S1024x512_S1024x512_0_0) (hS.load arg11 harg11 inb_S1024x3584_S1024x512_0_2048)) inb_S1024x3584_S1024x512_0_2048
    (mac12 hr (H.p5.loadb arg7 harg7 inb_S1024x512_S1024x512_0_0) (hS.load arg11 harg11 inb_S1024x3584_S1024x512_0_2560)) inb_S1024x3584_S1024x512_0_2560
    (mac13 hr (H.p6.loadb arg8 harg8 inb_S1024x512_S1024x512_0_0) (hS.load arg11 harg11 inb_S1024x3584_S1024x512_0_3072)) inb_S1024x3584_S1024x512_0_3072 []

theorem out0_C_8_ok (hc0 : ¬cond0_0 i) (hc1 : cond0_1 i) {xs0 : Vec Ideal S1024x3584 .f32} (hS : E2 (m := 1024) (n := 3584) xs0 h) (y : S4x1024x896.Idx) :
    out0_C_8 c i arg1 harg1 arg2 harg2 arg3 harg3 arg4 harg4 arg5 harg5 arg6 harg6 arg7 harg7 arg8 harg8 arg10 harg10 arg11 harg11 hc0 hc1 x0 x1 x2 x3 x4 x5 x6 x7 xs0 y = turned (more a g h) y := by
  have hL := HS0_7_C c i arg1 harg1 arg2 harg2 arg3 harg3 arg4 harg4 arg5 harg5 arg6 harg6 arg7 harg7 arg8 harg8 arg11 harg11 H hc0 hc1 hS
  unfold out0_C_8
  rw [View.read_writes_junk_eq_canon]
  unfold kernelRun0_C
  dsimp only
  exact turned_canon (hL.cov arg11.view inb_S1024x3584_S1024x896_0_0) (hL.cov arg11.view inb_S1024x3584_S1024x896_0_768)
    (hL.cov arg11.view inb_S1024x3584_S1024x896_0_1536) (hL.cov arg11.view inb_S1024x3584_S1024x896_0_2304) y

end
end Win
end
-- ==== Proof.Win.Blocks.lean ====
/-
  The blocks that a grid point reads, as parts of the launch arrays; the scratch after each point; and the array the kernel leaves.
-/
module

public import proofs.«01_k».proof.Proof.Win.Cases
public import proofs.«01_k».proof.Proof.Gen.Reference2Ideal.Read

@[expose] public section

set_option maxRecDepth 16384

noncomputable section

open scoped BigOperators
open Idealize.ShloMosaic Idealize.ShloMosaic.TcCoe Idealize.ShloMosaic.ValueIdx Cert.Kernel2Ideal Cert.Kernel2Ideal.Gen Cert.Kernel2Ideal.Value

namespace Win

/-- The launch arrays: `n` is the normed rows, `g` the seven pieces side by side. -/
structure ArgsOk (m : (ℓ : Loc nD τ sig) → Buf (Elt Ideal) ℓ) (c : Dev nD) (n g : ℕ → ℕ → EReal) : Prop where
  n : E2 (m := 4096) (n := 1024) (Cert.Reference2Ideal.Read.val_main_v15 (F := Ideal) (m ((c : Thread nD τ).loc main_arg0)) (m ((c : Thread nD τ).loc main_arg1))) n
  p0 : E2 (m := 4096) (n := 512) (m ((c : Thread nD τ).loc main_arg2)) fun s j => g s (0 + j)
  p1 : E2 (m := 4096) (n := 512) (m ((c : Thread nD τ).loc main_arg3)) fun s j => g s (512 + j)
  p2 : E2 (m := 4096) (n := 512) (m ((c : Thread nD τ).loc main_arg4)) fun s j => g s (1024 + j)
  p3 : E2 (m := 4096) (n := 512) (m ((c : Thread nD τ).loc main_arg5)) fun s j => g s (1536 + j)
  p4 : E2 (m := 4096) (n := 512) (m ((c : Thread nD τ).loc main_arg6)) fun s j => g s (2048 + j)
  p5 : E2 (m := 4096) (n := 512) (m ((c : Thread nD τ).loc main_arg7)) fun s j => g s (2560 + j)
  p6 : E2 (m := 4096) (n := 512) (m ((c : Thread nD τ).loc main_arg8)) fun s j => g s (3072 + j)

section
variable (m : (ℓ : Loc nD τ sig) → Buf (Elt Ideal) ℓ) (c : Dev nD) (t : Fin cfg0.N)

theorem N4 : t.val < 4 := lt_of_lt_of_eq t.isLt N_0

theorem row_lt (i : Fin 1024) : 1024 * t.val + i.val < 4096 := by have := N4 t; omega

/-- The host's normed rows, transposed and narrowed. -/
theorem V_main_v13 : (V m c main_v13 : S1024x4096.Idx → EReal) = truncf (F := Ideal) .bf16 (transpose S1024x4096 [1, 0]
    (Cert.Reference2Ideal.Read.val_main_v15 (F := Ideal) (m ((c : Thread nD τ).loc main_arg0)) (m ((c : Thread nD τ).loc main_arg1)))
    transposes_S4096x1024_S1024x4096_1_0) bitsLt_bf16_f32 := by
  after_results
  rfl

theorem nT (i : Fin 1024) (j : Fin 4096) : (V m c main_v13 : S1024x4096.Idx → EReal) (ValueIdx.ix2 i j)
    = Cert.Reference2Ideal.Read.val_main_v15 (F := Ideal) (m ((c : Thread nD τ).loc main_arg0)) (m ((c : Thread nD τ).loc main_arg1)) (ValueIdx.ix2 j i) := by
  rw [V_main_v13]
  generalize Cert.Reference2Ideal.Read.val_main_v15 (F := Ideal) (m ((c : Thread nD τ).loc main_arg0)) (m ((c : Thread nD τ).loc main_arg1)) = y
  show transpose S1024x4096 [1, 0] y transposes_S4096x1024_S1024x4096_1_0 (ValueIdx.ix2 i j) = _
  exact transpose_apply _ y _ (ValueIdx.ix2 i j) (ValueIdx.ix2 j i) (fun a => match a with | ⟨0, _⟩ => rfl | ⟨1, _⟩ => rfl)

theorem idx0 : ∀ t : Fin cfg0.N, win0_0.index t 0 = 0 ∧ win0_0.index t 1 = t.val := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel

theorem blk0 (i j : Fin 1024) : iblk m c 0 t (ValueIdx.ix2 i j)
    = Cert.Reference2Ideal.Read.val_main_v15 (F := Ideal) (m ((c : Thread nD τ).loc main_arg0)) (m ((c : Thread nD τ).loc main_arg1)) (ValueIdx.ix2 (⟨1024 * t.val + j.val, row_lt t j⟩ : Fin 4096) i) := by
  refine Eq.trans ?_ (nT m c i ⟨1024 * t.val + j.val, row_lt t j⟩)
  unfold iblk
  generalize V m c main_v13 = y
  blk_ext [idx0 t]
  show t.val * 1024 + j.val = 1024 * t.val + j.val
  omega
theorem blk1 (i : Fin 1024) (j : Fin 512) :
    iblk m c 1 t (ValueIdx.ix2 i j) = m ((c : Thread nD τ).loc main_arg2) (ValueIdx.ix2 ⟨1024 * t.val + i.val, row_lt t i⟩ j) := by
  blk_ext [iblk, V_main_arg2, idx1 t]
  show t.val * 1024 + i.val = 1024 * t.val + i.val
  omega
theorem blk2 (i : Fin 1024) (j : Fin 512) :
    iblk m c 2 t (ValueIdx.ix2 i j) = m ((c : Thread nD τ).loc main_arg3) (ValueIdx.ix2 ⟨1024 * t.val + i.val, row_lt t i⟩ j) := by
  blk_ext [iblk, V_main_arg3, idx2 t]
  show t.val * 1024 + i.val = 1024 * t.val + i.val
  omega
theorem blk3 (i : Fin 1024) (j : Fin 512) :
    iblk m c 3 t (ValueIdx.ix2 i j) = m ((c : Thread nD τ).loc main_arg4) (ValueIdx.ix2 ⟨1024 * t.val + i.val, row_lt t i⟩ j) := by
  blk_ext [iblk, V_main_arg4, idx3 t]
  show t.val * 1024 + i.val = 1024 * t.val + i.val
  omega
theorem blk4 (i : Fin 1024) (j : Fin 512) :
    iblk m c 4 t (ValueIdx.ix2 i j) = m ((c : Thread nD τ).loc main_arg5) (ValueIdx.ix2 ⟨1024 * t.val + i.val, row_lt t i⟩ j) := by
  blk_ext [iblk, V_main_arg5, idx4 t]
  show t.val * 1024 + i.val = 1024 * t.val + i.val
  omega
theorem blk5 (i : Fin 1024) (j : Fin 512) :
    iblk m c 5 t (ValueIdx.ix2 i j) = m ((c : Thread nD τ).loc main_arg6) (ValueIdx.ix2 ⟨1024 * t.val + i.val, row_lt t i⟩ j) := by
  blk_ext [iblk, V_main_arg6, idx5 t]
  show t.val * 1024 + i.val = 1024 * t.val + i.val
  omega
theorem blk6 (i : Fin 1024) (j : Fin 512) :
    iblk m c 6 t (ValueIdx.ix2 i j) = m ((c : Thread nD τ).loc main_arg7) (ValueIdx.ix2 ⟨1024 * t.val + i.val, row_lt t i⟩ j) := by
  blk_ext [iblk, V_main_arg7, idx6 t]
  show t.val * 1024 + i.val = 1024 * t.val + i.val
  omega
theorem blk7 (i : Fin 1024) (j : Fin 512) :
    iblk m c 7 t (ValueIdx.ix2 i j) = m ((c : Thread nD τ).loc main_arg8) (ValueIdx.ix2 ⟨1024 * t.val + i.val, row_lt t i⟩ j) := by
  blk_ext [iblk, V_main_arg8, idx7 t]
  show t.val * 1024 + i.val = 1024 * t.val + i.val
  omega

theorem tile_ok {n g : ℕ → ℕ → EReal} (h : ArgsOk m c n g) :
    TileOk (fun i s => n (1024 * t.val + s) i) (fun s j => g (1024 * t.val + s) j) (iblk m c 0 t) (iblk m c 1 t) (iblk m c 2 t) (iblk m c 3 t) (iblk m c 4 t) (iblk m c 5 t) (iblk m c 6 t) (iblk m c 7 t) where
  n := fun i j => (blk0 m c t i j).trans (h.n _ _)
  p0 := fun i j => (blk1 m c t i j).trans (h.p0 ⟨1024 * t.val + i.val, row_lt t i⟩ j)
  p1 := fun i j => (blk2 m c t i j).trans (h.p1 ⟨1024 * t.val + i.val, row_lt t i⟩ j)
  p2 := fun i j => (blk3 m c t i j).trans (h.p2 ⟨1024 * t.val + i.val, row_lt t i⟩ j)
  p3 := fun i j => (blk4 m c t i j).trans (h.p3 ⟨1024 * t.val + i.val, row_lt t i⟩ j)
  p4 := fun i j => (blk5 m c t i j).trans (h.p4 ⟨1024 * t.val + i.val, row_lt t i⟩ j)
  p5 := fun i j => (blk6 m c t i j).trans (h.p5 ⟨1024 * t.val + i.val, row_lt t i⟩ j)
  p6 := fun i j => (blk7 m c t i j).trans (h.p6 ⟨1024 * t.val + i.val, row_lt t i⟩ j)

/-- The running sum after `k` points. -/
def sums (n g : ℕ → ℕ → EReal) (k i j : ℕ) : EReal := ∑ q ∈ Finset.range k, ∑ s : Fin 1024, n (1024 * q + s.val) i * g (1024 * q + s.val) j
theorem sums_succ (n g : ℕ → ℕ → EReal) (k : ℕ) :
    more (fun i s => n (1024 * k + s) i) (fun s j => g (1024 * k + s) j) (sums n g k) = sums n g (k + 1) := by
  funext i j; exact (Finset.sum_range_succ _ _).symm
theorem sums_rows (n g : ℕ → ℕ → EReal) (i j : ℕ) : sums n g 4 i j = ∑ s : Fin 4096, n s.val i * g s.val j := by
  have e : ∀ k, sums n g k i j = ∑ s ∈ Finset.range (1024 * k), n s i * g s j := by
    intro k
    induction k with
    | zero => rfl
    | succ k ih =>
      rw [Nat.mul_succ, Finset.sum_range_add, ← ih, ← Fin.sum_univ_eq_sum_range (fun s => n (1024 * k + s) i * g (1024 * k + s) j) 1024]
      exact Finset.sum_range_succ _ _
  rw [e 4, Fin.sum_univ_eq_sum_range (fun s => n s i * g s j) 4096]

variable {n g : ℕ → ℕ → EReal} (h : ArgsOk m c n g)
include h

/-- The scratch after a point before the last. -/
theorem scratch_ok : ∀ (k : ℕ) (hk : k < cfg0.N), k ≠ 3 → E2 (m := 1024) (n := 3584) (outsAt0 m c k hk).2 (sums n g (k + 1))
  | 0, hk, _ => by
    have e := outsAt0_A m c ⟨0, hk⟩ rfl (show ¬0 % 4 = 3 by decide)
    have r := sout0_A_0_ok c (grid0.coords ⟨0, hk⟩) (ms0_0 ⟨0, hk⟩) (hs0_0 ⟨0, hk⟩) (ms0_1 ⟨0, hk⟩) (hs0_1 ⟨0, hk⟩) (ms0_2 ⟨0, hk⟩) (hs0_2 ⟨0, hk⟩) (ms0_3 ⟨0, hk⟩) (hs0_3 ⟨0, hk⟩) (ms0_4 ⟨0, hk⟩) (hs0_4 ⟨0, hk⟩) (ms0_5 ⟨0, hk⟩) (hs0_5 ⟨0, hk⟩) (ms0_6 ⟨0, hk⟩) (hs0_6 ⟨0, hk⟩) (ms0_7 ⟨0, hk⟩) (hs0_7 ⟨0, hk⟩) (ms0_8 ⟨0, hk⟩) (hs0_8 ⟨0, hk⟩) scM0_0 (Memref.isWhole_whole _)
      (tile_ok m c ⟨0, hk⟩ h) ((hcond0_0 ⟨0, hk⟩).mpr rfl) (fun q => (show ¬0 % 4 = 3 by decide) ((hcond0_1 ⟨0, hk⟩).mp q))
    rw [← sums_succ]
    have e2 := congrArg Prod.snd e
    dsimp only at e2
    rw [e2]
    exact r
  | k + 1, hk, h3 => by
    have hN : k + 1 < 4 := lt_of_lt_of_eq hk N_0
    have h0 : ¬(k + 1) % 4 = 0 := by omega
    have h1 : ¬(k + 1) % 4 = 3 := by omega
    have ih := scratch_ok k (Nat.lt_of_succ_lt hk) (by omega)
    have e := outsAt0_B m c ⟨k + 1, hk⟩ h0 h1
    have r := sout0_B_0_ok c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) (ms0_4 ⟨k + 1, hk⟩) (hs0_4 ⟨k + 1, hk⟩) (ms0_5 ⟨k + 1, hk⟩) (hs0_5 ⟨k + 1, hk⟩) (ms0_6 ⟨k + 1, hk⟩) (hs0_6 ⟨k + 1, hk⟩) (ms0_7 ⟨k + 1, hk⟩) (hs0_7 ⟨k + 1, hk⟩) (ms0_8 ⟨k + 1, hk⟩) (hs0_8 ⟨k + 1, hk⟩) scM0_0 (Memref.isWhole_whole _)
      (tile_ok m c ⟨k + 1, hk⟩ h) (fun q => h0 ((hcond0_0 ⟨k + 1, hk⟩).mp q)) (fun q => h1 ((hcond0_1 ⟨k + 1, hk⟩).mp q)) ih
    rw [← sums_succ]
    have e2 := congrArg Prod.snd e
    dsimp only at e2
    rw [e2]
    exact r

/-- The four blocks that the last point writes out. -/
theorem last_ok (hk : 3 < cfg0.N) (y : S4x1024x896.Idx) : (outsAt0 m c 3 hk).1 y = turned (sums n g 4) y := by
  have h0 : ¬3 % 4 = 0 := by decide
  have h1 : 3 % 4 = 3 := by decide
  have ih := scratch_ok m c h 2 (lt_of_lt_of_eq (by decide) N_0.symm) (by decide)
  have e := outsAt0_C m c ⟨3, hk⟩ h0 h1
  have r := out0_C_8_ok c (grid0.coords ⟨3, hk⟩) (ms0_0 ⟨3, hk⟩) (hs0_0 ⟨3, hk⟩) (ms0_1 ⟨3, hk⟩) (hs0_1 ⟨3, hk⟩) (ms0_2 ⟨3, hk⟩) (hs0_2 ⟨3, hk⟩) (ms0_3 ⟨3, hk⟩) (hs0_3 ⟨3, hk⟩) (ms0_4 ⟨3, hk⟩) (hs0_4 ⟨3, hk⟩) (ms0_5 ⟨3, hk⟩) (hs0_5 ⟨3, hk⟩) (ms0_6 ⟨3, hk⟩) (hs0_6 ⟨3, hk⟩) (ms0_7 ⟨3, hk⟩) (hs0_7 ⟨3, hk⟩) (ms0_8 ⟨3, hk⟩) (hs0_8 ⟨3, hk⟩) scM0_0 (Memref.isWhole_whole _)
    (tile_ok m c ⟨3, hk⟩ h) (fun q => h0 ((hcond0_0 ⟨3, hk⟩).mp q)) ((hcond0_1 ⟨3, hk⟩).mpr h1) ih y
  rw [← sums_succ]
  have e2 := congrFun (congrArg Prod.fst e) y
  dsimp only at e2
  rw [e2]
  exact r

/-- The last point. -/
def tL : Fin cfg0.N := ⟨3, lt_of_lt_of_eq (by decide) N_0.symm⟩

/-- The array after the run. -/
theorem final_ok : (dats m 0 c).arrAt 8 cfg0.N = turned fun i j => ∑ s : Fin 4096, n s.val i * g s.val j := by
  refine (dats m 0 c).arrAt_eq_of_after_last 8 tL (by decide +kernel) _ fun j => ?_
  rw [after0_8]
  refine (last_ok m c h tL.isLt j).trans ?_
  blk_simp
  unfold turned
  rw [sums_rows]
end
end Win
end
-- ==== Proof.Win.Ref.lean ====
/-
  The reference's lines: the gradient's columns are sums over the rows, and its four blocks are the columns turned.
-/
module

public import proofs.«01_k».proof.Proof.Win.Blocks

@[expose] public section

set_option maxRecDepth 16384

noncomputable section

open scoped BigOperators
open Idealize.ShloMosaic Idealize.ShloMosaic.TcCoe Idealize.ShloMosaic.ValueIdx Cert.Reference2Ideal Cert.Reference2Ideal.Gen Cert.Reference2Ideal.Read

namespace Win

/-- The value at an index of natural numbers, zero outside the array. -/
def valAt {m n : ℕ} (v : (Sh m n).Idx → EReal) (i j : ℕ) : EReal :=
  if h : i < m ∧ j < n then v (ValueIdx.ix2 (⟨i, h.1⟩ : Fin m) (⟨j, h.2⟩ : Fin n)) else 0
theorem E2_valAt {m n : ℕ} (v : (Sh m n).Idx → EReal) : E2 v (valAt v) := fun i j => by
  unfold valAt; rw [dif_pos ⟨i.2, j.2⟩]

section
variable (x2 x3 x4 x5 x6 x7 x8 : (⟨S4096x512, .bf16⟩ : BufTy).Contents (Elt Ideal))

/-- The seven pieces side by side. -/
def piece : ℕ → (Sh 4096 512).Idx → EReal
  | 0 => x2
  | 1 => x3
  | 2 => x4
  | 3 => x5
  | 4 => x6
  | 5 => x7
  | _ => x8
def side (s j : ℕ) : EReal := valAt (piece x2 x3 x4 x5 x6 x7 x8 (j / 512)) s (j % 512)
theorem side_piece (p : ℕ) : E2 (m := 4096) (n := 512) (piece x2 x3 x4 x5 x6 x7 x8 p) fun s j => side x2 x3 x4 x5 x6 x7 x8 s (512 * p + j) := fun i j => by
  have hj := j.isLt
  rw [E2_valAt (piece x2 x3 x4 x5 x6 x7 x8 p) i j]
  show valAt (piece x2 x3 x4 x5 x6 x7 x8 p) i.val j.val
    = valAt (piece x2 x3 x4 x5 x6 x7 x8 ((512 * p + j.val) / 512)) i.val ((512 * p + j.val) % 512)
  rw [show (512 * p + j.val) / 512 = p by omega, show (512 * p + j.val) % 512 = j.val by omega]

theorem cat_ok : E2 (m := 4096) (n := 3200) (val_main_v1 (F := Ideal) x2 x3 x4 x5 x6 x7 x8) (side x2 x3 x4 x5 x6 x7 x8) := fun i j => by
  have hj := j.isLt
  unfold val_main_v1
  by_cases h0 : j.val < 512
  · have hq : j.val - 0 < 512 := by omega
    have hs : 0 + (j.val - 0) = j.val := by omega
    refine (concatenate_apply_piece (t := S4096x3200) 1 _ _ (ValueIdx.ix2 i j) 0 (by simp) S4096x512 x2 rfl rfl 0 rfl
      (ValueIdx.ix2 i (⟨j.val - 0, hq⟩ : Fin 512)) (fun b hb => match b with | ⟨0, _⟩ => rfl | ⟨1, _⟩ => absurd rfl hb) hs).trans ?_
    refine (side_piece x2 x3 x4 x5 x6 x7 x8 0 i ⟨j.val - 0, hq⟩).trans ?_
    exact congrArg (side x2 x3 x4 x5 x6 x7 x8 i.val) hs
  by_cases h1 : j.val < 1024
  · have hq : j.val - 512 < 512 := by omega
    have hs : 512 + (j.val - 512) = j.val := by omega
    refine (concatenate_apply_piece (t := S4096x3200) 1 _ _ (ValueIdx.ix2 i j) 1 (by simp) S4096x512 x3 rfl rfl 512 rfl
      (ValueIdx.ix2 i (⟨j.val - 512, hq⟩ : Fin 512)) (fun b hb => match b with | ⟨0, _⟩ => rfl | ⟨1, _⟩ => absurd rfl hb) hs).trans ?_
    refine (side_piece x2 x3 x4 x5 x6 x7 x8 1 i ⟨j.val - 512, hq⟩).trans ?_
    exact congrArg (side x2 x3 x4 x5 x6 x7 x8 i.val) hs
  by_cases h2 : j.val < 1536
  · have hq : j.val - 1024 < 512 := by omega
    have hs : 1024 + (j.val - 1024) = j.val := by omega
    refine (concatenate_apply_piece (t := S4096x3200) 1 _ _ (ValueIdx.ix2 i j) 2 (by simp) S4096x512 x4 rfl rfl 1024 rfl
      (ValueIdx.ix2 i (⟨j.val - 1024, hq⟩ : Fin 512)) (fun b hb => match b with | ⟨0, _⟩ => rfl | ⟨1, _⟩ => absurd rfl hb) hs).trans ?_
    refine (side_piece x2 x3 x4 x5 x6 x7 x8 2 i ⟨j.val - 1024, hq⟩).trans ?_
    exact congrArg (side x2 x3 x4 x5 x6 x7 x8 i.val) hs
  by_cases h3 : j.val < 2048
  · have hq : j.val - 1536 < 512 := by omega
    have hs : 1536 + (j.val - 1536) = j.val := by omega
    refine (concatenate_apply_piece (t := S4096x3200) 1 _ _ (ValueIdx.ix2 i j) 3 (by simp) S4096x512 x5 rfl rfl 1536 rfl
      (ValueIdx.ix2 i (⟨j.val - 1536, hq⟩ : Fin 512)) (fun b hb => match b with | ⟨0, _⟩ => rfl | ⟨1, _⟩ => absurd rfl hb) hs).trans ?_
    refine (side_piece x2 x3 x4 x5 x6 x7 x8 3 i ⟨j.val - 1536, hq⟩).trans ?_
    exact congrArg (side x2 x3 x4 x5 x6 x7 x8 i.val) hs
  by_cases h4 : j.val < 2560
  · have hq : j.val - 2048 < 512 := by omega
    have hs : 2048 + (j.val - 2048) = j.val := by omega
    refine (concatenate_apply_piece (t := S4096x3200) 1 _ _ (ValueIdx.ix2 i j) 4 (by simp) S4096x512 x6 rfl rfl 2048 rfl
      (ValueIdx.ix2 i (⟨j.val - 2048, hq⟩ : Fin 512)) (fun b hb => match b with | ⟨0, _⟩ => rfl | ⟨1, _⟩ => absurd rfl hb) hs).trans ?_
    refine (side_piece x2 x3 x4 x5 x6 x7 x8 4 i ⟨j.val - 2048, hq⟩).trans ?_
    exact congrArg (side x2 x3 x4 x5 x6 x7 x8 i.val) hs
  by_cases h5 : j.val < 3072
  · have hq : j.val - 2560 < 512 := by omega
    have hs : 2560 + (j.val - 2560) = j.val := by omega
    refine (concatenate_apply_piece (t := S4096x3200) 1 _ _ (ValueIdx.ix2 i j) 5 (by simp) S4096x512 x7 rfl rfl 2560 rfl
      (ValueIdx.ix2 i (⟨j.val - 2560, hq⟩ : Fin 512)) (fun b hb => match b with | ⟨0, _⟩ => rfl | ⟨1, _⟩ => absurd rfl hb) hs).trans ?_
    refine (side_piece x2 x3 x4 x5 x6 x7 x8 5 i ⟨j.val - 2560, hq⟩).trans ?_
    exact congrArg (side x2 x3 x4 x5 x6 x7 x8 i.val) hs
  · have hq : j.val - 3072 < 128 := by omega
    have hs : 3072 + (j.val - 3072) = j.val := by omega
    refine (concatenate_apply_piece (t := S4096x3200) 1 _ _ (ValueIdx.ix2 i j) 6 (by simp) S4096x128 (val_main_v0 (F := Ideal) x8) rfl rfl 3072 rfl
      (ValueIdx.ix2 i (⟨j.val - 3072, hq⟩ : Fin 128)) (fun b hb => match b with | ⟨0, _⟩ => rfl | ⟨1, _⟩ => absurd rfl hb) hs).trans ?_
    rw [val_main_v0_apply]
    refine Eq.trans ?_ ((side_piece x2 x3 x4 x5 x6 x7 x8 6 i ⟨j.val - 3072, by omega⟩).trans (congrArg (side x2 x3 x4 x5 x6 x7 x8 i.val) hs))
    show x8 _ = x8 _
    refine congrArg x8 (funext fun a => ?_)
    match a with
    | ⟨0, _⟩ => rfl
    | ⟨1, _⟩ => exact Fin.ext rfl

variable (x0 : (⟨S4096x1024, .f32⟩ : BufTy).Contents (Elt Ideal)) (x1 : (⟨S1x1024, .f32⟩ : BufTy).Contents (Elt Ideal))

/-- The gradient's entry. -/
def grad (i e : ℕ) : EReal := ∑ s : Fin 4096, valAt (m := 4096) (n := 1024) (val_main_v15 (F := Ideal) x0 x1) s.val i * side x2 x3 x4 x5 x6 x7 x8 s.val e

theorem grad_ok : E2 (m := 1024) (n := 3200) (val_main_v18 (F := Ideal) x0 x1 x2 x3 x4 x5 x6 x7 x8) (grad x2 x3 x4 x5 x6 x7 x8 x0 x1) := fun i e => by
  rw [val_main_v18_apply, val_main_v17_apply]
  refine Finset.sum_congr rfl fun s _ => ?_
  rw [mul_comm, val_main_v2_apply]
  refine congrArg₂ (· * ·) ?_ ?_
  · refine (congrArg (val_main_v15 (F := Ideal) x0 x1) (?_ : _ = ValueIdx.ix2 s i)).trans (E2_valAt (m := 4096) (n := 1024) _ s i)
    exact funext fun a => match a with | ⟨0, _⟩ => rfl | ⟨1, _⟩ => rfl
  · refine (congrArg (val_main_v1 (F := Ideal) x2 x3 x4 x5 x6 x7 x8) (?_ : _ = ValueIdx.ix2 s e)).trans (cat_ok x2 x3 x4 x5 x6 x7 x8 s e)
    exact funext fun a => match a with | ⟨0, _⟩ => rfl | ⟨1, _⟩ => rfl
end

/-- The columns after the first `2 q`, then these: the columns turned left by `2 q`. -/
theorem wrap {f : ℕ → ℕ → EReal} {q l r : ℕ} (hl : l + 2 * q = 896) (hr : r = 2 * q) {a : (Sh 1024 l).Idx → EReal} {b : (Sh 1024 r).Idx → EReal}
    (ha : E2 a fun i j => f (0 + i) (770 * q + j)) (hb : E2 b fun i j => f (0 + i) (768 * q + j))
    (h : Shape.Concatenates [Sh 1024 l, Sh 1024 r] (Sh 1024 896) 1) :
    E2 (concatenate (Sh 1024 896) 1 [⟨Sh 1024 l, a⟩, ⟨Sh 1024 r, b⟩] h) fun i c => f i (768 * q + (c + 2 * q) % 896) := fun i c => by
  have hc := c.isLt
  by_cases h1 : c.val < l
  · refine (concatenate_pair_apply_left (s₁ := Sh 1024 l) (s₂ := Sh 1024 r) (t := Sh 1024 896) 1 _ _ h (ValueIdx.ix2 i c) rfl
      (ValueIdx.ix2 i (⟨c.val, h1⟩ : Fin l)) (fun b => match b with | ⟨0, _⟩ => rfl | ⟨1, _⟩ => rfl)).trans ((ha _ _).trans ?_)
    show f (0 + i.val) (770 * q + c.val) = f i.val (768 * q + (c.val + 2 * q) % 896)
    rw [Nat.zero_add, Nat.mod_eq_of_lt (by omega)]
    congr 1; omega
  · refine (concatenate_pair_apply_right (s₁ := Sh 1024 l) (s₂ := Sh 1024 r) (t := Sh 1024 896) 1 _ _ h (ValueIdx.ix2 i c) rfl rfl
      (ValueIdx.ix2 i (⟨c.val - l, by omega⟩ : Fin r)) (fun b hb => match b with | ⟨0, _⟩ => rfl | ⟨1, _⟩ => absurd rfl hb)
      (by show c.val - l + l = c.val; omega)).trans ((hb _ _).trans ?_)
    show f (0 + i.val) (768 * q + (c.val - l)) = f i.val (768 * q + (c.val + 2 * q) % 896)
    rw [Nat.zero_add, show c.val + 2 * q = 896 + (c.val - l) by omega, Nat.add_mod_left, Nat.mod_eq_of_lt (by omega)]

section
variable (x2 x3 x4 x5 x6 x7 x8 : (⟨S4096x512, .bf16⟩ : BufTy).Contents (Elt Ideal))
variable (x0 : (⟨S4096x1024, .f32⟩ : BufTy).Contents (Elt Ideal)) (x1 : (⟨S1x1024, .f32⟩ : BufTy).Contents (Elt Ideal))

theorem blk_0 (u : Fin 1) (i : Fin 1024) (c : Fin 896) : val_main_v31 (F := Ideal) x0 x1 x2 x3 x4 x5 x6 x7 x8 (ValueIdx.ix3 u i c)
    = grad x2 x3 x4 x5 x6 x7 x8 x0 x1 i.val (768 * 0 + (c.val + 2 * 0) % 896) := by
  rw [val_main_v31_apply]
  unfold val_main_v21 val_main_v19 val_main_v20
  have h := grad_ok x2 x3 x4 x5 x6 x7 x8 x0 x1
  generalize val_main_v18 (F := Ideal) x0 x1 x2 x3 x4 x5 x6 x7 x8 = y at h ⊢
  exact (wrap (q := 0) rfl rfl (h.slice slices_S1024x3200_S1024x896_0_0) (h.slice slices_S1024x3200_S1024x0_0_0) concatenates_S1024x896_S1024x0_S1024x896_d1).at _
theorem blk_1 (u : Fin 1) (i : Fin 1024) (c : Fin 896) : val_main_v32 (F := Ideal) x0 x1 x2 x3 x4 x5 x6 x7 x8 (ValueIdx.ix3 u i c)
    = grad x2 x3 x4 x5 x6 x7 x8 x0 x1 i.val (768 * 1 + (c.val + 2 * 1) % 896) := by
  rw [val_main_v32_apply]
  unfold val_main_v24 val_main_v22 val_main_v23
  have h := grad_ok x2 x3 x4 x5 x6 x7 x8 x0 x1
  generalize val_main_v18 (F := Ideal) x0 x1 x2 x3 x4 x5 x6 x7 x8 = y at h ⊢
  exact (wrap (q := 1) rfl rfl (h.slice slices_S1024x3200_S1024x894_0_770) (h.slice slices_S1024x3200_S1024x2_0_768) concatenates_S1024x894_S1024x2_S1024x896_d1).at _
theorem blk_2 (u : Fin 1) (i : Fin 1024) (c : Fin 896) : val_main_v33 (F := Ideal) x0 x1 x2 x3 x4 x5 x6 x7 x8 (ValueIdx.ix3 u i c)
    = grad x2 x3 x4 x5 x6 x7 x8 x0 x1 i.val (768 * 2 + (c.val + 2 * 2) % 896) := by
  rw [val_main_v33_apply]
  unfold val_main_v27 val_main_v25 val_main_v26
  have h := grad_ok x2 x3 x4 x5 x6 x7 x8 x0 x1
  generalize val_main_v18 (F := Ideal) x0 x1 x2 x3 x4 x5 x6 x7 x8 = y at h ⊢
  exact (wrap (q := 2) rfl rfl (h.slice slices_S1024x3200_S1024x892_0_1540) (h.slice slices_S1024x3200_S1024x4_0_1536) concatenates_S1024x892_S1024x4_S1024x896_d1).at _
theorem blk_3 (u : Fin 1) (i : Fin 1024) (c : Fin 896) : val_main_v34 (F := Ideal) x0 x1 x2 x3 x4 x5 x6 x7 x8 (ValueIdx.ix3 u i c)
    = grad x2 x3 x4 x5 x6 x7 x8 x0 x1 i.val (768 * 3 + (c.val + 2 * 3) % 896) := by
  rw [val_main_v34_apply]
  unfold val_main_v30 val_main_v28 val_main_v29
  have h := grad_ok x2 x3 x4 x5 x6 x7 x8 x0 x1
  generalize val_main_v18 (F := Ideal) x0 x1 x2 x3 x4 x5 x6 x7 x8 = y at h ⊢
  exact (wrap (q := 3) rfl rfl (h.slice slices_S1024x3200_S1024x890_0_2310) (h.slice slices_S1024x3200_S1024x6_0_2304) concatenates_S1024x890_S1024x6_S1024x896_d1).at _

theorem ref_ok (y : S4x1024x896.Idx) : val_main_v36 (F := Ideal) x0 x1 x2 x3 x4 x5 x6 x7 x8 y = turned (grad x2 x3 x4 x5 x6 x7 x8 x0 x1) y := by
  rw [val_main_v36_apply]
  show val_main_v35 (F := Ideal) x0 x1 x2 x3 x4 x5 x6 x7 x8 y = _
  unfold val_main_v35 turned
  have hy : (y 0).val < 4 := (y 0).isLt
  have : (y 0).val = 0 ∨ (y 0).val = 1 ∨ (y 0).val = 2 ∨ (y 0).val = 3 := by omega
  rcases this with e | e | e | e
  · rw [e]
    exact (concatenate_apply_piece (t := S4x1024x896) 0 _ _ y 0 (by simp) S1x1024x896 (val_main_v31 (F := Ideal) x0 x1 x2 x3 x4 x5 x6 x7 x8) rfl rfl 0 rfl
      (ValueIdx.ix3 (0 : Fin 1) (y 1) (y 2)) (fun b hb => match b with | ⟨0, _⟩ => absurd rfl hb | ⟨1, _⟩ => rfl | ⟨2, _⟩ => rfl) e.symm).trans (blk_0 x2 x3 x4 x5 x6 x7 x8 x0 x1 0 (y 1) (y 2))
  · rw [e]
    exact (concatenate_apply_piece (t := S4x1024x896) 0 _ _ y 1 (by simp) S1x1024x896 (val_main_v32 (F := Ideal) x0 x1 x2 x3 x4 x5 x6 x7 x8) rfl rfl 1 rfl
      (ValueIdx.ix3 (0 : Fin 1) (y 1) (y 2)) (fun b hb => match b with | ⟨0, _⟩ => absurd rfl hb | ⟨1, _⟩ => rfl | ⟨2, _⟩ => rfl) e.symm).trans (blk_1 x2 x3 x4 x5 x6 x7 x8 x0 x1 0 (y 1) (y 2))
  · rw [e]
    exact (concatenate_apply_piece (t := S4x1024x896) 0 _ _ y 2 (by simp) S1x1024x896 (val_main_v33 (F := Ideal) x0 x1 x2 x3 x4 x5 x6 x7 x8) rfl rfl 2 rfl
      (ValueIdx.ix3 (0 : Fin 1) (y 1) (y 2)) (fun b hb => match b with | ⟨0, _⟩ => absurd rfl hb | ⟨1, _⟩ => rfl | ⟨2, _⟩ => rfl) e.symm).trans (blk_2 x2 x3 x4 x5 x6 x7 x8 x0 x1 0 (y 1) (y 2))
  · rw [e]
    exact (concatenate_apply_piece (t := S4x1024x896) 0 _ _ y 3 (by simp) S1x1024x896 (val_main_v34 (F := Ideal) x0 x1 x2 x3 x4 x5 x6 x7 x8) rfl rfl 3 rfl
      (ValueIdx.ix3 (0 : Fin 1) (y 1) (y 2)) (fun b hb => match b with | ⟨0, _⟩ => absurd rfl hb | ⟨1, _⟩ => rfl | ⟨2, _⟩ => rfl) e.symm).trans (blk_3 x2 x3 x4 x5 x6 x7 x8 x0 x1 0 (y 1) (y 2))
end
end Win
end
-- ==== Proof.Win.Main.lean ====
/-
  The two programs: the kernel's result is the reference's, entry by entry.
-/
module

public import proofs.«01_k».proof.Defs
public import proofs.«01_k».proof.Proof.Win.Ref
public import proofs.«01_k».proof.Proof.Gen.Reference2Ideal.Run

@[expose] public section

set_option maxRecDepth 16384

noncomputable section

open Idealize.ShloMosaic Idealize.SL.Sem

namespace Win

section
variable (m : (ℓ : Loc Cert.Kernel2Ideal.nD Cert.Kernel2Ideal.τ Cert.Kernel2Ideal.sig) → Buf (Elt Ideal) ℓ) (c : Dev Cert.Kernel2Ideal.nD)

/-- The launch arrays hold the normed rows and the pieces. -/
theorem holds : ArgsOk m c (valAt (m := 4096) (n := 1024) (Cert.Reference2Ideal.Read.val_main_v15 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)))) (side (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) where
  n := E2_valAt (m := 4096) (n := 1024) _
  p0 := side_piece (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) 0
  p1 := side_piece (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) 1
  p2 := side_piece (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) 2
  p3 := side_piece (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) 3
  p4 := side_piece (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) 4
  p5 := side_piece (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) 5
  p6 := side_piece (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) 6

theorem same : ((Cert.Kernel2Ideal.Gen.dats m 0 c).arrAt 8 Cert.Kernel2Ideal.cfg0.N : Cert.Kernel2Ideal.S4x1024x896.Idx → EReal) = Cert.Reference2Ideal.Read.val_main_v36 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) :=
  (final_ok m c (holds m c)).trans (funext fun y => (ref_ok (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) y).symm)
end

/-- The frame of the reference: its arguments end unchanged, and it declares no semaphore. -/
theorem frameR : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

theorem algebraic : Cert.algebraic_Kernel2Ideal_Reference2Ideal (hKernel2Ideal := Cert.Kernel2Ideal.Gen.facts) (hReference2Ideal := Cert.Reference2Ideal.Gen.facts) := by
  intro m g m' g' _ hm
  refine ⟨fun c => (Cert.Kernel2Ideal.Gen.dats m 0 c).arrAt 8 Cert.Kernel2Ideal.cfg0.N, Cert.Kernel2Ideal.Value.run_blocks m g,
    (θ_run Cert.Reference2Ideal.defs _ _).mono (fun _ h c => ?_) (Cert.Reference2Ideal.Value.run (F := Ideal) m' g')⟩
  obtain ⟨q0, qa⟩ := h c
  obtain ⟨e0, e1, e2, e3, e4, e5, e6, e7, e8⟩ := hm c
  have p0 := Cert.Reference2Ideal.Read.val_main_v36_eq (F := Ideal) (fun ℓ => m' ℓ) c
  rw [e0, e1, e2, e3, e4, e5, e6, e7, e8] at p0
  exact ⟨q0.trans (p0.trans (same m c).symm), qa⟩

end Win

end
-- ==== Proof.Inb.Run.lean ====
/-
  The body of the call, run at a grid point: at the first, which fetches the weight, and at a later one.
-/
module

public import proofs.«01_k».proof.Proof.Gen.Kernel3Ideal
public import proofs.«01_k».proof.Proof.Gen.Kernel3Ideal.Skeleton
public import proofs.«01_k».proof.Proof.Gen.Kernel3Ideal.Frame
public import Idealize.ShloMosaic.Lib.Pipeline.TableIdle

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

namespace Inb

variable {F : FTy → Type} [FloatOps F]

local notation "𝕄" => MT nD τ sig Unit (Elt F) ℕ (Pipeline.UD sig nD τ) ℕ

/-- The weight and the ordering argument, which stay in the main memory. -/
abbrev hbW : Memref sig .tc .hbm S1024x3200 .bf16 := Memref.whole main_v0
abbrev hbO : Memref sig .tc .hbm S8x128 .f32 := Memref.whole main_v1

/-- The contents of such an array, and the array held whole at contents. -/
abbrev HbBuf (c : Dev nD) {sp : Space} {S : Shape} {e : EltTy} (M : Memref sig .tc sp S e) : Type := Buf (Elt F) (M.view.loc (c : Thread nD τ))
abbrev hbAt (c : Dev nD) {sp : Space} {S : Shape} {e : EltTy} (M : Memref sig .tc sp S e) (f : HbBuf (F := F) c M) : sProp 𝕄 :=
  M.view.loc (c : Thread nD τ) ↦{fullShare} f

/-- The seven semaphores of the weight's copies, each at zero. -/
abbrev cells (c : Dev nD) : sProp 𝕄 :=
  iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0)

section
variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S512x128 .bf16) (harg11 : arg11.IsWhole)
  (arg13 : Memref sig .tc .vmem S512x1024 .f32) (harg13 : arg13.IsWhole)
  (arg14 : Memref sig .tc .vmem S1x1024 .f32) (harg14 : arg14.IsWhole)
  (arg15 : Memref sig .tc .vmem S1024x3200 .bf16) (harg15 : arg15.IsWhole)
  (x0 : Vec F S512x1024 .f32) (x1 : Vec F S512x1024 .f32) (x2 : Vec F S1x1024 .f32) (x3 : Vec F S512x512 .bf16)
  (x4 : Vec F S512x512 .bf16) (x5 : Vec F S512x512 .bf16) (x6 : Vec F S512x512 .bf16) (x7 : Vec F S512x512 .bf16)
  (x8 : Vec F S512x512 .bf16) (x9 : Vec F S512x128 .bf16)
  (w : HbBuf (F := F) c hbW) (o : HbBuf (F := F) c hbO)

/-- The ten input blocks, held at their contents. -/
abbrev ins : sProp 𝕄 :=
  iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9)

/-- The body at these blocks. -/
abbrev body : Prog (TpuEff nD τ sig (Elt F) Λ₀ .tc) PUnit :=
  cc0_in_bwd i arg1 harg1 arg2 harg2 arg3 harg3 (Memref.whole main_v0) (Memref.isWhole_whole _) arg5 harg5 arg6 harg6 arg7 harg7 arg8 harg8 arg9 harg9 arg10 harg10 arg11 harg11 (Memref.whole main_v1) (Memref.isWhole_whole _) arg13 harg13 arg14 harg14 arg15 harg15 cc0_scratch1

set_option maxHeartbeats 4000000 in set_option sl_exec.dmaWindow true in set_option sl_exec.dmaWindowSet true in
/-- The first point: what it stores into the two results' blocks and what the seven copies bring into the scratch, found
    by the run, with the proof that the body stores just that, returns its inputs and leaves the copies' semaphores at zero. -/
def runFirst (h1 : k0_cond1 i = 1#1) (h2 : k0_cond2 i = 1#1) (h3 : ¬k0_cond3 i = 1#1) :
    Σ' (L10 : List (View.Piece (Elt F) S512x1024 .f32)), Σ' (L11 : List (View.Piece (Elt F) S1x1024 .f32)), { LS : List (View.Piece (Elt F) S1024x3200 .bf16) //
      ∀ (W : Waits sig Unit) (K : PUnit → sProp 𝕄),
        iprop(ins c arg1 arg2 arg3 arg5 arg6 arg7 arg8 arg9 arg10 arg11 x0 x1 x2 x3 x4 x5 x6 x7 x8 x9 ∗ (∃ d, owns (c : Thread nD τ) arg13 fullShare d)
            ∗ (∃ d, owns (c : Thread nD τ) arg14 fullShare d) ∗ (∃ d, owns (c : Thread nD τ) arg15 fullShare d) ∗ cells c ∗ hbAt c hbW w ∗ hbAt c hbO o ∗ owes (c : Thread nD τ) 0 W
            ∗ (iprop(ins c arg1 arg2 arg3 arg5 arg6 arg7 arg8 arg9 arg10 arg11 x0 x1 x2 x3 x4 x5 x6 x7 x8 x9
              ∗ (∃ f, arg13.view.loc (c : Thread nD τ) ↦[arg13.view.set]{fullShare} arg13.view.writes (Elt F) f L10)
              ∗ (∃ f, arg14.view.loc (c : Thread nD τ) ↦[arg14.view.set]{fullShare} arg14.view.writes (Elt F) f L11)
              ∗ (∃ f, arg15.view.loc (c : Thread nD τ) ↦[arg15.view.set]{fullShare} arg15.view.writes (Elt F) f LS)
              ∗ cells c ∗ hbAt c hbW w ∗ hbAt c hbO o ∗ (∃ W', owes (c : Thread nD τ) 0 W')) -∗ K ⟨⟩))
          ⊢ wp frame (wpE (defs₀ (F := F)) Variants.none c none) Set.univ
            (body (F := F) i arg1 harg1 arg2 harg2 arg3 harg3 arg5 harg5 arg6 harg6 arg7 harg7 arg8 harg8 arg9 harg9 arg10 harg10 arg11 harg11 arg13 harg13 arg14 harg14 arg15 harg15) K } := by
  refine ⟨?_, ?_, ?_, fun W K => ?run⟩
  case run =>
    simp only [body, cc0_in_bwd_eq_skeleton]; unfold cc0_in_bwd_skel
    simp only [k0_part1_eq_skeleton, k0_part2_eq_skeleton, k0_part3_eq_skeleton, k0_part4_eq_skeleton]
    unfold ins cells owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%d11, %f11, -, H11⟩, ⟨%ds0, %fs0, -, HS⟩, ⟨Hq0, Hq1, Hq2, Hq3, Hq4, Hq5, Hq6⟩, Hh0, Hh1, HW, Hk⟩
    obtain rfl := harg1.eq_unread hf0
    obtain rfl := harg2.eq_unread hf1
    obtain rfl := harg3.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    sl_exec (disch := first | sl_exact h1 | sl_exact h2 | sl_exact h3)
    sl_step
    iapply Hk
    isplitl [H0 H1 H2 H3 H4 H5 H6 H7 H8 H9]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      iexists _; isplitr; · ipureintro; exact harg11.read_unread _
      iexact H9
    isplitl [H10]; · iexists _; iexact H10
    isplitl [H11]; · iexists _; iexact H11
    isplitl [HS]; · iexists _; iexact HS
    isplitl [Hq0 Hq1 Hq2 Hq3 Hq4 Hq5 Hq6]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      iexact Hq6
    isplitl [Hh0]; · iexact Hh0
    isplitl [Hh1]; · iexact Hh1
    iexists _; iexact HW

set_option maxHeartbeats 4000000 in set_option sl_exec.dmaWindow true in set_option sl_exec.dmaWindowSet true in
/-- A later point: the same, from the weight in the scratch and the running sum in the second result's block. -/
def runLater (h1 : ¬k0_cond1 i = 1#1) (h2 : ¬k0_cond2 i = 1#1) (h3 : k0_cond3 i = 1#1) (y : Vec F S1x1024 .f32) (s : Vec F S1024x3200 .bf16) :
    Σ' (L10 : List (View.Piece (Elt F) S512x1024 .f32)), Σ' (L11 : List (View.Piece (Elt F) S1x1024 .f32)), { LS : List (View.Piece (Elt F) S1024x3200 .bf16) //
      ∀ (W : Waits sig Unit) (K : PUnit → sProp 𝕄),
        iprop(ins c arg1 arg2 arg3 arg5 arg6 arg7 arg8 arg9 arg10 arg11 x0 x1 x2 x3 x4 x5 x6 x7 x8 x9 ∗ (∃ d, owns (c : Thread nD τ) arg13 fullShare d)
            ∗ owns (c : Thread nD τ) arg14 fullShare y ∗ owns (c : Thread nD τ) arg15 fullShare s ∗ cells c ∗ hbAt c hbW w ∗ hbAt c hbO o ∗ owes (c : Thread nD τ) 0 W
            ∗ (iprop(ins c arg1 arg2 arg3 arg5 arg6 arg7 arg8 arg9 arg10 arg11 x0 x1 x2 x3 x4 x5 x6 x7 x8 x9
              ∗ (∃ f, arg13.view.loc (c : Thread nD τ) ↦[arg13.view.set]{fullShare} arg13.view.writes (Elt F) f L10)
              ∗ (∃ f, arg14.view.loc (c : Thread nD τ) ↦[arg14.view.set]{fullShare} arg14.view.writes (Elt F) f L11)
              ∗ owns (c : Thread nD τ) arg15 fullShare s
              ∗ cells c ∗ hbAt c hbW w ∗ hbAt c hbO o ∗ (∃ W', owes (c : Thread nD τ) 0 W')) -∗ K ⟨⟩))
          ⊢ wp frame (wpE (defs₀ (F := F)) Variants.none c none) Set.univ
            (body (F := F) i arg1 harg1 arg2 harg2 arg3 harg3 arg5 harg5 arg6 harg6 arg7 harg7 arg8 harg8 arg9 harg9 arg10 harg10 arg11 harg11 arg13 harg13 arg14 harg14 arg15 harg15) K } := by
  refine ⟨?_, ?_, [], fun W K => ?run⟩
  case run =>
    simp only [body, cc0_in_bwd_eq_skeleton]; unfold cc0_in_bwd_skel
    simp only [k0_part5_eq_skeleton, k0_part6_eq_skeleton]
    unfold ins cells owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%f11, %hf11, H11⟩, ⟨%fs0, %hfs0, HS⟩, ⟨Hq0, Hq1, Hq2, Hq3, Hq4, Hq5, Hq6⟩, Hh0, Hh1, HW, Hk⟩
    obtain rfl := harg1.eq_unread hf0
    obtain rfl := harg2.eq_unread hf1
    obtain rfl := harg3.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg14.eq_unread hf11
    obtain rfl := harg15.eq_unread hfs0
    sl_exec (disch := first | sl_exact h1 | sl_exact h2 | sl_exact h3)
    sl_step
    iapply Hk
    isplitl [H0 H1 H2 H3 H4 H5 H6 H7 H8 H9]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      iexists _; isplitr; · ipureintro; exact harg11.read_unread _
      iexact H9
    isplitl [H10]; · iexists _; iexact H10
    isplitl [H11]; · iexists _; iexact H11
    isplitl [HS]
    · iexists _; isplitr; · ipureintro; exact harg15.read_unread _
      iexact HS
    isplitl [Hq0 Hq1 Hq2 Hq3 Hq4 Hq5 Hq6]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      iexact Hq6
    isplitl [Hh0]; · iexact Hh0
    isplitl [Hh1]; · iexact Hh1
    iexists _; iexact HW

end

end Inb

end
-- ==== Proof.Inb.Frame.lean ====
/-
  The whole run of the call: what every grid point leaves, and the final state.
-/
module

public import proofs.«01_k».proof.Proof.Inb.Run
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

namespace Inb

variable {F : FTy → Type} [FloatOps F]

local notation "𝕄" => MT nD τ sig Unit (Elt F) ℕ (Pipeline.UD sig nD τ) ℕ

/-- Whole buffers of the results' and the scratch's shapes, at which a list of stores is read back. -/
abbrev VX : View sig .tc .vmem S512x1024 .f32 := (Memref.whole cc0_stg10_0 : Memref sig .tc .vmem S512x1024 .f32).view
abbrev VN : View sig .tc .vmem S1x1024 .f32 := (Memref.whole cc0_stg11_0 : Memref sig .tc .vmem S1x1024 .f32).view
abbrev scr : Memref sig .tc .vmem S1024x3200 .bf16 := Memref.whole cc0_scratch0

section
variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S512x128 .bf16) (harg11 : arg11.IsWhole)
  (arg13 : Memref sig .tc .vmem S512x1024 .f32) (harg13 : arg13.IsWhole)
  (arg14 : Memref sig .tc .vmem S1x1024 .f32) (harg14 : arg14.IsWhole)
  (arg15 : Memref sig .tc .vmem S1024x3200 .bf16) (harg15 : arg15.IsWhole)
  (x0 : Vec F S512x1024 .f32) (x1 : Vec F S512x1024 .f32) (x2 : Vec F S1x1024 .f32) (x3 : Vec F S512x512 .bf16) (x4 : Vec F S512x512 .bf16) (x5 : Vec F S512x512 .bf16) (x6 : Vec F S512x512 .bf16) (x7 : Vec F S512x512 .bf16) (x8 : Vec F S512x512 .bf16) (x9 : Vec F S512x128 .bf16)
  (w : HbBuf (F := F) c hbW) (o : HbBuf (F := F) c hbO)

section
variable (h1 : k0_cond1 i = 1#1) (h2 : k0_cond2 i = 1#1) (h3 : ¬k0_cond3 i = 1#1)

/-- What the first point leaves: the block of the gradient, the row, and the weight fetched. -/
def firstX : Vec F S512x1024 .f32 := VX.read (Elt F) (VX.writes (Elt F) VX.junk (runFirst c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3).1)
def firstN : Vec F S1x1024 .f32 := VN.read (Elt F) (VN.writes (Elt F) VN.junk (runFirst c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3).2.1)
def firstW : Vec F S1024x3200 .bf16 := scr.view.read (Elt F) (scr.view.writes (Elt F) scr.view.junk (runFirst c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3).2.2.1)

theorem firstX_cover (y : S512x1024.Idx) : ∃ pc ∈ (runFirst c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3).1, y ∈ pc.1.set :=
  View.cover_of_tiledL (runFirst c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3).1 S512x1024.size (by sl_kernel_rfl) y
theorem firstN_cover (y : S1x1024.Idx) : ∃ pc ∈ (runFirst c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3).2.1, y ∈ pc.1.set :=
  View.cover_of_tiledL (runFirst c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3).2.1 S1x1024.size (by sl_kernel_rfl) y
theorem firstW_cover (y : S1024x3200.Idx) : ∃ pc ∈ (runFirst c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3).2.2.1, y ∈ pc.1.set :=
  View.cover_of_tiledBy (runFirst c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3).2.2.1 ![1024, 128] (by sl_kernel_rfl) y
end

section
variable (h1 : ¬k0_cond1 i = 1#1) (h2 : ¬k0_cond2 i = 1#1) (h3 : k0_cond3 i = 1#1) (y : Vec F S1x1024 .f32) (s : Vec F S1024x3200 .bf16)

/-- What a later point leaves. -/
def laterX : Vec F S512x1024 .f32 := VX.read (Elt F) (VX.writes (Elt F) VX.junk (runLater c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3 y s).1)
def laterN : Vec F S1x1024 .f32 := VN.read (Elt F) (VN.writes (Elt F) VN.junk (runLater c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3 y s).2.1)

theorem laterX_cover (z : S512x1024.Idx) : ∃ pc ∈ (runLater c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3 y s).1, z ∈ pc.1.set :=
  View.cover_of_tiledL (runLater c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3 y s).1 S512x1024.size (by sl_kernel_rfl) z
theorem laterN_cover (z : S1x1024.Idx) : ∃ pc ∈ (runLater c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3 y s).2.1, z ∈ pc.1.set :=
  View.cover_of_tiledL (runLater c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3 y s).2.1 S1x1024.size (by sl_kernel_rfl) z
end
end

/-! ### The grid's points -/

theorem first_of : ∀ t : Fin cfg0.N, t.val = 0 → k0_cond1 (grid0.coords t) = 1#1 ∧ k0_cond2 (grid0.coords t) = 1#1 ∧ ¬k0_cond3 (grid0.coords t) = 1#1 :=
  (by decide +kernel : ∀ t : Fin grid0.N, t.val = 0 → k0_cond1 (grid0.coords t) = 1#1 ∧ k0_cond2 (grid0.coords t) = 1#1 ∧ ¬k0_cond3 (grid0.coords t) = 1#1)
theorem later_of : ∀ t : Fin cfg0.N, t.val ≠ 0 → ¬k0_cond1 (grid0.coords t) = 1#1 ∧ ¬k0_cond2 (grid0.coords t) = 1#1 ∧ k0_cond3 (grid0.coords t) = 1#1 :=
  (by decide +kernel : ∀ t : Fin grid0.N, t.val ≠ 0 → ¬k0_cond1 (grid0.coords t) = 1#1 ∧ ¬k0_cond2 (grid0.coords t) = 1#1 ∧ k0_cond3 (grid0.coords t) = 1#1)

/-- Every point has all twelve blocks in use, and only the first finds the row fresh. -/
theorem live (w : Fin cfg0.W) (t : Fin cfg0.N) : cfg0.idle w (grid0.coords t) = false := by revert w t; decide +kernel
def freshTab : ℕ → Bool
  | 0 => true
  | n + 1 => (0x80 : ℕ).testBit n
theorem freshTab_step : ∀ t : Fin cfg0.N,
    freshTab (t.val + 1) = ((cfg0.win 11).flush t || (cfg0.idle 11 (cfg0.grid.coords t) && freshTab t.val)) := by decide +kernel
theorem fresh_eq (t : Fin cfg0.N) : cfg0.fresh 11 t.val = freshTab t.val :=
  Pipeline.Cfg.fresh_tab cfg0 11 freshTab rfl freshTab_step t.val (Nat.le_of_lt t.isLt)
theorem not_fresh : ∀ t : Fin cfg0.N, t.val ≠ 0 → cfg0.fresh 11 t.val = false := by
  intro t; rw [fresh_eq t]; revert t; decide +kernel

/-- The buffers the points hold their blocks in. -/
abbrev b0 (t : Fin cfg0.N) : Memref sig .tc .vmem S512x1024 .f32 := win0_0.stage (cfg0.slots t 0)
abbrev hb0 (t : Fin cfg0.N) : (b0 t).IsWhole := hstage0_0 ((cfg0.slots t 0).cast nbuf0_0)
abbrev b1 (t : Fin cfg0.N) : Memref sig .tc .vmem S512x1024 .f32 := win0_1.stage (cfg0.slots t 1)
abbrev hb1 (t : Fin cfg0.N) : (b1 t).IsWhole := hstage0_1 ((cfg0.slots t 1).cast nbuf0_1)
abbrev b2 (t : Fin cfg0.N) : Memref sig .tc .vmem S1x1024 .f32 := win0_2.stage (cfg0.slots t 2)
abbrev hb2 (t : Fin cfg0.N) : (b2 t).IsWhole := hstage0_2 ((cfg0.slots t 2).cast nbuf0_2)
abbrev b3 (t : Fin cfg0.N) : Memref sig .tc .vmem S512x512 .bf16 := win0_3.stage (cfg0.slots t 3)
abbrev hb3 (t : Fin cfg0.N) : (b3 t).IsWhole := hstage0_3 ((cfg0.slots t 3).cast nbuf0_3)
abbrev b4 (t : Fin cfg0.N) : Memref sig .tc .vmem S512x512 .bf16 := win0_4.stage (cfg0.slots t 4)
abbrev hb4 (t : Fin cfg0.N) : (b4 t).IsWhole := hstage0_4 ((cfg0.slots t 4).cast nbuf0_4)
abbrev b5 (t : Fin cfg0.N) : Memref sig .tc .vmem S512x512 .bf16 := win0_5.stage (cfg0.slots t 5)
abbrev hb5 (t : Fin cfg0.N) : (b5 t).IsWhole := hstage0_5 ((cfg0.slots t 5).cast nbuf0_5)
abbrev b6 (t : Fin cfg0.N) : Memref sig .tc .vmem S512x512 .bf16 := win0_6.stage (cfg0.slots t 6)
abbrev hb6 (t : Fin cfg0.N) : (b6 t).IsWhole := hstage0_6 ((cfg0.slots t 6).cast nbuf0_6)
abbrev b7 (t : Fin cfg0.N) : Memref sig .tc .vmem S512x512 .bf16 := win0_7.stage (cfg0.slots t 7)
abbrev hb7 (t : Fin cfg0.N) : (b7 t).IsWhole := hstage0_7 ((cfg0.slots t 7).cast nbuf0_7)
abbrev b8 (t : Fin cfg0.N) : Memref sig .tc .vmem S512x512 .bf16 := win0_8.stage (cfg0.slots t 8)
abbrev hb8 (t : Fin cfg0.N) : (b8 t).IsWhole := hstage0_8 ((cfg0.slots t 8).cast nbuf0_8)
abbrev b9 (t : Fin cfg0.N) : Memref sig .tc .vmem S512x128 .bf16 := win0_9.stage (cfg0.slots t 9)
abbrev hb9 (t : Fin cfg0.N) : (b9 t).IsWhole := hstage0_9 ((cfg0.slots t 9).cast nbuf0_9)
abbrev b10 (t : Fin cfg0.N) : Memref sig .tc .vmem S512x1024 .f32 := win0_10.stage (cfg0.slots t 10)
abbrev hb10 (t : Fin cfg0.N) : (b10 t).IsWhole := hstage0_10 ((cfg0.slots t 10).cast nbuf0_10)
abbrev b11 (t : Fin cfg0.N) : Memref sig .tc .vmem S1x1024 .f32 := win0_11.stage (cfg0.slots t 11)
abbrev hb11 (t : Fin cfg0.N) : (b11 t).IsWhole := hstage0_11 ((cfg0.slots t 11).cast nbuf0_11)

/-! ### What every point leaves -/

section
variable (m : (ℓ : Loc nD τ sig) → Buf (Elt F) ℓ) (ρ : Dev nD → PrngReg)

/-- What a first and a later point leave, at that point's blocks. -/
def atFirst (c : Dev nD) (t : Fin cfg0.N) (h : t.val = 0) : Vec F S512x1024 .f32 × Vec F S1x1024 .f32 × Vec F S1024x3200 .bf16 :=
  (firstX c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v0) (V m c main_v1) (first_of t h).1 (first_of t h).2.1 (first_of t h).2.2,
   firstN c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v0) (V m c main_v1) (first_of t h).1 (first_of t h).2.1 (first_of t h).2.2,
   firstW c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v0) (V m c main_v1) (first_of t h).1 (first_of t h).2.1 (first_of t h).2.2)
def atLater (c : Dev nD) (t : Fin cfg0.N) (h : t.val ≠ 0) (y : Vec F S1x1024 .f32) (s : Vec F S1024x3200 .bf16) : Vec F S512x1024 .f32 × Vec F S1x1024 .f32 × Vec F S1024x3200 .bf16 :=
  (laterX c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v0) (V m c main_v1) (later_of t h).1 (later_of t h).2.1 (later_of t h).2.2 y s,
   laterN c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v0) (V m c main_v1) (later_of t h).1 (later_of t h).2.1 (later_of t h).2.2 y s, s)

/-- The two results' blocks and the scratch after each point. -/
def st (c : Dev nD) : (n : ℕ) → n < cfg0.N → Vec F S512x1024 .f32 × Vec F S1x1024 .f32 × Vec F S1024x3200 .bf16
  | 0, hn => atFirst m c ⟨0, hn⟩ rfl
  | n + 1, hn => atLater m c ⟨n + 1, hn⟩ (Nat.succ_ne_zero n) (st c n (Nat.lt_of_succ_lt hn)).2.1 (st c n (Nat.lt_of_succ_lt hn)).2.2

theorem st_first (c : Dev nD) (t : Fin cfg0.N) (h : t.val = 0) : st m c t.val t.isLt = atFirst m c t h := by
  obtain ⟨n, hn⟩ := t
  cases n with
  | zero => exact rfl
  | succ n => exact absurd h (Nat.succ_ne_zero n)
theorem st_later (c : Dev nD) (t : Fin cfg0.N) (h : t.val ≠ 0) :
    st m c t.val t.isLt = atLater m c t h (st m c (t.val - 1) (Nat.lt_of_le_of_lt (Nat.sub_le _ _) t.isLt)).2.1 (st m c (t.val - 1) (Nat.lt_of_le_of_lt (Nat.sub_le _ _) t.isLt)).2.2 := by
  obtain ⟨n, hn⟩ := t
  cases n with
  | zero => exact absurd rfl h
  | succ n => exact rfl

/-! ### What is held between the points -/

abbrev osem : Fin 7 → SemLoc sig := fun j => (![SemLoc.dma 22, SemLoc.dma 23, SemLoc.dma 24, SemLoc.dma 25, SemLoc.dma 26, SemLoc.dma 27, SemLoc.dma 28] : Fin 7 → SemLoc sig) j
theorem osem_facts : Pipeline.OwnSemFacts spec0 osem := by decide
theorem cells_eq (c : Dev nD) :
    (Pipeline.ownSems0 (Ix := Unit) (Name := ℕ) (U := Pipeline.UD sig nD τ) (Lvl := ℕ) (Val := Elt F) (τ := τ) osem c : sProp 𝕄) = cells c := by
  rw [Pipeline.ownSems0_eq_of_list c osem [0, 1, 2, 3, 4, 5, 6] (by decide) (by decide)]; rfl
def hbs : Finset (Ref sig .tc) := {main_v0, main_v1}
theorem hbs_sub : hbs ⊆ Pipeline.restRefs sig spec0 := by decide
theorem hbs_eq (c : Dev nD) :
    (bigSep hbs (fun b => ((c : Thread nD τ).loc b) ↦{fullShare} V m c b) : sProp 𝕄) = iprop(hbAt c hbW (V m c main_v0) ∗ hbAt c hbO (V m c main_v1)) := by
  rw [BI.bigSep_eq_bigSepL_of_eq [main_v0, main_v1] (by decide) (by decide)]; rfl

/-- Between the points: the scratch, the generator, the copies' semaphores and the two arrays of the main memory. -/
def held (c : Dev nD) (S : sProp 𝕄) : sProp 𝕄 :=
  iprop(S ∗ (∃ r, prngReg c r) ∗ cells c ∗ iprop(hbAt c hbW (V m c main_v0) ∗ hbAt c hbO (V m c main_v1)))
theorem held_any (c : Dev nD) :
    (Pipeline.ΦD osem spec0 hbs (V m) c : sProp 𝕄) = held m c iprop(∃ d, owns (c : Thread nD τ) scr fullShare d) := by
  rw [Pipeline.ΦD_eq, scopedRest0_eq, cells_eq, hbs_eq]; unfold held; simp only [scr, owns_whole]; try rfl

def Phi (c : Dev nD) : (n : ℕ) → n ≤ cfg0.N → sProp 𝕄
  | 0, _ => Pipeline.ΦD osem spec0 hbs (V m) c
  | n + 1, hn => held m c (owns (c : Thread nD τ) scr fullShare ((st m c n hn).2.2))
theorem Phi_zero (c : Dev nD) (n : ℕ) (h : n ≤ cfg0.N) (hz : n = 0) : Phi m c n h = held m c iprop(∃ d, owns (c : Thread nD τ) scr fullShare d) := by
  subst hz; exact held_any m c
theorem Phi_succ (c : Dev nD) (n : ℕ) (hn : n < cfg0.N) : Phi m c (n + 1) hn = held m c (owns (c : Thread nD τ) scr fullShare ((st m c n hn).2.2)) := rfl
theorem Phi_pos (c : Dev nD) (n : ℕ) (h : n ≤ cfg0.N) (hz : n ≠ 0) :
    Phi m c n h = held m c (owns (c : Thread nD τ) scr fullShare ((st m c (n - 1) (by omega)).2.2)) := by
  cases n with
  | zero => exact absurd rfl hz
  | succ n => rfl

/-- The arrays at the start, every block after every point, and what is held between the points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (st m c t.val t.isLt).1
    | ⟨11, _⟩ => (st m c t.val t.isLt).2.1
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val (Nat.le_of_lt t.isLt) := by
  dsimp only [dats]; exact Pipeline.Dat.Φ_castSucc (Phi m c) t
theorem after10 (c : Dev nD) (t : Fin cfg0.N) : (dats m 0 c).after 10 t = (st m c t.val t.isLt).1 := by dsimp only [dats]
theorem after11 (c : Dev nD) (t : Fin cfg0.N) : (dats m 0 c).after 11 t = (st m c t.val t.isLt).2.1 := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)

theorem before11_later (c : Dev nD) (t : Fin cfg0.N) (h : t.val ≠ 0) (d) :
    (dats m 0 c).before 11 t d = (st m c (t.val - 1) (Nat.lt_of_le_of_lt (Nat.sub_le _ _) t.isLt)).2.1 := by
  rw [Dat.before_out_traj _ 11 rfl (fun _ _ => rfl) (fun t _ hi => absurd ((live 11 t).symm.trans hi) Bool.false_ne_true) t.val t rfl d,
    if_neg (by rw [not_fresh t h]; exact Bool.false_ne_true)]
  dsimp only [dats]
theorem leaves (c : Dev nD) (t : Fin cfg0.N) (w : Fin cfg0.W) : (dats m 0 c).leavesExact w t = owns (c : Thread nD τ) ((cfg0.win w).stage (cfg0.slots t w)) fullShare ((dats m 0 c).after w t) := by
  unfold Dat.leavesExact; rw [live w t]

/-! ### The body at a point -/

/-- The ten input blocks of a point, and all twelve at its start and at its end. -/
abbrev insAt (c : Dev nD) (t : Fin cfg0.N) : sProp 𝕄 :=
  ins c (b0 t) (b1 t) (b2 t) (b3 t) (b4 t) (b5 t) (b6 t) (b7 t) (b8 t) (b9 t) (iblk m c 0 t) (iblk m c 1 t) (iblk m c 2 t) (iblk m c 3 t) (iblk m c 4 t) (iblk m c 5 t) (iblk m c 6 t) (iblk m c 7 t) (iblk m c 8 t) (iblk m c 9 t)
def bodyPre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d))
    ∗ (∃ d, owns (c : Thread nD τ) (b7 t) fullShare ((dats m 0 c).before 7 t d))
    ∗ (∃ d, owns (c : Thread nD τ) (b8 t) fullShare ((dats m 0 c).before 8 t d))
    ∗ (∃ d, owns (c : Thread nD τ) (b9 t) fullShare ((dats m 0 c).before 9 t d))
    ∗ (∃ d, owns (c : Thread nD τ) (b10 t) fullShare ((dats m 0 c).before 10 t d))
    ∗ (∃ d, owns (c : Thread nD τ) (b11 t) fullShare ((dats m 0 c).before 11 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- The end of a point, from its parts. -/
def postOf (c : Dev nD) (t : Fin cfg0.N) : sProp 𝕄 :=
  iprop(held m c (owns (c : Thread nD τ) scr fullShare ((st m c t.val t.isLt).2.2)) ∗ (∃ W, owes (c : Thread nD τ) 0 W) ∗ insAt m c t
    ∗ owns (c : Thread nD τ) (b10 t) fullShare (st m c t.val t.isLt).1 ∗ owns (c : Thread nD τ) (b11 t) fullShare (st m c t.val t.isLt).2.1)
theorem post_of (c : Dev nD) (t : Fin cfg0.N) : postOf m c t ⊢ bodyPost m c t := by
  unfold postOf bodyPost insAt ins
  rw [show (dats m 0 c).Φ t.succ = Phi m c (t.val + 1) t.isLt from rfl, Phi_succ]
  unfold Dat.owesAt Pipeline.owesWithin
  rw [show (dats m 0 c).owed t.succ = 0 from rfl]
  simp only [leaves, after0, after1, after2, after3, after4, after5, after6, after7, after8, after9, after10, after11]
  iintro ⟨HP, ⟨%W, HW⟩, ⟨H0, H1, H2, H3, H4, H5, H6, H7, H8, H9⟩, H10, H11⟩
  isplitl [HP]; · iexact HP
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
theorem body_first (c : Dev nD) (t : Fin cfg0.N) (h : t.val = 0) :
    bodyPre m c t ⊢ wp frame (wpE (defs₀ (F := F)) Variants.none c none) Set.univ (bodyAt0 t) (fun _ => postOf m c t) := by
  unfold bodyPre bodyAt0 postOf
  simp only [before0, before1, before2, before3, before4, before5, before6, before7, before8, before9]
  unfold Dat.owesAt Pipeline.owesWithin
  rw [show (dats m 0 c).owed t.castSucc = 0 from rfl, Phi_castSucc, Phi_zero m c _ _ h, st_first m c t h]
  unfold held atFirst firstX firstN firstW; dsimp only
  iintro ⟨⟨HS, Hg, Hc, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  icases Hh with ⟨Hh0, Hh1⟩
  iapply ((runFirst c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v0) (V m c main_v1) (first_of t h).1 (first_of t h).2.1 (first_of t h).2.2).2.2.2 W _)
  isplitl [H0 H1 H2 H3 H4 H5 H6 H7 H8 H9]
  · unfold ins
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexists _; iexact H10
  isplitl [H11]; · iexists _; iexact H11
  isplitl [HS]; · iexact HS
  isplitl [Hc]; · iexact Hc
  isplitl [Hh0]; · iexact Hh0
  isplitl [Hh1]; · iexact Hh1
  isplitl [HW]; · iexact HW
  iintro ⟨HI, ⟨%e10, H10⟩, ⟨%e11, H11⟩, ⟨%es, HS⟩, Hc, Hh0, Hh1, HW⟩
  isplitl [HS Hg Hc Hh0 Hh1]
  · isplitl [HS]
    · unfold owns; iexists _; isplitr
      swap; · iexact HS
      ipureintro; exact View.read_writes_of_cover _ _ _ _ _ (firstW_cover c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v0) (V m c main_v1) (first_of t h).1 (first_of t h).2.1 (first_of t h).2.2)
    isplitl [Hg]; · iexact Hg
    isplitl [Hc]; · iexact Hc
    isplitl [Hh0]; · iexact Hh0
    iexact Hh1
  isplitl [HW]; · iexact HW
  isplitl [HI]; · iexact HI
  isplitl [H10]
  · unfold owns; iexists _; isplitr
    swap; · iexact H10
    ipureintro; exact View.read_writes_of_cover _ _ _ _ _ (firstX_cover c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v0) (V m c main_v1) (first_of t h).1 (first_of t h).2.1 (first_of t h).2.2)
  unfold owns; iexists _; isplitr
  swap; · iexact H11
  ipureintro; exact View.read_writes_of_cover _ _ _ _ _ (firstN_cover c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v0) (V m c main_v1) (first_of t h).1 (first_of t h).2.1 (first_of t h).2.2)

set_option maxHeartbeats 4000000 in
theorem body_later (c : Dev nD) (t : Fin cfg0.N) (h : t.val ≠ 0) :
    bodyPre m c t ⊢ wp frame (wpE (defs₀ (F := F)) Variants.none c none) Set.univ (bodyAt0 t) (fun _ => postOf m c t) := by
  unfold bodyPre bodyAt0 postOf
  simp only [before0, before1, before2, before3, before4, before5, before6, before7, before8, before9, before11_later m c t h]
  unfold Dat.owesAt Pipeline.owesWithin
  rw [show (dats m 0 c).owed t.castSucc = 0 from rfl, Phi_castSucc, Phi_pos m c _ _ h, st_later m c t h]
  unfold held atLater laterX laterN; dsimp only
  iintro ⟨⟨HS, Hg, Hc, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  icases Hh with ⟨Hh0, Hh1⟩
  iapply ((runLater c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v0) (V m c main_v1) (later_of t h).1 (later_of t h).2.1 (later_of t h).2.2 _ _).2.2.2 W _)
  isplitl [H0 H1 H2 H3 H4 H5 H6 H7 H8 H9]
  · unfold ins
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexists _; iexact H10
  isplitl [H11]; · iexact H11
  isplitl [HS]; · iexact HS
  isplitl [Hc]; · iexact Hc
  isplitl [Hh0]; · iexact Hh0
  isplitl [Hh1]; · iexact Hh1
  isplitl [HW]; · iexact HW
  iintro ⟨HI, ⟨%e10, H10⟩, ⟨%e11, H11⟩, HS, Hc, Hh0, Hh1, HW⟩
  isplitl [HS Hg Hc Hh0 Hh1]
  · isplitl [HS]; · iexact HS
    isplitl [Hg]; · iexact Hg
    isplitl [Hc]; · iexact Hc
    isplitl [Hh0]; · iexact Hh0
    iexact Hh1
  isplitl [HW]; · iexact HW
  isplitl [HI]; · iexact HI
  isplitl [H10]
  · unfold owns; iexists _; isplitr
    swap; · iexact H10
    ipureintro; exact View.read_writes_of_cover _ _ _ _ _ (laterX_cover c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v0) (V m c main_v1) (later_of t h).1 (later_of t h).2.1 (later_of t h).2.2 _ _)
  unfold owns; iexists _; isplitr
  swap; · iexact H11
  ipureintro; exact View.read_writes_of_cover _ _ _ _ _ (laterN_cover c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (V m c main_v0) (V m c main_v1) (later_of t h).1 (later_of t h).2.1 (later_of t h).2.2 _ _)

/-! ### The run -/

theorem defs_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs_row]
  exact triple_restated (if h : t.val = 0 then body_first m c t h else body_later m c t h) rfl .rfl fun _ => post_of m c t
theorem hin (c : Dev nD) : Pipeline.ΦD osem spec0 hbs (V m) c ⊢ (dats m 0 c).Φ 0 := Idealize.SL.BI.Entails.refl _
theorem hout (c : Dev nD) : (dats m 0 c).Φ (Fin.last cfg0.N) ⊢ Pipeline.ΦD osem spec0 hbs (V m) c := by
  rw [show (dats m 0 c).Φ (Fin.last cfg0.N) = Phi m c cfg0.N le_rfl from rfl, Phi_pos m c _ _ (by rw [show cfg0.N = 8 from N_0]; decide), held_any]
  unfold held
  iintro ⟨HS, H⟩
  isplitl [HS]
  · iexists _; iexact HS
  iexact H
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

-- the implicit arguments are found by unifying the conclusion with this one, which takes unfolding plain definitions in a type
set_option backward.isDefEq.respectTransparency.types false in
/-- The whole program, run: every array is what the last point leaves of it, and no semaphore holds a count. -/
theorem run_quiet : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none osem_facts hbs hbs_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The inputs are left as they were. -/
theorem kept (c : Dev nD) {r : PUnit × MemSt nD τ sig (Elt F)} (h : Pipeline.FramePost cfgs (dats m) 0 (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).1 3).trans (((dats m 0 c).arrAt_in 3 rfl _).trans ((A_eq m c 3).trans (V_main_arg4 m c))),
    ((h c).1 4).trans (((dats m 0 c).arrAt_in 4 rfl _).trans ((A_eq m c 4).trans (V_main_arg5 m c))),
    ((h c).1 5).trans (((dats m 0 c).arrAt_in 5 rfl _).trans ((A_eq m c 5).trans (V_main_arg6 m c))),
    ((h c).1 6).trans (((dats m 0 c).arrAt_in 6 rfl _).trans ((A_eq m c 6).trans (V_main_arg7 m c))),
    ((h c).1 7).trans (((dats m 0 c).arrAt_in 7 rfl _).trans ((A_eq m c 7).trans (V_main_arg8 m c))),
    ((h c).1 8).trans (((dats m 0 c).arrAt_in 8 rfl _).trans ((A_eq m c 8).trans (V_main_arg9 m c))),
    ((h c).1 9).trans (((dats m 0 c).arrAt_in 9 rfl _).trans ((A_eq m c 9).trans (V_main_arg10 m c)))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => kept m c h.1, h.2⟩) (run_quiet m ρ)

end

end Inb

end
-- ==== Proof.Inb.Both.lean ====
/-
  The third kernel read at the bit-exact values is the same text as the one read at the ideal values:
  their body tables are equal, so one run serves both frames.
-/
module

public import proofs.«01_k».proof.Defs
public import proofs.«01_k».proof.Proof.Gen.Kernel3
public import proofs.«01_k».proof.Proof.Inb.Frame

@[expose] public section

set_option maxRecDepth 65536
set_option maxHeartbeats 2000000

noncomputable section

open Idealize.ShloMosaic Idealize.SL.Sem

namespace Inb

/-- The two bodies are one function. -/
theorem body_eq : @Cert.Kernel3.cc0_in_bwd Bits _ Cert.Kernel3.Gen.facts
    = @Cert.Kernel3Ideal.cc0_in_bwd Bits _ Cert.Kernel3Ideal.Gen.facts := rfl

/-- The two tables of bodies are one table. -/
theorem table_eq : Cert.Kernel3.defs₀ (F := Bits) = Cert.Kernel3Ideal.defs₀ (F := Bits) := by
  unfold Cert.Kernel3.defs₀ Cert.Kernel3Ideal.defs₀
  refine congrArg Defs.onTc ?_
  funext l a
  match l, a with
  | 0, (t, s) => dsimp only; rw [body_eq]; rfl
  | ⟨_ + 1, h⟩, _ => exact absurd h (Nat.not_lt.2 (Nat.le_add_left _ _))

/-- So are the tables with the pipelines' own labels. -/
theorem defs_eq : Cert.Kernel3.defs (F := Bits) = Cert.Kernel3Ideal.defs (F := Bits) := by
  unfold Cert.Kernel3.defs Cert.Kernel3Ideal.defs
  exact congrArg (Pipeline.defs Cert.Kernel3Ideal.pcfgs) table_eq

/-- The third kernel's frame at the bit-exact values. -/
theorem frame_kernel3 : Cert.quiescent_Kernel3 (hKernel3 := Cert.Kernel3.Gen.facts) := by
  intro m ρ _
  rw [defs_eq]
  exact (θ_run Cert.Kernel3Ideal.defs _ _).mono (fun _ h => h) (Inb.frame (F := Bits) m ρ)

end Inb
-- ==== Proof.Inb.Pay.lean ====
/-
  The row functions of the input's derivative, and what the call computes at a grid point: its products, its norm's
  derivative, and its addend to the norm's weight's gradient, on real-valued blocks.
-/
module

public import proofs.«01_k».proof.Proof.Inb.Frame
public import proofs.«01_k».proof.Proof.Out.Pay

@[expose] public section

set_option maxRecDepth 16384

noncomputable section

open scoped BigOperators
open Idealize.ShloMosaic Idealize.ShloMosaic.ValueIdx Cert.Kernel3Ideal Cert.Kernel3Ideal.Gen
open Out (R2 eps)

namespace Inb

/-- The inputs: the residual's input `x` and the derivative `dh` reaching it, the norm's weight, the input projection `W`,
    and `p`, the derivative at the projection, its seven pieces side by side. -/
structure Inp where
  x : ℕ → ℕ → ℝ
  dh : ℕ → ℕ → ℝ
  nw : ℕ → ℝ
  W : ℕ → ℕ → ℝ
  p : ℕ → ℕ → ℝ

section
variable (a : Inp)

/-- The derivative at the normed row, and the part of it that `n` columns from `k` give. -/
def dn (s d : ℕ) : ℝ := ∑ e : Fin 3200, a.p s e.val * a.W d e.val
def seg (k n s d : ℕ) : ℝ := ∑ e : Fin n, a.p s (k + e.val) * a.W d (k + e.val)
/-- The norm: its mean, its factor, the normed row. -/
def vx (s : ℕ) : ℝ := (∑ d : Fin 1024, a.x s d.val * a.x s d.val) / 1024 + eps
def rx (s : ℕ) : ℝ := (√(vx a s))⁻¹
def xh (s d : ℕ) : ℝ := a.x s d * rx a s
/-- The derivative at the norm before its weight, its mean along the row, and the input's gradient. -/
def dx (s d : ℕ) : ℝ := dn a s d * a.nw d
def mx (s : ℕ) : ℝ := (∑ d : Fin 1024, dx a s d.val * xh a s d.val) / 1024
def gx (s d : ℕ) : ℝ := a.dh s d + rx a s * (dx a s d - xh a s d * mx a s)

theorem vx_pos (s : ℕ) : 0 < vx a s := Out.norm_pos _ _ (by norm_num)

theorem seg_range (k n s d : ℕ) : ∑ e ∈ Finset.range (k + n), a.p s e * a.W d e = (∑ e ∈ Finset.range k, a.p s e * a.W d e) + seg a k n s d := by
  rw [Finset.sum_range_add, seg, Fin.sum_univ_eq_sum_range (fun e => a.p s (k + e) * a.W d (k + e)) n]

/-- The seven products added are the product over all columns. -/
theorem segs (s d : ℕ) : 0 + seg a 0 512 s d + seg a 512 512 s d + seg a 1024 512 s d + seg a 1536 512 s d + seg a 2048 512 s d + seg a 2560 512 s d
    + seg a 3072 128 s d = dn a s d := by
  rw [dn, Fin.sum_univ_eq_sum_range (fun e => a.p s e * a.W d e) 3200, seg_range a 3072 128, seg_range a 2560 512, seg_range a 2048 512,
    seg_range a 1536 512, seg_range a 1024 512, seg_range a 512 512, show (512 : ℕ) = 0 + 512 from rfl, seg_range a 0 512, Finset.sum_range_zero]

end

/-- The product of a piece with 512 columns of the weight. -/
theorem dotA {v : S512x512.Idx → EReal} {w : S1024x512.Idx → EReal} {f g : ℕ → ℕ → ℝ} (h : R2 v f) (k : R2 w g) :
    R2 (FloatOps.matmul (F := Ideal) (φ₁ := .bf16) (φ₂ := .bf16) dot_S512x512_S1024x512_S512x1024_1_1_0_0_n_n none v w
      (constant S512x1024 .f32 0x00000000#32)) (fun i j => ∑ e : Fin 512, f i e.val * g j e.val) := fun i j => by
  rw [Ideal.matmul_constant_zero_apply, Out.coe_sum,
    ← Equiv.sum_comp (contrEquiv1 dot_S512x512_S1024x512_S512x1024_1_1_0_0_n_n 512 rfl rfl).symm]
  refine Finset.sum_congr rfl fun e _ => ?_
  rw [EReal.coe_mul, ← h i e, ← k j e]
  congr 2 <;> (funext a; match a with | ⟨0, _⟩ => rfl | ⟨1, _⟩ => rfl)
/-- … and of the last piece with the last 128 columns. -/
theorem dotB {v : S512x128.Idx → EReal} {w : S1024x128.Idx → EReal} {f g : ℕ → ℕ → ℝ} (h : R2 v f) (k : R2 w g) :
    R2 (FloatOps.matmul (F := Ideal) (φ₁ := .bf16) (φ₂ := .bf16) dot_S512x128_S1024x128_S512x1024_1_1_0_0_n_n none v w
      (constant S512x1024 .f32 0x00000000#32)) (fun i j => ∑ e : Fin 128, f i e.val * g j e.val) := fun i j => by
  rw [Ideal.matmul_constant_zero_apply, Out.coe_sum,
    ← Equiv.sum_comp (contrEquiv1 dot_S512x128_S1024x128_S512x1024_1_1_0_0_n_n 128 rfl rfl).symm]
  refine Finset.sum_congr rfl fun e _ => ?_
  rw [EReal.coe_mul, ← h i e, ← k j e]
  congr 2 <;> (funext a; match a with | ⟨0, _⟩ => rfl | ⟨1, _⟩ => rfl)

section
variable {a : Inp} {q : ℕ}

/-- The six products of 512 columns, added from zero. -/
def six (a : Inp) (q i j : ℕ) : ℝ :=
  0 + seg a 0 512 (q + i) j + seg a 512 512 (q + i) j + seg a 1024 512 (q + i) j + seg a 1536 512 (q + i) j + seg a 2048 512 (q + i) j + seg a 2560 512 (q + i) j

/-- A piece of the derivative and of the weight: columns from `k`. -/
def pT (a : Inp) (q k i e : ℕ) : ℝ := a.p (q + i) (k + e)
def WT (a : Inp) (k j e : ℕ) : ℝ := a.W j (k + e)

variable {p0 p1 p2 p3 p4 p5 : S512x512.Idx → EReal} {w0 w1 w2 w3 w4 w5 : S1024x512.Idx → EReal} {v : S512x1024.Idx → EReal}

theorem first_six (h0 : R2 p0 (pT a q 0)) (h1 : R2 p1 (pT a q 512)) (h2 : R2 p2 (pT a q 1024)) (h3 : R2 p3 (pT a q 1536)) (h4 : R2 p4 (pT a q 2048)) (h5 : R2 p5 (pT a q 2560))
    (k0 : R2 w0 (WT a 0)) (k1 : R2 w1 (WT a 512)) (k2 : R2 w2 (WT a 1024)) (k3 : R2 w3 (WT a 1536)) (k4 : R2 w4 (WT a 2048)) (k5 : R2 w5 (WT a 2560)) :
    R2 (k0_pay3 (F := Ideal) (k0_pay2 p0 w0 p1 w1 p2 w2) p3 w3 p4 w4 p5 w5) (six a q) := by
  have e := ((((((R2.const (m := 512) (n := 1024) Out.lit_zero).add (dotA h0 k0)).add (dotA h1 k1)).add (dotA h2 k2)).add (dotA h3 k3)).add (dotA h4 k4)).add (dotA h5 k5)
  exact e
theorem later_six (h0 : R2 p0 (pT a q 0)) (h1 : R2 p1 (pT a q 512)) (h2 : R2 p2 (pT a q 1024)) (h3 : R2 p3 (pT a q 1536)) (h4 : R2 p4 (pT a q 2048)) (h5 : R2 p5 (pT a q 2560))
    (k0 : R2 w0 (WT a 0)) (k1 : R2 w1 (WT a 512)) (k2 : R2 w2 (WT a 1024)) (k3 : R2 w3 (WT a 1536)) (k4 : R2 w4 (WT a 2048)) (k5 : R2 w5 (WT a 2560)) :
    R2 (k0_pay9 (F := Ideal) p0 w0 p1 w1 p2 w2 p3 w3 p4 w4 p5 w5) (six a q) := by
  have e := ((((((R2.const (m := 512) (n := 1024) Out.lit_zero).add (dotA h0 k0)).add (dotA h1 k1)).add (dotA h2 k2)).add (dotA h3 k3)).add (dotA h4 k4)).add (dotA h5 k5)
  exact e

variable {p6 : S512x128.Idx → EReal} {w6 : S1024x128.Idx → EReal} {x' d' : S512x1024.Idx → EReal} {n' y : S1x1024.Idx → EReal} {f : ℕ → ℕ → ℝ}

theorem pay4 (hv : R2 v (six a q)) (h6 : R2 p6 (pT a q 3072)) (k6 : R2 w6 (WT a 3072)) :
    R2 (k0_pay4 (F := Ideal) v p6 w6) (fun i j => dn a (q + i) j) :=
  (hv.add (dotB h6 k6)).congr fun i _ j _ => segs a (q + i) j
theorem pay5 (hx : R2 x' fun i j => a.x (q + i) j) : R2 (k0_pay5 (F := Ideal) x') (fun i _ => rx a (q + i)) :=
  ((((hx.mul hx).rowsum _ _ _ _).div (R2.const Out.lit_1024) (fun _ _ _ _ => by norm_num)).add (R2.const Out.lit_eps)).rsqrt
    (fun _ _ _ _ => Out.norm_pos _ _ (by norm_num))
theorem pay6 (hx : R2 x' fun i j => a.x (q + i) j) : R2 (k0_pay6 (F := Ideal) x') (fun i j => xh a (q + i) j) :=
  hx.mul ((pay5 hx).bcol (by decide) _)

/-- The addend of a block of rows to the norm's weight's gradient, added to a row. -/
theorem pay7 (hv : R2 v (six a q)) (h6 : R2 p6 (pT a q 3072)) (k6 : R2 w6 (WT a 3072)) (hx : R2 x' fun i j => a.x (q + i) j) (hy : R2 y f) :
    R2 (k0_pay7 (F := Ideal) v p6 w6 x' y) (fun i j => f i j + ∑ s : Fin 512, dn a (q + s.val) j * xh a (q + s.val) j) :=
  (hy.cast_self _).add (((pay4 hv h6 k6).mul (pay6 hx)).colsum _ _ _ _)
/-- The input's gradient at a block of rows. -/
theorem pay8 (hv : R2 v (six a q)) (h6 : R2 p6 (pT a q 3072)) (k6 : R2 w6 (WT a 3072)) (hx : R2 x' fun i j => a.x (q + i) j)
    (hn : R2 n' fun _ j => a.nw j) (hd : R2 d' fun i j => a.dh (q + i) j) :
    R2 (k0_pay8 (F := Ideal) v p6 w6 x' n' d') (fun i j => gx a (q + i) j) := by
  have e := (pay4 hv h6 k6).mul (hn.brow (by decide) broadcasts_S1x1024_S512x1024)
  exact hd.add (((pay5 hx).bcol (by decide) _).mul (e.sub ((pay6 hx).mul ((((e.mul (pay6 hx)).rowsum _ _ _ _).div (R2.const Out.lit_1024)
    (fun _ _ _ _ => by norm_num)).bcol (by decide) _))))
/-- A later point computes the same. -/
theorem pay13 : k0_pay13 (F := Ideal) v p6 w6 x' y = k0_pay7 (F := Ideal) v p6 w6 x' y := rfl
theorem pay14 : k0_pay14 (F := Ideal) v p6 w6 x' n' d' = k0_pay8 (F := Ideal) v p6 w6 x' n' d' := rfl
theorem pay1 : R2 (k0_pay1 (F := Ideal)) (fun _ _ => 0) := R2.const Out.lit_zero
end
end Inb
end
-- ==== Proof.Inb.Cases.lean ====
/-
  What a grid point leaves, as a function of the blocks it is given: the block of the input's gradient, the row of the
  norm's weight's gradient with this block's addend, and after the first point the whole weight in the scratch.
-/
module

public import proofs.«01_k».proof.Proof.Inb.Pay

@[expose] public section

set_option maxRecDepth 16384

noncomputable section

open scoped BigOperators
open Idealize.ShloMosaic Idealize.ShloMosaic.TcCoe Idealize.ShloMosaic.ValueIdx Cert.Kernel3Ideal Cert.Kernel3Ideal.Gen
open Out (R2 Sh PieceOk)

namespace Inb

section
variable {c : Dev nD} {w : HbBuf (F := Ideal) c hbW} {W : ℕ → ℕ → ℝ}

/-- One copy brings its columns of the weight. -/
theorem fetched {n' q : ℕ} (h : R2 (m := 1024) (n := 3200) w W) (inb : ∀ a, (![0, q] : Fin 2 → ℕ) a + (Sh 1024 n').size a ≤ (Sh 1024 3200).size a) (hs) :
    R2 (m := 1024) (n := n') (ReadAs.same.apply (View.read (Elt Ideal) ((Memref.whole main_v0).slice (Rect.unit ![0, q] (Sh 1024 n').size inb) hs).view w))
      (fun i j => W i (q + j)) := fun i j => by
  have h1 : q + n' ≤ 3200 := inb 1
  refine Eq.trans (congrArg w (?_ : _ = ix2 (n0 := 1024) (n1 := 3200) i ⟨q + j.val, by omega⟩)) (h _ _)
  funext k
  match k with
  | ⟨0, _⟩ => exact Fin.ext (by show 0 + 1 * i.val = i.val; omega)
  | ⟨1, _⟩ => exact Fin.ext (by show q + 1 * j.val = q + j.val; omega)

/-- The seven copies' pieces. -/
abbrev pieces (c : Dev nD) (w : HbBuf (F := Ideal) c hbW) : List (View.Piece (Elt Ideal) (Sh 1024 3200) .bf16) :=
  [⟨Rect.unit ![0, 3072] ![1024, 128] inb_S1024x3200_S1024x128_0_3072, runFirst.sl.dma0_6 c w⟩,
   ⟨Rect.unit ![0, 2560] ![1024, 512] inb_S1024x3200_S1024x512_0_2560, runFirst.sl.dma0_5 c w⟩,
   ⟨Rect.unit ![0, 2048] ![1024, 512] inb_S1024x3200_S1024x512_0_2048, runFirst.sl.dma0_4 c w⟩,
   ⟨Rect.unit ![0, 1536] ![1024, 512] inb_S1024x3200_S1024x512_0_1536, runFirst.sl.dma0_3 c w⟩,
   ⟨Rect.unit ![0, 1024] ![1024, 512] inb_S1024x3200_S1024x512_0_1024, runFirst.sl.dma0_2 c w⟩,
   ⟨Rect.unit ![0, 512] ![1024, 512] inb_S1024x3200_S1024x512_0_512, runFirst.sl.dma0_1 c w⟩,
   ⟨Rect.unit ![0, 0] ![1024, 512] inb_S1024x3200_S1024x512_0_0, runFirst.sl.dma0 c w⟩]

/-- A piece holds its columns of the weight. -/
theorem piece_ok {n' q : ℕ} {f : ℕ → ℕ → ℝ} {v : (Sh 1024 n').Idx → EReal} (h : R2 v (fun i j => f i (q + j)))
    (inb : ∀ a, (![0, q] : Fin 2 → ℕ) a + (Sh 1024 n').size a ≤ (Sh 1024 3200).size a) :
    PieceOk f ⟨Rect.unit (s := Sh 1024 3200) ![0, q] (Sh 1024 n').size inb, v⟩ :=
  PieceOk.unit h inb fun i _ j _ => by rw [Nat.zero_add]

theorem pieces_ok (h : R2 (m := 1024) (n := 3200) w W) : ∀ p ∈ pieces c w, PieceOk W p := by
  have g6 : PieceOk W ⟨Rect.unit (s := Sh 1024 3200) ![0, 3072] (Sh 1024 128).size inb_S1024x3200_S1024x128_0_3072, runFirst.sl.dma0_6 c w⟩ := piece_ok (fetched h _ _) _
  have g5 : PieceOk W ⟨Rect.unit (s := Sh 1024 3200) ![0, 2560] (Sh 1024 512).size inb_S1024x3200_S1024x512_0_2560, runFirst.sl.dma0_5 c w⟩ := piece_ok (fetched h _ _) _
  have g4 : PieceOk W ⟨Rect.unit (s := Sh 1024 3200) ![0, 2048] (Sh 1024 512).size inb_S1024x3200_S1024x512_0_2048, runFirst.sl.dma0_4 c w⟩ := piece_ok (fetched h _ _) _
  have g3 : PieceOk W ⟨Rect.unit (s := Sh 1024 3200) ![0, 1536] (Sh 1024 512).size inb_S1024x3200_S1024x512_0_1536, runFirst.sl.dma0_3 c w⟩ := piece_ok (fetched h _ _) _
  have g2 : PieceOk W ⟨Rect.unit (s := Sh 1024 3200) ![0, 1024] (Sh 1024 512).size inb_S1024x3200_S1024x512_0_1024, runFirst.sl.dma0_2 c w⟩ := piece_ok (fetched h _ _) _
  have g1 : PieceOk W ⟨Rect.unit (s := Sh 1024 3200) ![0, 512] (Sh 1024 512).size inb_S1024x3200_S1024x512_0_512, runFirst.sl.dma0_1 c w⟩ := piece_ok (fetched h _ _) _
  have g0 : PieceOk W ⟨Rect.unit (s := Sh 1024 3200) ![0, 0] (Sh 1024 512).size inb_S1024x3200_S1024x512_0_0, runFirst.sl.dma0 c w⟩ := piece_ok (fetched h _ _) _
  exact List.forall_mem_cons.2 ⟨g6, List.forall_mem_cons.2 ⟨g5, List.forall_mem_cons.2 ⟨g4, List.forall_mem_cons.2 ⟨g3, List.forall_mem_cons.2 ⟨g2,
    List.forall_mem_cons.2 ⟨g1, List.forall_mem_cons.2 ⟨g0, fun _ hp => absurd hp List.not_mem_nil⟩⟩⟩⟩⟩⟩⟩

theorem pieces_cover (i : Fin 1024) (j : Fin 3200) : ∃ p ∈ pieces c w, ix2 i j ∈ p.1.set := by
  refine Out.ex_cons fun h0 => Out.ex_cons fun h1 => Out.ex_cons fun h2 => Out.ex_cons fun h3 => Out.ex_cons fun h4 => Out.ex_cons fun h5 => Out.ex_cons fun h6 => ?_
  exfalso
  have := i.2
  have := j.2
  omega

/-- The columns of the weight that a load of the scratch finds after the copies. -/
theorem read_back {n' q : ℕ} (v : View sig .tc .vmem S1024x3200 .bf16) (h : R2 (m := 1024) (n := 3200) w W)
    (inb : ∀ a, (![0, q] : Fin 2 → ℕ) a + (Sh 1024 n').size a ≤ (Sh 1024 3200).size a) :
    R2 (m := 1024) (n := n') (v.readCov (Val := Elt Ideal) (pieces c w) (Rect.unit (s := Sh 1024 3200) ![0, q] (Sh 1024 n').size inb).toLoadRect) (fun j e => W j (q + e)) :=
  (R2.covb v W (pieces c w) (pieces_ok h) inb fun i j _ _ => pieces_cover i j).congr fun i _ j _ => by rw [Nat.zero_add]
end

/-- A grid point's blocks hold the rows of the inputs from `q`. -/
structure TileOk (a : Inp) (q : ℕ) (x0 x1 : Vec Ideal S512x1024 .f32) (x2 : Vec Ideal S1x1024 .f32) (x3 x4 x5 x6 x7 x8 : Vec Ideal S512x512 .bf16) (x9 : Vec Ideal S512x128 .bf16) : Prop where
  x : R2 (m := 512) (n := 1024) x0 fun i j => a.x (q + i) j
  dh : R2 (m := 512) (n := 1024) x1 fun i j => a.dh (q + i) j
  nw : R2 (m := 1) (n := 1024) x2 fun _ j => a.nw j
  p0 : R2 (m := 512) (n := 512) x3 (pT a q 0)
  p1 : R2 (m := 512) (n := 512) x4 (pT a q 512)
  p2 : R2 (m := 512) (n := 512) x5 (pT a q 1024)
  p3 : R2 (m := 512) (n := 512) x6 (pT a q 1536)
  p4 : R2 (m := 512) (n := 512) x7 (pT a q 2048)
  p5 : R2 (m := 512) (n := 512) x8 (pT a q 2560)
  p6 : R2 (m := 512) (n := 128) x9 (pT a q 3072)

section
variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S512x128 .bf16) (harg11 : arg11.IsWhole)
  (arg13 : Memref sig .tc .vmem S512x1024 .f32) (harg13 : arg13.IsWhole)
  (arg14 : Memref sig .tc .vmem S1x1024 .f32) (harg14 : arg14.IsWhole)
  (arg15 : Memref sig .tc .vmem S1024x3200 .bf16) (harg15 : arg15.IsWhole)
  {x0 : Vec Ideal S512x1024 .f32} {x1 : Vec Ideal S512x1024 .f32} {x2 : Vec Ideal S1x1024 .f32} {x3 x4 x5 x6 x7 x8 : Vec Ideal S512x512 .bf16} {x9 : Vec Ideal S512x128 .bf16}
  {w : HbBuf (F := Ideal) c hbW} (o : HbBuf (F := Ideal) c hbO) {a : Inp} {q : ℕ}
  (h : TileOk a q x0 x1 x2 x3 x4 x5 x6 x7 x8 x9)
include h

section
variable (hw : R2 (m := 1024) (n := 3200) w a.W)
include hw

theorem first_acc : R2 (m := 512) (n := 1024) (runFirst.sl.r_1 c arg5 harg5 arg6 harg6 arg7 harg7 arg8 harg8 arg9 harg9 arg10 harg10 arg15 x3 x4 x5 x6 x7 x8 w) (six a q) := by
  have e := first_six (h.p0.load00b arg5 harg5 inb_S512x512_S512x512_0_0) (h.p1.load00b arg6 harg6 inb_S512x512_S512x512_0_0) (h.p2.load00b arg7 harg7 inb_S512x512_S512x512_0_0)
    (h.p3.load00b arg8 harg8 inb_S512x512_S512x512_0_0) (h.p4.load00b arg9 harg9 inb_S512x512_S512x512_0_0) (h.p5.load00b arg10 harg10 inb_S512x512_S512x512_0_0)
    (read_back arg15.view hw inb_S1024x3200_S1024x512_0_0) (read_back arg15.view hw inb_S1024x3200_S1024x512_0_512) (read_back arg15.view hw inb_S1024x3200_S1024x512_0_1024)
    (read_back arg15.view hw inb_S1024x3200_S1024x512_0_1536) (read_back arg15.view hw inb_S1024x3200_S1024x512_0_2048) (read_back arg15.view hw inb_S1024x3200_S1024x512_0_2560)
  unfold runFirst.sl.r_1 runFirst.sl.r
  exact e

variable (h1 : k0_cond1 i = 1#1) (h2 : k0_cond2 i = 1#1) (h3 : ¬k0_cond3 i = 1#1)

theorem firstX_ok : R2 (m := 512) (n := 1024) (firstX c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3) (fun i j => gx a (q + i) j) := by
  have e := pay8 (first_acc c arg5 harg5 arg6 harg6 arg7 harg7 arg8 harg8 arg9 harg9 arg10 harg10 arg15 h hw) (h.p6.load00b arg11 harg11 inb_S512x128_S512x128_0_0)
    (read_back arg15.view hw inb_S1024x3200_S1024x128_0_3072) (h.x.load00 arg1 harg1 inb_S512x1024_S512x1024_0_0) (h.nw.load00 arg3 harg3 inb_S1x1024_S1x1024_0_0)
    (h.dh.load00 arg2 harg2 inb_S512x1024_S512x1024_0_0)
  have e2 := R2.head e [] inb_S512x1024_S512x1024_0_0
  unfold firstX
  rw [View.read_writes_junk_eq_canon]
  unfold runFirst
  dsimp only
  exact e2

theorem firstN_ok : R2 (m := 1) (n := 1024) (firstN c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3) (fun _ j => 0 + ∑ s : Fin 512, dn a (q + s.val) j * xh a (q + s.val) j) := by
  have z := R2.headCov pay1 arg14.view [] inb_S1x1024_S1x1024_0_0 inb_S1x1024_S1x1024_0_0
  have e := pay7 (first_acc c arg5 harg5 arg6 harg6 arg7 harg7 arg8 harg8 arg9 harg9 arg10 harg10 arg15 h hw) (h.p6.load00b arg11 harg11 inb_S512x128_S512x128_0_0)
    (read_back arg15.view hw inb_S1024x3200_S1024x128_0_3072) (h.x.load00 arg1 harg1 inb_S512x1024_S512x1024_0_0) z
  have e2 := R2.head e runFirst.sl.H11_1 inb_S1x1024_S1x1024_0_0
  unfold firstN
  rw [View.read_writes_junk_eq_canon]
  unfold runFirst
  dsimp only
  exact e2

omit h in
theorem firstW_ok : R2 (m := 1024) (n := 3200) (firstW (x0 := x0) (x1 := x1) (x2 := x2) (x3 := x3) (x4 := x4) (x5 := x5) (x6 := x6) (x7 := x7) (x8 := x8) (x9 := x9) c i arg1 harg1 arg2 harg2 arg3 harg3 arg5 harg5 arg6 harg6 arg7 harg7 arg8 harg8 arg9 harg9 arg10 harg10 arg11 harg11 arg13 harg13 arg14 harg14 arg15 harg15 (w := w) o h1 h2 h3) a.W := by
  have e := R2.canonb a.W (pieces c w) (pieces_ok hw) pieces_cover
  unfold firstW
  rw [View.read_writes_junk_eq_canon]
  unfold runFirst
  dsimp only
  exact e
end

section
variable (h1 : ¬k0_cond1 i = 1#1) (h2 : ¬k0_cond2 i = 1#1) (h3 : k0_cond3 i = 1#1) {y : Vec Ideal S1x1024 .f32} {s : Vec Ideal S1024x3200 .bf16} {f : ℕ → ℕ → ℝ}
  (hs : R2 (m := 1024) (n := 3200) s a.W)
include hs

omit h in
/-- The columns of the weight that a load of the scratch finds at a later point. -/
theorem kept_back {n' q : ℕ} (inb : ∀ a, (![0, q] : Fin 2 → ℕ) a + (Sh 1024 n').size a ≤ (Sh 1024 3200).size a) :
    R2 (m := 1024) (n := n') (View.readAt (Elt Ideal) arg15.view (Rect.unit (s := Sh 1024 3200) ![0, q] (Sh 1024 n').size inb).toLoadRect (harg15.unread s)) (WT a q) :=
  (hs.loadb arg15 harg15 inb).congr fun i _ j _ => by rw [Nat.zero_add]; rfl

theorem later_acc : R2 (m := 512) (n := 1024) (runLater.sl.r c arg5 harg5 arg6 harg6 arg7 harg7 arg8 harg8 arg9 harg9 arg10 harg10 arg15 harg15 x3 x4 x5 x6 x7 x8 s) (six a q) := by
  have e := later_six (h.p0.load00b arg5 harg5 inb_S512x512_S512x512_0_0) (h.p1.load00b arg6 harg6 inb_S512x512_S512x512_0_0) (h.p2.load00b arg7 harg7 inb_S512x512_S512x512_0_0)
    (h.p3.load00b arg8 harg8 inb_S512x512_S512x512_0_0) (h.p4.load00b arg9 harg9 inb_S512x512_S512x512_0_0) (h.p5.load00b arg10 harg10 inb_S512x512_S512x512_0_0)
    (kept_back arg15 harg15 hs inb_S1024x3200_S1024x512_0_0) (kept_back arg15 harg15 hs inb_S1024x3200_S1024x512_0_512) (kept_back arg15 harg15 hs inb_S1024x3200_S1024x512_0_1024)
    (kept_back arg15 harg15 hs inb_S1024x3200_S1024x512_0_1536) (kept_back arg15 harg15 hs inb_S1024x3200_S1024x512_0_2048) (kept_back arg15 harg15 hs inb_S1024x3200_S1024x512_0_2560)
  unfold runLater.sl.r
  exact e

theorem laterX_ok : R2 (m := 512) (n := 1024) (laterX c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3 y s) (fun i j => gx a (q + i) j) := by
  have e := pay8 (later_acc c arg5 harg5 arg6 harg6 arg7 harg7 arg8 harg8 arg9 harg9 arg10 harg10 arg15 harg15 h hs) (h.p6.load00b arg11 harg11 inb_S512x128_S512x128_0_0)
    (kept_back arg15 harg15 hs inb_S1024x3200_S1024x128_0_3072) (h.x.load00 arg1 harg1 inb_S512x1024_S512x1024_0_0) (h.nw.load00 arg3 harg3 inb_S1x1024_S1x1024_0_0)
    (h.dh.load00 arg2 harg2 inb_S512x1024_S512x1024_0_0)
  have e2 := R2.head e [] inb_S512x1024_S512x1024_0_0
  unfold laterX
  rw [View.read_writes_junk_eq_canon]
  unfold runLater
  dsimp only
  exact e2

theorem laterN_ok (hy : R2 (m := 1) (n := 1024) y f) : R2 (m := 1) (n := 1024) (laterN c i arg1 harg1 arg2 harg2 arg3 harg3 arg5 harg5 arg6 harg6 arg7 harg7 arg8 harg8 arg9 harg9 arg10 harg10 arg11 harg11 arg13 harg13 arg14 harg14 arg15 harg15 x0 x1 x2 x3 x4 x5 x6 x7 x8 x9 w o h1 h2 h3 y s) (fun i j => f i j + ∑ s : Fin 512, dn a (q + s.val) j * xh a (q + s.val) j) := by
  have e := pay7 (later_acc c arg5 harg5 arg6 harg6 arg7 harg7 arg8 harg8 arg9 harg9 arg10 harg10 arg15 harg15 h hs) (h.p6.load00b arg11 harg11 inb_S512x128_S512x128_0_0)
    (kept_back arg15 harg15 hs inb_S1024x3200_S1024x128_0_3072) (h.x.load00 arg1 harg1 inb_S512x1024_S512x1024_0_0) (hy.load00 arg14 harg14 inb_S1x1024_S1x1024_0_0)
  have e2 := R2.head e [] inb_S1x1024_S1x1024_0_0
  unfold laterN
  rw [View.read_writes_junk_eq_canon]
  unfold runLater
  dsimp only
  exact e2
end
end
end Inb
end
-- ==== Proof.Inb.Blocks.lean ====
/-
  The blocks that a grid point reads, as parts of the launch arrays; what the points leave; and the arrays after the run.
-/
module

public import proofs.«01_k».proof.Proof.Inb.Cases
public import proofs.«01_k».proof.Proof.Out.Fold

@[expose] public section

set_option maxRecDepth 16384

noncomputable section

open scoped BigOperators
open Idealize.ShloMosaic Idealize.ShloMosaic.TcCoe Idealize.ShloMosaic.ValueIdx Cert.Kernel3Ideal Cert.Kernel3Ideal.Gen
open Out (R2)

namespace Inb

/-- The launch arrays hold the inputs `a`; of the last piece's columns the first 128 are read on. -/
structure ArgsOk (m : (ℓ : Loc nD τ sig) → Buf (Elt Ideal) ℓ) (c : Dev nD) (a : Inp) : Prop where
  x : R2 (m := 4096) (n := 1024) (m ((c : Thread nD τ).loc main_arg0)) a.x
  dh : R2 (m := 4096) (n := 1024) (m ((c : Thread nD τ).loc main_arg1)) a.dh
  nw : R2 (m := 1) (n := 1024) (m ((c : Thread nD τ).loc main_arg2)) fun _ j => a.nw j
  W : R2 (m := 1024) (n := 3200) (m ((c : Thread nD τ).loc main_arg3)) a.W
  p0 : R2 (m := 4096) (n := 512) (m ((c : Thread nD τ).loc main_arg4)) (pT a 0 0)
  p1 : R2 (m := 4096) (n := 512) (m ((c : Thread nD τ).loc main_arg5)) (pT a 0 512)
  p2 : R2 (m := 4096) (n := 512) (m ((c : Thread nD τ).loc main_arg6)) (pT a 0 1024)
  p3 : R2 (m := 4096) (n := 512) (m ((c : Thread nD τ).loc main_arg7)) (pT a 0 1536)
  p4 : R2 (m := 4096) (n := 512) (m ((c : Thread nD τ).loc main_arg8)) (pT a 0 2048)
  p5 : R2 (m := 4096) (n := 512) (m ((c : Thread nD τ).loc main_arg9)) (pT a 0 2560)
  p6 : ∀ (i : Fin 4096) (j : Fin 128), m ((c : Thread nD τ).loc main_arg10) (ix2 i (⟨j.val, by omega⟩ : Fin 512)) = ((pT a 0 3072 i.val j.val : ℝ) : EReal)

section
variable (m : (ℓ : Loc nD τ sig) → Buf (Elt Ideal) ℓ) (c : Dev nD) (t : Fin cfg0.N)

theorem N8 : t.val < 8 := lt_of_lt_of_eq t.isLt N_0
theorem row_lt (i : Fin 512) : 512 * t.val + i.val < 4096 := by have := N8 t; omega

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem idx8 : ∀ t : Fin cfg0.N, win0_8.index t 0 = t.val ∧ win0_8.index t 1 = 0 := by decide +kernel
theorem idx9 : ∀ t : Fin cfg0.N, win0_9.index t 0 = t.val ∧ win0_9.index t 1 = 0 := by decide +kernel
theorem idx10 : ∀ t : Fin cfg0.N, win0_10.index t 0 = t.val ∧ win0_10.index t 1 = 0 := by decide +kernel
theorem idx_inj10 : ∀ t t' : Fin cfg0.N, win0_10.index t = win0_10.index t' → t = t' :=
  (by decide +kernel : ∀ t t' : Fin grid0.N, win0_10.index t = win0_10.index t' → t = t')

theorem blk0 (i : Fin 512) (j : Fin 1024) : iblk m c 0 t (ix2 i j) = m ((c : Thread nD τ).loc main_arg0) (ix2 ⟨512 * t.val + i.val, row_lt t i⟩ j) := by
  blk_ext [iblk, V_main_arg0, idx0 t]
  show t.val * 512 + i.val = 512 * t.val + i.val
  omega
theorem blk1 (i : Fin 512) (j : Fin 1024) : iblk m c 1 t (ix2 i j) = m ((c : Thread nD τ).loc main_arg1) (ix2 ⟨512 * t.val + i.val, row_lt t i⟩ j) := by
  blk_ext [iblk, V_main_arg1, idx1 t]
  show t.val * 512 + i.val = 512 * t.val + i.val
  omega
theorem blk2 (i : Fin 1) (j : Fin 1024) : iblk m c 2 t (ix2 i j) = m ((c : Thread nD τ).loc main_arg2) (ix2 i j) := by
  blk_ext [iblk, V_main_arg2, idx2 t]
theorem blk3 (i j : Fin 512) : iblk m c 3 t (ix2 i j) = m ((c : Thread nD τ).loc main_arg4) (ix2 ⟨512 * t.val + i.val, row_lt t i⟩ j) := by
  blk_ext [iblk, V_main_arg4, idx3 t]
  show t.val * 512 + i.val = 512 * t.val + i.val
  omega
theorem blk4 (i j : Fin 512) : iblk m c 4 t (ix2 i j) = m ((c : Thread nD τ).loc main_arg5) (ix2 ⟨512 * t.val + i.val, row_lt t i⟩ j) := by
  blk_ext [iblk, V_main_arg5, idx4 t]
  show t.val * 512 + i.val = 512 * t.val + i.val
  omega
theorem blk5 (i j : Fin 512) : iblk m c 5 t (ix2 i j) = m ((c : Thread nD τ).loc main_arg6) (ix2 ⟨512 * t.val + i.val, row_lt t i⟩ j) := by
  blk_ext [iblk, V_main_arg6, idx5 t]
  show t.val * 512 + i.val = 512 * t.val + i.val
  omega
theorem blk6 (i j : Fin 512) : iblk m c 6 t (ix2 i j) = m ((c : Thread nD τ).loc main_arg7) (ix2 ⟨512 * t.val + i.val, row_lt t i⟩ j) := by
  blk_ext [iblk, V_main_arg7, idx6 t]
  show t.val * 512 + i.val = 512 * t.val + i.val
  omega
theorem blk7 (i j : Fin 512) : iblk m c 7 t (ix2 i j) = m ((c : Thread nD τ).loc main_arg8) (ix2 ⟨512 * t.val + i.val, row_lt t i⟩ j) := by
  blk_ext [iblk, V_main_arg8, idx7 t]
  show t.val * 512 + i.val = 512 * t.val + i.val
  omega
theorem blk8 (i j : Fin 512) : iblk m c 8 t (ix2 i j) = m ((c : Thread nD τ).loc main_arg9) (ix2 ⟨512 * t.val + i.val, row_lt t i⟩ j) := by
  blk_ext [iblk, V_main_arg9, idx8 t]
  show t.val * 512 + i.val = 512 * t.val + i.val
  omega
theorem blk9 (i : Fin 512) (j : Fin 128) : iblk m c 9 t (ix2 i j) = m ((c : Thread nD τ).loc main_arg10) (ix2 (⟨512 * t.val + i.val, row_lt t i⟩ : Fin 4096) (⟨j.val, by omega⟩ : Fin 512)) := by
  blk_ext [iblk, V_main_arg10, idx9 t]
  show t.val * 512 + i.val = 512 * t.val + i.val
  omega

/-- The weight, which the host narrows. -/
theorem V_main_v0 : V m c main_v0 = truncf (F := Ideal) .bf16 (m ((c : Thread nD τ).loc main_arg3) : FVec Ideal S1024x3200 .f32) bitsLt_bf16_f32 := by
  rfl

/-- A piece's block is its rows. -/
theorem pT_row {a : Inp} (k : ℕ) (i j : ℕ) : pT a 0 k (512 * t.val + i) j = pT a (512 * t.val) k i j := by rw [pT, pT, Nat.zero_add]

variable {a : Inp} (h : ArgsOk m c a)
include h

theorem weight_ok : R2 (m := 1024) (n := 3200) (V m c main_v0) a.W := fun i j => by rw [V_main_v0]; exact h.W i j

theorem tile_ok : TileOk a (512 * t.val) (iblk m c 0 t) (iblk m c 1 t) (iblk m c 2 t) (iblk m c 3 t) (iblk m c 4 t) (iblk m c 5 t) (iblk m c 6 t) (iblk m c 7 t) (iblk m c 8 t) (iblk m c 9 t) where
  x := fun i j => (blk0 m c t i j).trans (h.x _ _)
  dh := fun i j => (blk1 m c t i j).trans (h.dh _ _)
  nw := fun i j => (blk2 m c t i j).trans (h.nw _ _)
  p0 := fun i j => (blk3 m c t i j).trans ((h.p0 _ _).trans (congrArg _ (pT_row t 0 i.val j.val)))
  p1 := fun i j => (blk4 m c t i j).trans ((h.p1 _ _).trans (congrArg _ (pT_row t 512 i.val j.val)))
  p2 := fun i j => (blk5 m c t i j).trans ((h.p2 _ _).trans (congrArg _ (pT_row t 1024 i.val j.val)))
  p3 := fun i j => (blk6 m c t i j).trans ((h.p3 _ _).trans (congrArg _ (pT_row t 1536 i.val j.val)))
  p4 := fun i j => (blk7 m c t i j).trans ((h.p4 _ _).trans (congrArg _ (pT_row t 2048 i.val j.val)))
  p5 := fun i j => (blk8 m c t i j).trans ((h.p5 _ _).trans (congrArg _ (pT_row t 2560 i.val j.val)))
  p6 := fun i j => (blk9 m c t i j).trans ((h.p6 ⟨512 * t.val + i.val, row_lt t i⟩ j).trans (congrArg _ (pT_row t 3072 i.val j.val)))

/-- The addends of the blocks up to `n` to the norm's weight's gradient. -/
def upTo (a : Inp) (n j : ℕ) : ℝ := ∑ k ∈ Finset.range (n + 1), ∑ s : Fin 512, dn a (512 * k + s.val) j * xh a (512 * k + s.val) j

/-- What each point leaves. -/
structure StOk (a : Inp) (n : ℕ) (s : Vec Ideal S512x1024 .f32 × Vec Ideal S1x1024 .f32 × Vec Ideal S1024x3200 .bf16) : Prop where
  gx : R2 (m := 512) (n := 1024) s.1 fun i j => Inb.gx a (512 * n + i) j
  gn : R2 (m := 1) (n := 1024) s.2.1 fun _ j => upTo a n j
  W : R2 (m := 1024) (n := 3200) s.2.2 a.W

theorem first_ok (h0 : t.val = 0) : StOk a t.val (atFirst m c t h0) := by
  have eX := firstX_ok c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (V m c main_v1)
    (tile_ok m c t h) (weight_ok m c h) (first_of t h0).1 (first_of t h0).2.1 (first_of t h0).2.2
  have eN := firstN_ok c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (V m c main_v1)
    (tile_ok m c t h) (weight_ok m c h) (first_of t h0).1 (first_of t h0).2.1 (first_of t h0).2.2
  have eW := firstW_ok (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (V m c main_v1)
    (weight_ok m c h) (first_of t h0).1 (first_of t h0).2.1 (first_of t h0).2.2
  unfold atFirst
  refine ⟨?_, ?_, ?_⟩
  · dsimp only
    exact eX
  · dsimp only
    exact eN.congr fun _ _ j _ => by rw [h0, upTo, Finset.sum_range_one, zero_add]
  · dsimp only
    exact eW

theorem later_ok (h0 : t.val ≠ 0) {y : Vec Ideal S1x1024 .f32} {s : Vec Ideal S1024x3200 .bf16} (hy : R2 (m := 1) (n := 1024) y fun _ j => upTo a (t.val - 1) j)
    (hs : R2 (m := 1024) (n := 3200) s a.W) : StOk a t.val (atLater m c t h0 y s) := by
  have eX := laterX_ok (w := V m c main_v0) (y := y) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (V m c main_v1)
    (tile_ok m c t h) (later_of t h0).1 (later_of t h0).2.1 (later_of t h0).2.2 hs
  have eN := laterN_ok (w := V m c main_v0) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) scr (Memref.isWhole_whole _) (V m c main_v1)
    (tile_ok m c t h) (later_of t h0).1 (later_of t h0).2.1 (later_of t h0).2.2 hs hy
  unfold atLater
  refine ⟨?_, ?_, hs⟩
  · dsimp only
    exact eX
  · dsimp only
    exact eN.congr fun _ _ j _ => by
      obtain ⟨n, e⟩ := Nat.exists_eq_succ_of_ne_zero h0
      rw [e, Nat.succ_eq_add_one, Nat.add_sub_cancel]
      exact (Finset.sum_range_succ _ _).symm

theorem st_ok : ∀ (n : ℕ) (hn : n < cfg0.N), StOk a n (st m c n hn)
  | 0, hn => first_ok m c ⟨0, hn⟩ h rfl
  | n + 1, hn => later_ok m c ⟨n + 1, hn⟩ h (Nat.succ_ne_zero n) (st_ok n (Nat.lt_of_succ_lt hn)).gn (st_ok n (Nat.lt_of_succ_lt hn)).W

omit h in
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

omit h in
/-- The block that point `t` writes back, read from an array: its rows. -/
theorem read10 (y : (⟨S4096x1024, .f32⟩ : BufTy).Contents (Elt Ideal)) (i : Fin 512) (j : Fin 1024) :
    ((cfg0.win 10).blk t).view.read (Elt Ideal) y (ix2 i j) = y (ix2 ⟨512 * t.val + i.val, row_lt t i⟩ j) := by
  blk_ext [idx10 t]
  show t.val * 512 + i.val = 512 * t.val + i.val
  omega

/-- The input's gradient after the run. -/
theorem out10 : R2 (m := 4096) (n := 1024) ((dats m 0 c).arrAt 10 cfg0.N) (gx a) := fun i j => by
  have hN : i.val / 512 < cfg0.N := lt_of_lt_of_eq (by omega) N_0.symm
  have e := congrFun ((dats m 0 c).read_blk_arrAt_eq_flushed 10 disjoint10 cfg0.N ⟨i.val / 512, hN⟩ hN (flush0_10 _)) (ix2 (⟨i.val % 512, Nat.mod_lt _ (by decide)⟩ : Fin 512) j)
  have e1 := read10 ⟨i.val / 512, hN⟩ ((dats m 0 c).arrAt 10 cfg0.N) ⟨i.val % 512, Nat.mod_lt _ (by decide)⟩ j
  have e2 : (⟨512 * (i.val / 512) + i.val % 512, row_lt ⟨i.val / 512, hN⟩ ⟨i.val % 512, Nat.mod_lt _ (by decide)⟩⟩ : Fin 4096) = i := Fin.ext (Nat.div_add_mod _ _)
  dsimp only at e1
  rw [e2] at e1
  refine e1.symm.trans (e.trans (((st_ok m c h (i.val / 512) hN).gx (⟨i.val % 512, Nat.mod_lt _ (by decide)⟩ : Fin 512) j).trans ?_))
  dsimp only
  rw [Nat.div_add_mod]

/-- The last point. -/
def tL : Fin cfg0.N := ⟨7, lt_of_lt_of_eq (by decide) N_0.symm⟩

theorem upTo_rows (j : ℕ) : upTo a 7 j = ∑ s : Fin 4096, dn a s.val j * xh a s.val j :=
  (Out.sum_tiles (fun s => dn a s j * xh a s j) 8).trans (Fin.sum_univ_eq_sum_range (fun s => dn a s j * xh a s j) 4096).symm

/-- The norm's weight's gradient after the run. -/
theorem out11 : R2 (m := 1) (n := 1024) ((dats m 0 c).arrAt 11 cfg0.N) (fun _ j => ∑ s : Fin 4096, dn a s.val j * xh a s.val j) := fun i j => by
  have e : (dats m 0 c).arrAt 11 cfg0.N = fun i : S1x1024.Idx => ((∑ s : Fin 4096, dn a s.val (i 1).val * xh a s.val (i 1).val : ℝ) : EReal) := by
    refine (dats m 0 c).arrAt_eq_of_after_last 11 tL (by decide +kernel) _ fun j => ?_
    rw [after11]
    refine ((st_ok m c h 7 tL.isLt).gn.at j).trans ?_
    blk_simp
    rw [upTo_rows m c h]
  exact congrFun e (ix2 i j)
end
end Inb
end
-- ==== Proof.Inb.Ref.lean ====
/-
  The reference's gradients, read one operation at a time: each array it computes is the spec's function of the inputs.
-/
module

public import proofs.«01_k».proof.Proof.Gen.Reference3Ideal.Read
public import proofs.«01_k».proof.Proof.Inb.Pay
public import proofs.«01_k».proof.Proof.Out.Ref

@[expose] public section

set_option maxRecDepth 16384

noncomputable section

open scoped BigOperators
open Idealize.ShloMosaic Idealize.ShloMosaic.ValueIdx Cert.Reference3Ideal Cert.Reference3Ideal.Gen Cert.Reference3Ideal.Read
open Out (EqR o_mul o_add o_div o_rsqrt o_sum o_dot rms_back)
open Out.Ref (c_zero c_1024 c_eps c_neghalf n1024)

namespace Inb.Ref

/-- The reference's arguments hold the inputs `a`. -/
structure RefIn (x0 x1 : (⟨S4096x1024, .f32⟩ : BufTy).Contents (Elt Ideal)) (x2 : (⟨S1x1024, .f32⟩ : BufTy).Contents (Elt Ideal)) (x3 : (⟨S1024x3200, .f32⟩ : BufTy).Contents (Elt Ideal))
    (x4 x5 x6 x7 x8 x9 x10 : (⟨S4096x512, .bf16⟩ : BufTy).Contents (Elt Ideal)) (a : Inp) : Prop where
  x : EqR x0 fun i => a.x (i 0).val (i 1).val
  dh : EqR x1 fun i => a.dh (i 0).val (i 1).val
  nw : EqR x2 fun i => a.nw (i 1).val
  W : EqR x3 fun i => a.W (i 0).val (i 1).val
  p : EqR (val_main_v1 (F := Ideal) x4 x5 x6 x7 x8 x9 x10) fun i => a.p (i 0).val (i 1).val

section
variable {x0 x1 : (⟨S4096x1024, .f32⟩ : BufTy).Contents (Elt Ideal)} {x2 : (⟨S1x1024, .f32⟩ : BufTy).Contents (Elt Ideal)} {x3 : (⟨S1024x3200, .f32⟩ : BufTy).Contents (Elt Ideal)}
  {x4 x5 x6 x7 x8 x9 x10 : (⟨S4096x512, .bf16⟩ : BufTy).Contents (Elt Ideal)} {a : Inp} (h : RefIn x0 x1 x2 x3 x4 x5 x6 x7 x8 x9 x10 a)
include h

theorem e9 : EqR (val_main_v9 (F := Ideal) x0) fun i => vx a (i 0).val := fun i => by
  simp only [val_main_v9_apply, val_main_v7_apply, val_main_v5_apply, val_main_v4_apply, val_main_v3_apply, val_main_cst_apply, val_main_v6_apply, val_main_cst_0_apply, val_main_v8_apply, val_main_cst_1_apply, h.x, c_zero, c_1024, c_eps, o_mul, o_sum, o_div _ _ n1024, o_add]
  rfl
theorem e10 : EqR (val_main_v10 (F := Ideal) x0) fun i => rx a (i 0).val := fun i => by
  simp only [val_main_v10_apply, e9 h, o_rsqrt _ (vx_pos _ _)]
  rfl
theorem e13 : EqR (val_main_v13 (F := Ideal) x0) fun i => -(1 / 2) * (rx a (i 0).val / vx a (i 0).val) := fun i => by
  simp only [val_main_v13_apply, val_main_v12_apply, val_main_cst_2_apply, val_main_v11_apply, e9 h, e10 h, c_neghalf, o_div _ _ (vx_pos _ _).ne', o_mul]
theorem e15 : EqR (val_main_v15 (F := Ideal) x0) fun i => xh a (i 0).val (i 1).val := fun i => by
  simp only [val_main_v15_apply, val_main_v14_apply, h.x, e10 h, o_mul]
  rfl
theorem e2 : EqR (val_main_v2 (F := Ideal) x4 x5 x6 x7 x8 x9 x10) fun i => a.p (i 0).val (i 1).val := fun i => by
  rw [val_main_v2_apply]
  exact h.p i
theorem e19 : EqR (val_main_v19 (F := Ideal) x3 x4 x5 x6 x7 x8 x9 x10) fun i => dn a (i 0).val (i 1).val := fun i => by
  simp only [val_main_v19_apply, e2 h, h.W, o_dot]
  rfl
theorem e22 : EqR (val_main_v22 (F := Ideal) x0 x3 x4 x5 x6 x7 x8 x9 x10) fun i => ∑ s : Fin 4096, dn a s.val (i 1).val * xh a s.val (i 1).val := fun i => by
  simp only [val_main_v22_apply, val_main_v21_apply, val_main_cst_3_apply, val_main_v20_apply, e15 h, e19 h, c_zero, o_mul, o_sum]
  have h0 : (i 0).val < 1 := (i 0).isLt
  have e : (i 0).val * 1024 + (i 1).val = (i 1).val := by omega
  rw [e]
  exact congrArg _ (Finset.sum_congr rfl fun _ _ => mul_comm _ _)
theorem e24 : EqR (val_main_v24 (F := Ideal) x2 x3 x4 x5 x6 x7 x8 x9 x10) fun i => dx a (i 0).val (i 1).val := fun i => by
  simp only [val_main_v24_apply, val_main_v23_apply, e19 h, h.nw, o_mul]
  rfl
/-- The part of the gradient that comes through the mean square. -/
def vp (a : Inp) (s : ℕ) : ℝ := (∑ d : Fin 1024, a.x s d.val * dx a s d.val) * (-(1 / 2) * (rx a s / vx a s)) / 1024
theorem e33 : EqR (val_main_v33 (F := Ideal) x0 x2 x3 x4 x5 x6 x7 x8 x9 x10) fun i => vp a (i 0).val := fun i => by
  simp only [val_main_v33_apply, val_main_v32_apply, val_main_cst_5_apply, val_main_v31_apply, val_main_v27_apply, val_main_v26_apply, val_main_cst_4_apply, val_main_v25_apply, h.x, e24 h, e13 h, c_zero, c_1024, o_mul, o_sum, o_div _ _ n1024]
  have h0 : (i 1).val < 1 := (i 1).isLt
  have e : (i 0).val * 1 + (i 1).val = (i 0).val := by omega
  rw [e]
  rfl
theorem e35 : EqR (val_main_v35 (F := Ideal) x0 x2 x3 x4 x5 x6 x7 x8 x9 x10) fun i => vp a (i 0).val := fun i => by
  simp only [val_main_v35_apply, val_main_v34_apply, val_main_cst_6_apply, e33 h, c_zero, EReal.coe_zero, zero_add, Finset.univ_unique, Finset.sum_singleton]
theorem e39 : EqR (val_main_v39 (F := Ideal) x0 x1 x2 x3 x4 x5 x6 x7 x8 x9 x10) fun i => gx a (i 0).val (i 1).val := fun i => by
  simp only [val_main_v39_apply, val_main_v38_apply, val_main_v37_apply, val_main_v36_apply, val_main_v30_apply, val_main_v29_apply, val_main_v28_apply, h.x, h.dh, e24 h, e10 h, e35 h, o_mul, o_add]
  refine congrArg _ ?_
  have e := rms_back (vx a (i 0).val) (vx_pos _ _) (dx a (i 0).val (i 1).val) (a.x (i 0).val (i 1).val) (∑ d : Fin 1024, a.x (i 0).val d.val * dx a (i 0).val d.val) 1024 n1024
  rw [add_assoc] at e
  rw [add_assoc, add_assoc]
  refine (congrArg (a.dh (i 0).val (i 1).val + ·) e).trans ?_
  have em : (√(vx a (i 0).val))⁻¹ * (∑ d : Fin 1024, a.x (i 0).val d.val * dx a (i 0).val d.val) / 1024 = mx a (i 0).val := by
    rw [mx, Finset.mul_sum]
    exact congrArg (· / 1024) (Finset.sum_congr rfl fun d _ => by rw [xh, rx]; ring)
  rw [em]
  rfl
end
end Inb.Ref
end
-- ==== Proof.Inb.Fin.lean ====
/-
  What the precondition says: every entry that the step reads is a real number.
-/
module

public import proofs.«01_k».proof.Proof.Inb.Blocks
public import proofs.«01_k».proof.Proof.Inb.Ref
public import proofs.«01_k».proof.Proof.Out.Main
public import proofs.«01_k».proof.Proof.Win.Ref
public import proofs.«01_k».proof.Proof.Gen.Pre_finite3

@[expose] public section

set_option maxRecDepth 16384

noncomputable section

open Idealize.ShloMosaic
open Out (Sh)

namespace Inb

/-- Every entry is a real. -/
abbrev Rl {s : Shape} (x : s.Idx → EReal) : Prop := ∀ i, x i = (((x i).toReal : ℝ) : EReal)

open Cert.Pre_finite3 Cert.Pre_finite3.Facts in
theorem reals {x0 x1 : FVec Ideal S4096x1024 .f32} {x2 : FVec Ideal S1x1024 .f32} {x3 : FVec Ideal S1024x3200 .f32} {x4 x5 x6 x7 x8 x9 x10 : FVec Ideal S4096x512 .bf16}
    (h : fn (F := Ideal) x0 x1 x2 x3 x4 x5 x6 x7 x8 x9 x10 = fun _ => 1#1) :
    Rl x0 ∧ Rl x1 ∧ Rl x2 ∧ Rl x3 ∧ Rl x4 ∧ Rl x5 ∧ Rl x6 ∧ Rl x7 ∧ Rl x8 ∧ Rl x9 ∧ Rl (extractStridedSlice S4096x128 ![0, 0] x10 slices_S4096x512_S4096x128_0_0) := by
  have e : IntOp.andi (IntOp.andi (IntOp.andi (IntOp.andi (IntOp.andi (IntOp.andi (IntOp.andi (IntOp.andi (IntOp.andi (IntOp.andi (Out.allFin x0 bcast_S_S4096x1024 reducesTo_S4096x1024_S_d0_1 h_S_ (fun a => a.elim0))
      (Out.allFin x1 bcast_S_S4096x1024 reducesTo_S4096x1024_S_d0_1 h_S_ (fun a => a.elim0)))
      (Out.allFin x2 bcast_S_S1x1024 reducesTo_S1x1024_S_d0_1 h_S_ (fun a => a.elim0)))
      (Out.allFin x3 bcast_S_S1024x3200 reducesTo_S1024x3200_S_d0_1 h_S_ (fun a => a.elim0)))
      (Out.allFin (extf .f32 x4 bitsLt_bf16_f32) bcast_S_S4096x512 reducesTo_S4096x512_S_d0_1 h_S_ (fun a => a.elim0)))
      (Out.allFin (extf .f32 x5 bitsLt_bf16_f32) bcast_S_S4096x512 reducesTo_S4096x512_S_d0_1 h_S_ (fun a => a.elim0)))
      (Out.allFin (extf .f32 x6 bitsLt_bf16_f32) bcast_S_S4096x512 reducesTo_S4096x512_S_d0_1 h_S_ (fun a => a.elim0)))
      (Out.allFin (extf .f32 x7 bitsLt_bf16_f32) bcast_S_S4096x512 reducesTo_S4096x512_S_d0_1 h_S_ (fun a => a.elim0)))
      (Out.allFin (extf .f32 x8 bitsLt_bf16_f32) bcast_S_S4096x512 reducesTo_S4096x512_S_d0_1 h_S_ (fun a => a.elim0)))
      (Out.allFin (extf .f32 x9 bitsLt_bf16_f32) bcast_S_S4096x512 reducesTo_S4096x512_S_d0_1 h_S_ (fun a => a.elim0)))
      (Out.allFin (extf .f32 (extractStridedSlice S4096x128 ![0, 0] x10 slices_S4096x512_S4096x128_0_0) bitsLt_bf16_f32) bcast_S_S4096x128 reducesTo_S4096x128_S_d0_1 h_S_ (fun a => a.elim0)) = 1#1 :=
    congrFun h (fun a => a.elim0)
  clear h
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨Out.real_of_all _ _ _ _ _ h0, Out.real_of_all _ _ _ _ _ h1, Out.real_of_all _ _ _ _ _ h2, Out.real_of_all _ _ _ _ _ h3, Out.real_of_all _ _ _ _ _ h4, Out.real_of_all _ _ _ _ _ h5, Out.real_of_all _ _ _ _ _ h6, Out.real_of_all _ _ _ _ _ h7, Out.real_of_all _ _ _ _ _ h8, Out.real_of_all _ _ _ _ _ h9, Out.real_of_all _ _ _ _ _ h10⟩

/-- The inputs of the arrays. -/
def inpOf (x0 x1 : (Sh 4096 1024).Idx → EReal) (x2 : (Sh 1 1024).Idx → EReal) (x3 : (Sh 1024 3200).Idx → EReal) (x4 x5 x6 x7 x8 x9 x10 : (Sh 4096 512).Idx → EReal) : Inp where
  x := Out.realAt x0
  dh := Out.realAt x1
  nw := fun j => Out.realAt x2 0 j
  W := Out.realAt x3
  p := fun s e => (Win.side x4 x5 x6 x7 x8 x9 x10 s e).toReal

section
open Cert.Reference3Ideal Cert.Reference3Ideal.Read
variable {x0 x1 : (⟨S4096x1024, .f32⟩ : BufTy).Contents (Elt Ideal)} {x2 : (⟨S1x1024, .f32⟩ : BufTy).Contents (Elt Ideal)} {x3 : (⟨S1024x3200, .f32⟩ : BufTy).Contents (Elt Ideal)}
  {x4 x5 x6 x7 x8 x9 x10 : (⟨S4096x512, .bf16⟩ : BufTy).Contents (Elt Ideal)}

/-- A piece whose entries are real holds its columns. -/
theorem piece_real (k : ℕ) {v : (Sh 4096 512).Idx → EReal} (hv : Rl v) (e : Win.E2 (m := 4096) (n := 512) v fun s j => Win.side x4 x5 x6 x7 x8 x9 x10 s (512 * k + j)) :
    Out.R2 (m := 4096) (n := 512) v (pT (inpOf x0 x1 x2 x3 x4 x5 x6 x7 x8 x9 x10) 0 (512 * k)) := fun i j => by
  rw [hv, pT, Nat.zero_add]
  exact congrArg (fun z : EReal => ((z.toReal : ℝ) : EReal)) (e i j)

variable (h : Cert.Pre_finite3.fn (F := Ideal) x0 x1 x2 x3 x4 x5 x6 x7 x8 x9 x10 = fun _ => 1#1)
include h

/-- The last piece's first columns are real. -/
theorem last_real (i : Fin 4096) (j : ℕ) (hj : j < 128) (hj' : j < 512) : x10 (ValueIdx.ix2 i (⟨j, hj'⟩ : Fin 512)) = (((x10 (ValueIdx.ix2 i (⟨j, hj'⟩ : Fin 512)) : EReal).toReal : ℝ) : EReal) := by
  obtain ⟨-, -, -, -, -, -, -, -, -, -, r⟩ := reals h
  have e := val_main_v0_apply (F := Ideal) x10 (ValueIdx.ix2 i (⟨j, hj⟩ : Fin 128))
  have ei : idx_main_v0 (ValueIdx.ix2 i (⟨j, hj⟩ : Fin 128)) = ValueIdx.ix2 i (⟨j, hj'⟩ : Fin 512) := funext fun a => match a with | ⟨0, _⟩ => rfl | ⟨1, _⟩ => rfl
  rw [ei] at e
  rw [← e]
  exact r _

theorem side_real {s j : ℕ} (hs : s < 4096) (hj : j < 3200) : Win.side x4 x5 x6 x7 x8 x9 x10 s j = (((Win.side x4 x5 x6 x7 x8 x9 x10 s j).toReal : ℝ) : EReal) := by
  have e := Win.side_piece x4 x5 x6 x7 x8 x9 x10 (j / 512) ⟨s, hs⟩ ⟨j % 512, Nat.mod_lt _ (by decide)⟩
  dsimp only at e
  rw [Nat.div_add_mod] at e
  rw [← e]
  obtain ⟨-, -, -, -, r4, r5, r6, r7, r8, r9, -⟩ := reals h
  have hk : j / 512 = 0 ∨ j / 512 = 1 ∨ j / 512 = 2 ∨ j / 512 = 3 ∨ j / 512 = 4 ∨ j / 512 = 5 ∨ j / 512 = 6 ∧ j % 512 < 128 := by omega
  rcases hk with hk | hk | hk | hk | hk | hk | ⟨hk, h6⟩ <;> rw [hk]
  · exact r4 _
  · exact r5 _
  · exact r6 _
  · exact r7 _
  · exact r8 _
  · exact r9 _
  · exact last_real h ⟨s, hs⟩ (j % 512) h6 _

/-- The reference's arguments hold the inputs. -/
theorem holdsR : Ref.RefIn x0 x1 x2 x3 x4 x5 x6 x7 x8 x9 x10 (inpOf x0 x1 x2 x3 x4 x5 x6 x7 x8 x9 x10) := by
  obtain ⟨h0, h1, h2, h3, -⟩ := reals h
  refine ⟨fun i => (Out.R2_realAt (m := 4096) (n := 1024) x0 h0).at i, fun i => (Out.R2_realAt (m := 4096) (n := 1024) x1 h1).at i, fun i => ?_,
    fun i => (Out.R2_realAt (m := 1024) (n := 3200) x3 h3).at i, fun i => ?_⟩
  · exact ((Out.R2_realAt (m := 1) (n := 1024) x2 h2).at i).trans (by rw [show (i 0).val = 0 from Nat.lt_one_iff.1 (i 0).isLt]; rfl)
  · exact ((Win.cat_ok x4 x5 x6 x7 x8 x9 x10).at i).trans (side_real h (i 0).isLt (i 1).isLt)
end

section
open Cert.Kernel3Ideal Idealize.ShloMosaic.TcCoe
variable (m : (ℓ : Loc nD τ sig) → Buf (Elt Ideal) ℓ) (c : Dev nD)

/-- The inputs that the launch arrays hold. -/
def inpAt : Inp := inpOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The kernel's arguments hold the inputs. -/
theorem holdsK (h : Cert.Pre_finite3.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = fun _ => 1#1) :
    ArgsOk m c (inpAt m c) := by
  have hr := reals h
  obtain ⟨h0, h1, h2, h3, h4, h5, h6, h7, h8, h9, -⟩ := hr
  have sp := Win.side_piece (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
  refine ⟨Out.R2_realAt (m := 4096) (n := 1024) _ h0, Out.R2_realAt (m := 4096) (n := 1024) _ h1, fun i j => ?_, Out.R2_realAt (m := 1024) (n := 3200) _ h3,
    piece_real 0 h4 (sp 0), piece_real 1 h5 (sp 1), piece_real 2 h6 (sp 2), piece_real 3 h7 (sp 3), piece_real 4 h8 (sp 4), piece_real 5 h9 (sp 5), fun i j => ?_⟩
  · exact (Out.R2_realAt (m := 1) (n := 1024) _ h2 i j).trans (by rw [Subsingleton.elim i 0]; rfl)
  · refine (last_real h i j.val j.isLt (by omega)).trans ?_
    rw [pT, Nat.zero_add]
    exact congrArg (fun z : EReal => ((z.toReal : ℝ) : EReal)) (sp 6 i ⟨j.val, by omega⟩)
end
end Inb
end
-- ==== Proof.Inb.Main.lean ====
/-
  The two programs from finite arguments: each gradient of the kernel is the reference's, entry by entry.
-/
module

public import proofs.«01_k».proof.Proof.Inb.Fin
public import proofs.«01_k».proof.Proof.Out.Main
public import proofs.«01_k».proof.Proof.Gen.Reference3Ideal.Run

@[expose] public section

set_option maxRecDepth 16384

noncomputable section

open Idealize.ShloMosaic Idealize.SL.Sem

namespace Inb

/-- The frame of the reference: its arguments end unchanged, and it declares no semaphore. -/
theorem frameR : Cert.quiescent_Reference3Ideal (hReference3Ideal := Cert.Reference3Ideal.Gen.facts) := fun m g _ =>
  (θ_run Cert.Reference3Ideal.defs _ _).mono (fun r h => ⟨fun c => (h c).2.2, sem_eq_zero_of_no_sems (by decide) r.2⟩)
    (Cert.Reference3Ideal.Value.run (F := Ideal) m g)

theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hp hm
  refine ⟨fun c => (dats m 0 c).arrAt 10 Cert.Kernel3Ideal.cfg0.N, fun c => (dats m 0 c).arrAt 11 Cert.Kernel3Ideal.cfg0.N,
    (θ_run Cert.Kernel3Ideal.defs _ _).mono (fun _ h c => ⟨(h.1 c).1 10, (h.1 c).1 11, kept m c h.1⟩) (run_quiet m g),
    (θ_run Cert.Reference3Ideal.defs _ _).mono (fun _ h c => ?_) (Cert.Reference3Ideal.Value.run (F := Ideal) m' g')⟩
  obtain ⟨q0, q1, qa⟩ := h c
  have ha := holdsK m c (hp c)
  have hr := holdsR (hp c)
  obtain ⟨e0, e1, e2, e3, e4, e5, e6, e7, e8, e9, e10⟩ := hm c
  have s0 := Out.R2.same (out10 m c ha) fun i => Ref.e39 hr i
  have s1 := Out.R2.same (out11 m c ha) fun i => Ref.e22 hr i
  rw [← e0, ← e1, ← e2, ← e3, ← e4, ← e5, ← e6, ← e7, ← e8, ← e9, ← e10] at s0
  rw [← e0, ← e3, ← e4, ← e5, ← e6, ← e7, ← e8, ← e9, ← e10] at s1
  exact ⟨q0.trans ((Cert.Reference3Ideal.Read.val_main_v39_eq (F := Ideal) m' c).trans s0),
    q1.trans ((Cert.Reference3Ideal.Read.val_main_v22_eq (F := Ideal) _ _ _ _ _ _ _ _ _).trans s1), qa⟩

end Inb

end
-- ==== Proof.Frt.Pay.lean ====
/-
  The normed rows and the input projection, as one grid point of the forward call computes them from its blocks.
-/
module

public import Idealize.ShloMosaic.Lib.ValueIdx
public import Idealize.ShloMosaic.Lib.Pipeline.Value
public import Idealize.ShloMosaic.Lib.Pipeline.ValueKit.Geometry
public import Idealize.ShloMosaic.Lib.KernelVsHost
public import Idealize.ShloMosaic.PureOps.Ideal.Laws
public import proofs.«01_k».proof.Proof.Win.El
public import proofs.«01_k».proof.Proof.Gen.Kernel4Ideal.Value

@[expose] public section

set_option maxRecDepth 16384

noncomputable section

open scoped BigOperators
open Idealize.ShloMosaic Idealize.ShloMosaic.ValueIdx Cert.Kernel4Ideal Cert.Kernel4Ideal.Gen
open Win (E2 Sh)

namespace Frt

/-- Row `s` of `x` normed: over the root of its mean square and the small constant, times the weight. -/
def nrm (x : ℕ → ℕ → EReal) (w : ℕ → EReal) (s k : ℕ) : EReal :=
  x s k * FloatOps.rsqrt (F := Ideal) (φ := .f32)
    (FloatOps.addf (F := Ideal) (φ := .f32)
      (FloatOps.divf (F := Ideal) (φ := .f32) (∑ j : Fin 1024, x s j.val * x s j.val) (FloatOps.ofBits (F := Ideal) .f32 0x44800000#32))
      (FloatOps.ofBits (F := Ideal) .f32 0x358637BD#32)) * w k

/-- A row of `x` normed, times the projection's weight. -/
def prj (x : ℕ → ℕ → EReal) (w : ℕ → EReal) (W : ℕ → ℕ → EReal) (s j : ℕ) : EReal := ∑ k : Fin 1024, nrm x w s k.val * W k.val j

/-- A row's sum, kept as a column. -/
theorem rowsum {m n : ℕ} {v : (Sh m n).Idx → EReal} {f : ℕ → ℕ → EReal} (h : E2 v f) (hr : (Sh m n).Reduces [1] ⟨1, ![m]⟩) (hp ha) (hc : (⟨1, ![m]⟩ : Shape).ShapeCasts (Sh m 1)) :
    E2 (m := m) (n := 1) (shapeCast (Sh m 1) (multiReduction (F := Ideal) (φ := .f32) .add [1] ⟨1, ![m]⟩ v 0x00000000#32 hr hp ha) hc)
      (fun i _ => ∑ k : Fin n, f i k.val) := fun i j => by
  have hj : j.val = 0 := by omega
  rw [shapeCast_apply _ hc (ix2 i j) (ix1 i) (by
      rw [Shape.rowMajor_val_one, Shape.rowMajor_val_two]
      show i.val = i.val * 1 + j.val
      omega),
    Ideal.multiReduction_add_single]
  refine Finset.sum_congr rfl fun k _ => ?_
  rw [show hr.lift (ix1 i) k = ix2 i k from funext fun a => by match a with | ⟨0, _⟩ => rfl | ⟨1, _⟩ => rfl]
  exact h i k
/-- A column repeated over the columns of a block, and a row over its rows. -/
theorem bcol {m n : ℕ} {v : (Sh m 1).Idx → EReal} {f : ℕ → ℕ → EReal} (h : E2 v f) (hm : m ≠ 1) (hb : (Sh m 1).Broadcasts (Sh m n)) :
    E2 (m := m) (n := n) (broadcastTo (Sh m n) v hb) (fun i _ => f i 0) := fun i j => by
  rw [broadcastTo_apply _ hb (ix2 i j) (ix2 i 0) (fun a => by
    match a with
    | ⟨0, _⟩ => exact (if_neg hm).symm
    | ⟨1, _⟩ => rfl)]
  exact h i 0
theorem brow {m n : ℕ} {v : (Sh 1 n).Idx → EReal} {f : ℕ → ℕ → EReal} (h : E2 v f) (hn : n ≠ 1) (hb : (Sh 1 n).Broadcasts (Sh m n)) :
    E2 (m := m) (n := n) (broadcastTo (Sh m n) v hb) (fun _ j => f 0 j) := fun i j => by
  rw [broadcastTo_apply _ hb (ix2 i j) (ix2 0 j) (fun a => by
    match a with
    | ⟨0, _⟩ => rfl
    | ⟨1, _⟩ => exact (if_neg hn).symm)]
  exact h 0 j

section
variable {v : S256x1024.Idx → EReal} {u : S1x1024.Idx → EReal} {x : ℕ → ℕ → EReal} {w : ℕ → EReal}
  (hv : E2 (m := 256) (n := 1024) v x) (hu : E2 (m := 1) (n := 1024) u fun _ k => w k)
include hv hu

theorem pay3 : E2 (m := 256) (n := 1024) (k0_pay3 (F := Ideal) v u) (nrm x w) := fun i j => by
  have h2 : E2 (m := 256) (n := 1024) (fun y => v y * v y) fun i j => x i j * x i j := fun i j => congrArg₂ (fun a b : EReal => a * b) (hv i j) (hv i j)
  have hs := rowsum h2 reduces_S256x1024_S256 (.inl rfl) rfl shapeCasts_S256_S256x1
  have hr : E2 (m := 256) (n := 1) (rsqrt (F := Ideal) (φ := .f32) (addf (divf (shapeCast S256x1 (multiReduction (F := Ideal) (φ := .f32) .add [1] S256 (fun y => v y * v y) 0x00000000#32 reduces_S256x1024_S256 (.inl rfl) rfl) shapeCasts_S256_S256x1) (constant S256x1 .f32 0x44800000#32)) (constant S256x1 .f32 0x358637BD#32))) (fun i _ => FloatOps.rsqrt (F := Ideal) (φ := .f32)
    (FloatOps.addf (F := Ideal) (φ := .f32) (FloatOps.divf (F := Ideal) (φ := .f32) (∑ k : Fin 1024, x i k.val * x i k.val) (FloatOps.ofBits (F := Ideal) .f32 0x44800000#32))
      (FloatOps.ofBits (F := Ideal) .f32 0x358637BD#32))) := fun i j => congrArg (fun a : EReal => FloatOps.rsqrt (F := Ideal) (φ := .f32)
    (FloatOps.addf (F := Ideal) (φ := .f32) (FloatOps.divf (F := Ideal) (φ := .f32) a (FloatOps.ofBits (F := Ideal) .f32 0x44800000#32))
      (FloatOps.ofBits (F := Ideal) .f32 0x358637BD#32))) (hs i j)
  have hb := bcol hr (by decide) broadcasts_S256x1_S256x1024
  have hw := brow hu (by decide) broadcasts_S1x1024_S256x1024
  exact congrArg₂ (fun a b : EReal => a * b) (congrArg₂ (fun a b : EReal => a * b) (hv i j) (hb i j)) (hw i j)

theorem pay4 : E2 (m := 1024) (n := 256) (k0_pay4 (F := Ideal) v u) (fun i j => nrm x w j i) := fun i j => by
  unfold k0_pay4
  dsimp only
  show transpose S1024x256 [1, 0] (k0_pay3 (F := Ideal) v u) transposes_S256x1024_p1_0_S1024x256 (ix2 i j) = _
  rw [transpose_apply _ (k0_pay3 (F := Ideal) v u) _ (ix2 i j) (ix2 j i) (fun a => match a with | ⟨0, _⟩ => rfl | ⟨1, _⟩ => rfl)]
  exact pay3 hv hu j i

theorem pay5 : E2 (m := 256) (n := 1024) (k0_pay5 (F := Ideal) v u) (nrm x w) := pay3 hv hu
end

/-- A product over 1024 columns, of 768 columns and of 128. -/
theorem dot768 {v : S256x1024.Idx → EReal} {b : S1024x768.Idx → EReal} {f g : ℕ → ℕ → EReal} (hv : E2 (m := 256) (n := 1024) v f) (hb : E2 (m := 1024) (n := 768) b g) :
    E2 (m := 256) (n := 768) (k0_pay17 (F := Ideal) v b) (fun i j => ∑ k : Fin 1024, f i k.val * g k.val j) := fun i j => by
  unfold k0_pay17
  dsimp only
  rw [shapeCast_self]
  show FloatOps.matmul (F := Ideal) (φ₁ := .bf16) (φ₂ := .bf16) dot_S256x1024_S1024x768_S256x768_1_0_0_1_n_n none v b
      (constant S256x768 .f32 0x00000000#32) (ix2 i j) = _
  rw [Ideal.matmul_constant_zero_apply, ← Equiv.sum_comp (contrEquiv1 dot_S256x1024_S1024x768_S256x768_1_0_0_1_n_n 1024 rfl rfl).symm]
  refine Finset.sum_congr rfl fun e _ => ?_
  rw [← hv i e, ← hb e j]
  congr 2 <;> (funext a; match a with | ⟨0, _⟩ => rfl | ⟨1, _⟩ => rfl)
theorem dot128 {v : S256x1024.Idx → EReal} {b : S1024x128.Idx → EReal} {f g : ℕ → ℕ → EReal} (hv : E2 (m := 256) (n := 1024) v f) (hb : E2 (m := 1024) (n := 128) b g) :
    E2 (m := 256) (n := 128) (k0_pay77 (F := Ideal) v b) (fun i j => ∑ k : Fin 1024, f i k.val * g k.val j) := fun i j => by
  unfold k0_pay77
  dsimp only
  rw [shapeCast_self]
  show FloatOps.matmul (F := Ideal) (φ₁ := .bf16) (φ₂ := .bf16) dot_S256x1024_S1024x128_S256x128_1_0_0_1_n_n none v b
      (constant S256x128 .f32 0x00000000#32) (ix2 i j) = _
  rw [Ideal.matmul_constant_zero_apply, ← Equiv.sum_comp (contrEquiv1 dot_S256x1024_S1024x128_S256x128_1_0_0_1_n_n 1024 rfl rfl).symm]
  refine Finset.sum_congr rfl fun e _ => ?_
  rw [← hv i e, ← hb e j]
  congr 2 <;> (funext a; match a with | ⟨0, _⟩ => rfl | ⟨1, _⟩ => rfl)

end Frt
end
-- ==== Proof.Frt.Cases.lean ====
/-
  What every grid point leaves in its blocks of the projection and of the transposed normed rows.
-/
module

public import proofs.«01_k».proof.Proof.Frt.Pay

@[expose] public section

set_option maxRecDepth 16384

noncomputable section

open scoped BigOperators
open Idealize.ShloMosaic Idealize.ShloMosaic.TcCoe Idealize.ShloMosaic.ValueIdx Cert.Kernel4Ideal Cert.Kernel4Ideal.Gen
open Win (E2 Sh)

namespace Frt

/-- Columns of a whole buffer. -/
theorem loadc {sig κ sp} {m n n' q : ℕ} {v : (Sh m n).Idx → EReal} {f : ℕ → ℕ → EReal} (h : E2 v f)
    (a : Memref sig κ sp (Sh m n) .bf16) (ha : a.IsWhole)
    (inb : ∀ a, (![0, q] : Fin 2 → ℕ) a + (Sh m n').size a ≤ (Sh m n).size a) :
    E2 (m := m) (n := n') (View.readAt (Elt Ideal) a.view (Rect.unit (s := Sh m n) ![0, q] (Sh m n').size inb).toLoadRect (ha.unread v))
      (fun i j => f i (q + j)) := by
  have e : (View.readAt (Elt Ideal) a.view (Rect.unit (s := Sh m n) ![0, q] (Sh m n').size inb).toLoadRect (ha.unread v))
      = extractStridedSlice (Sh m n') ![0, q] v ⟨rfl, inb⟩ := by
    rw [View.readAt_eq_ld, ha.read_unread, View.ld_unit]
  rw [e]; exact (h.slice _).congr fun _ _ _ _ => by rw [Nat.zero_add]
/-- The whole of it. -/
theorem loadw {sig κ sp} {m n : ℕ} {v : (Sh m n).Idx → EReal} {f : ℕ → ℕ → EReal} (h : E2 v f)
    (a : Memref sig κ sp (Sh m n) .f32) (ha : a.IsWhole)
    (inb : ∀ a, (![0, 0] : Fin 2 → ℕ) a + (Sh m n).size a ≤ (Sh m n).size a) :
    E2 (m := m) (n := n) (View.readAt (Elt Ideal) a.view (Rect.unit (s := Sh m n) ![0, 0] (Sh m n).size inb).toLoadRect (ha.unread v)) f :=
  (h.load a ha inb).congr fun _ _ _ _ => by rw [Nat.zero_add]

/-- The function `f` of a row and a column, at an index. -/
def at2 {m n : ℕ} (f : ℕ → ℕ → EReal) (y : (Sh m n).Idx) : EReal := f (y 0).val (y 1).val

/-- One store of `n` columns is its part of the block. -/
theorem col_piece {f : ℕ → ℕ → EReal} {n q : ℕ} (inb : ∀ a, (![0, q] : Fin 2 → ℕ) a + (Sh 256 n).size a ≤ (Sh 256 3200).size a)
    {w : (Sh 256 n).Idx → EReal} (hw : E2 w fun i j => f i (q + j)) (x : (Sh 256 n).Idx) :
    w x = at2 (m := 256) (n := 3200) f ((Rect.unit (s := Sh 256 3200) ![0, q] (Sh 256 n).size inb).emb x) := by
  have e0 : (((Rect.unit (s := Sh 256 3200) ![0, q] (Sh 256 n).size inb).emb x) 0).val = (x 0).val := by
    show 0 + 1 * (x 0).val = _; omega
  have e1 : (((Rect.unit (s := Sh 256 3200) ![0, q] (Sh 256 n).size inb).emb x) 1).val = q + (x 1).val := by
    show q + 1 * (x 1).val = _; omega
  unfold at2
  rw [e0, e1]
  exact hw.at x

theorem col_mem {n q : ℕ} (inb : ∀ a, (![0, q] : Fin 2 → ℕ) a + (Sh 256 n).size a ≤ (Sh 256 3200).size a) (y : (Sh 256 3200).Idx)
    (h0 : q ≤ (y 1).val) (h1 : (y 1).val < q + n) : y ∈ (Rect.unit (s := Sh 256 3200) ![0, q] (Sh 256 n).size inb).set :=
  Rect.mem_set_unit.mpr fun a => match a with
    | ⟨0, _⟩ => ⟨Nat.zero_le _, by show (y 0).val < 0 + 256; have := (y 0).isLt; exact (Nat.zero_add 256).symm ▸ this⟩
    | ⟨1, _⟩ => ⟨h0, h1⟩

/-- The five stores of columns, from left to right, are the block. -/
theorem five {f : ℕ → ℕ → EReal} {w0 w1 w2 w3 : S256x768.Idx → EReal} {w4 : S256x128.Idx → EReal}
    (h0 : E2 (m := 256) (n := 768) w0 fun i j => f i (0 + j)) (h1 : E2 (m := 256) (n := 768) w1 fun i j => f i (768 + j))
    (h2 : E2 (m := 256) (n := 768) w2 fun i j => f i (1536 + j)) (h3 : E2 (m := 256) (n := 768) w3 fun i j => f i (2304 + j))
    (h4 : E2 (m := 256) (n := 128) w4 fun i j => f i (3072 + j)) (y : S256x3200.Idx) :
    View.canon (Val := Elt Ideal) (e := .f32) ([⟨Rect.unit (s := S256x3200) ![0, 3072] S256x128.size inb_S256x3200_S256x128_0_3072, w4⟩,
      ⟨Rect.unit (s := S256x3200) ![0, 2304] S256x768.size inb_S256x3200_S256x768_0_2304, w3⟩,
      ⟨Rect.unit (s := S256x3200) ![0, 1536] S256x768.size inb_S256x3200_S256x768_0_1536, w2⟩,
      ⟨Rect.unit (s := S256x3200) ![0, 768] S256x768.size inb_S256x3200_S256x768_0_768, w1⟩,
      ⟨Rect.unit (s := S256x3200) ![0, 0] S256x768.size inb_S256x3200_S256x768_0_0, w0⟩] : List (View.Piece (Elt Ideal) S256x3200 .f32)) y
      = at2 (m := 256) (n := 3200) f y := by
  refine View.canon_apply_of_pieces (Val := Elt Ideal) (e := .f32) (at2 (m := 256) (n := 3200) f) _ ?_ y ?_
  · intro p hp
    simp only [List.mem_cons, List.not_mem_nil, or_false] at hp
    rcases hp with rfl | rfl | rfl | rfl | rfl
    · exact col_piece inb_S256x3200_S256x128_0_3072 h4
    · exact col_piece inb_S256x3200_S256x768_0_2304 h3
    · exact col_piece inb_S256x3200_S256x768_0_1536 h2
    · exact col_piece inb_S256x3200_S256x768_0_768 h1
    · exact col_piece inb_S256x3200_S256x768_0_0 h0
  · have hy : (y 1).val < 3200 := (y 1).isLt
    have : 3072 ≤ (y 1).val ∨ 2304 ≤ (y 1).val ∧ (y 1).val < 2304 + 768 ∨ 1536 ≤ (y 1).val ∧ (y 1).val < 1536 + 768 ∨ 768 ≤ (y 1).val ∧ (y 1).val < 768 + 768 ∨ (y 1).val < 0 + 768 := by omega
    rcases this with e | e | e | e | e
    · exact ⟨_, .head _, col_mem inb_S256x3200_S256x128_0_3072 y e hy⟩
    · exact ⟨_, .tail _ (.head _), col_mem inb_S256x3200_S256x768_0_2304 y e.1 e.2⟩
    · exact ⟨_, .tail _ (.tail _ (.head _)), col_mem inb_S256x3200_S256x768_0_1536 y e.1 e.2⟩
    · exact ⟨_, .tail _ (.tail _ (.tail _ (.head _))), col_mem inb_S256x3200_S256x768_0_768 y e.1 e.2⟩
    · exact ⟨_, .tail _ (.tail _ (.tail _ (.tail _ (.head _)))), col_mem inb_S256x3200_S256x768_0_0 y (Nat.zero_le _) e⟩

/-- One store of the whole block of transposed rows. -/
theorem one {f : ℕ → ℕ → EReal} {w : S1024x256.Idx → EReal} (h : E2 (m := 1024) (n := 256) w f) (y : S1024x256.Idx) :
    View.canon (Val := Elt Ideal) (e := .bf16) ([⟨Rect.unit (s := S1024x256) ![0, 0] S1024x256.size inb_S1024x256_S1024x256_0_0, w⟩] : List (View.Piece (Elt Ideal) S1024x256 .bf16)) y
      = at2 (m := 1024) (n := 256) f y := by
  have e := View.canon_cons_emb (Val := Elt Ideal) (e := .bf16) (Rect.unit (s := S1024x256) ![0, 0] S1024x256.size inb_S1024x256_S1024x256_0_0) w [] y
  have e2 : (Rect.unit (s := S1024x256) ![0, 0] S1024x256.size inb_S1024x256_S1024x256_0_0).emb y = y := by
    funext a
    refine Fin.ext ?_
    match a with
    | ⟨0, _⟩ => show 0 + 1 * (y 0).val = (y 0).val; omega
    | ⟨1, _⟩ => show 0 + 1 * (y 1).val = (y 1).val; omega
  rw [e2] at e
  exact e.trans (h.at y)

section
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3200 .bf16) (harg3 : arg3.IsWhole) (arg4 : Memref sig .tc .vmem S4x1536 .f32) (harg4 : arg4.IsWhole) (arg5 : Memref sig .tc .vmem S1x4 .f32) (harg5 : arg5.IsWhole) (arg6 : Memref sig .tc .vmem S1x4 .f32) (harg6 : arg6.IsWhole) (arg7 : Memref sig .tc .vmem S4x128x128 .f32) (harg7 : arg7.IsWhole) (arg8 : Memref sig .tc .vmem S1x512 .f32) (harg8 : arg8.IsWhole) (arg9 : Memref sig .tc .vmem S4x256x384 .bf16) (harg9 : arg9.IsWhole) (arg11 : Memref sig .tc .vmem S256x3200 .f32) (harg11 : arg11.IsWhole) (arg12 : Memref sig .tc .vmem S1024x256 .bf16) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (arg20 : Memref sig .tc .vmem S256x512 .f32) (harg20 : arg20.IsWhole) (arg21 : Memref sig .tc .vmem S256x512 .f32) (harg21 : arg21.IsWhole) (arg22 : Memref sig .tc .vmem S384x3200 .f32) (harg22 : arg22.IsWhole)
variable {x0 : Vec Ideal S256x1024 .f32} {x1 : Vec Ideal S1x1024 .f32} {x2 : Vec Ideal S1024x3200 .bf16} {x3 : Vec Ideal S4x1536 .f32} {x4 : Vec Ideal S1x4 .f32} {x5 : Vec Ideal S1x4 .f32} {x6 : Vec Ideal S4x128x128 .f32} {x7 : Vec Ideal S1x512 .f32} {x8 : Vec Ideal S4x256x384 .bf16}
  {x : ℕ → ℕ → EReal} {w : ℕ → EReal} {W : ℕ → ℕ → EReal}
  (hx : E2 (m := 256) (n := 1024) x0 x) (hw : E2 (m := 1) (n := 1024) x1 fun _ k => w k) (hW : E2 (m := 1024) (n := 3200) x2 W)
include hx hw

include hW in
theorem out0_A_9_ok (hc0 : cond0_0 i) (y : S256x3200.Idx) :
    out0_A_9 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 y = at2 (m := 256) (n := 3200) (prj x w W) y := by
  unfold out0_A_9
  rw [View.read_writes_junk_eq_canon]
  unfold kernelRun0_A
  dsimp only
  have hn := pay5 (loadw hx arg1 harg1 inb_S256x1024_S256x1024_0_0) (loadw hw arg2 harg2 inb_S1x1024_S1x1024_0_0)
  exact five (dot768 hn (loadc hW arg3 harg3 inb_S1024x3200_S1024x768_0_0)) (dot768 hn (loadc hW arg3 harg3 inb_S1024x3200_S1024x768_0_768))
    (dot768 hn (loadc hW arg3 harg3 inb_S1024x3200_S1024x768_0_1536)) (dot768 hn (loadc hW arg3 harg3 inb_S1024x3200_S1024x768_0_2304))
    (dot128 hn (loadc hW arg3 harg3 inb_S1024x3200_S1024x128_0_3072)) y

theorem out0_A_10_ok (hc0 : cond0_0 i) (y : S1024x256.Idx) :
    out0_A_10 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 y = at2 (m := 1024) (n := 256) (fun i j => nrm x w j i) y := by
  unfold out0_A_10
  rw [View.read_writes_junk_eq_canon]
  unfold kernelRun0_A
  dsimp only
  exact one (pay4 (loadw hx arg1 harg1 inb_S256x1024_S256x1024_0_0) (loadw hw arg2 harg2 inb_S1x1024_S1x1024_0_0)) y

include hW in
theorem out0_B_9_ok (hc0 : ¬cond0_0 i) {xs0 : Vec Ideal S384x3200 .f32} (y : S256x3200.Idx) :
    out0_B_9 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 xs0 y = at2 (m := 256) (n := 3200) (prj x w W) y := by
  unfold out0_B_9
  rw [View.read_writes_junk_eq_canon]
  unfold kernelRun0_B
  dsimp only
  have hn := pay5 (loadw hx arg1 harg1 inb_S256x1024_S256x1024_0_0) (loadw hw arg2 harg2 inb_S1x1024_S1x1024_0_0)
  exact five (dot768 hn (loadc hW arg3 harg3 inb_S1024x3200_S1024x768_0_0)) (dot768 hn (loadc hW arg3 harg3 inb_S1024x3200_S1024x768_0_768))
    (dot768 hn (loadc hW arg3 harg3 inb_S1024x3200_S1024x768_0_1536)) (dot768 hn (loadc hW arg3 harg3 inb_S1024x3200_S1024x768_0_2304))
    (dot128 hn (loadc hW arg3 harg3 inb_S1024x3200_S1024x128_0_3072)) y

theorem out0_B_10_ok (hc0 : ¬cond0_0 i) {xs0 : Vec Ideal S384x3200 .f32} (y : S1024x256.Idx) :
    out0_B_10 (F := Ideal) c i arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 xs0 y = at2 (m := 1024) (n := 256) (fun i j => nrm x w j i) y := by
  unfold out0_B_10
  rw [View.read_writes_junk_eq_canon]
  unfold kernelRun0_B
  dsimp only
  exact one (pay4 (loadw hx arg1 harg1 inb_S256x1024_S256x1024_0_0) (loadw hw arg2 harg2 inb_S1x1024_S1x1024_0_0)) y

end
end Frt
end
-- ==== Proof.Frt.Blocks.lean ====
/-
  The blocks that a grid point reads, as parts of the launch arrays, and the two arrays the kernel leaves.
-/
module

public import proofs.«01_k».proof.Proof.Frt.Cases
public import proofs.«01_k».proof.Proof.Win.Ref

@[expose] public section

set_option maxRecDepth 16384

noncomputable section

open scoped BigOperators
open Idealize.ShloMosaic Idealize.ShloMosaic.TcCoe Idealize.ShloMosaic.ValueIdx Cert.Kernel4Ideal Cert.Kernel4Ideal.Gen Cert.Kernel4Ideal.Value
open Win (E2 Sh)

namespace Frt

section
variable (m : (ℓ : Loc nD τ sig) → Buf (Elt Ideal) ℓ) (c : Dev nD) (t : Fin cfg0.N)

/-- The rows a point works on: the last tile's twice, at the last two points. -/
def tile : ℕ := min t.val 15
theorem row_lt (i : Fin 256) : 256 * tile t + i.val < 4096 := by have : tile t ≤ 15 := Nat.min_le_right _ _; omega

theorem idx0 : ∀ t : Fin cfg0.N, win0_0.index t 0 = tile t ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx9 : ∀ t : Fin cfg0.N, win0_9.index t 0 = tile t ∧ win0_9.index t 1 = 0 := by decide +kernel
theorem idx10 : ∀ t : Fin cfg0.N, win0_10.index t 0 = 0 ∧ win0_10.index t 1 = tile t := by decide +kernel

theorem blk0 (i : Fin 256) (j : Fin 1024) : iblk m c 0 t (ix2 i j) = m ((c : Thread nD τ).loc main_arg0) (ix2 ⟨256 * tile t + i.val, row_lt t i⟩ j) := by
  blk_ext [iblk, V_main_arg0, idx0 t]
  show tile t * 256 + i.val = 256 * tile t + i.val
  omega
theorem blk1 (i : Fin 1) (j : Fin 1024) : iblk m c 1 t (ix2 i j) = m ((c : Thread nD τ).loc main_arg1) (ix2 i j) := by
  blk_ext [iblk, V_main_arg1, idx1 t]

/-- The host's narrowed weight. -/
theorem V_main_v0 : V m c main_v0 = truncf (F := Ideal) .bf16 (m ((c : Thread nD τ).loc main_arg2) : FVec Ideal S1024x3200 .f32) bitsLt_bf16_f32 := by
  rfl
theorem blk2 (i : Fin 1024) (j : Fin 3200) : iblk m c 2 t (ix2 i j) = m ((c : Thread nD τ).loc main_arg2) (ix2 i j) := by
  refine Eq.trans ?_ (congrFun (V_main_v0 m c) (ix2 i j))
  unfold iblk
  generalize V m c main_v0 = y
  blk_ext [idx2 t]

/-- The points that write a block back: every tile once. -/
def pt (r : Fin 16) : Fin cfg0.N := ⟨if r.val = 15 then 16 else r.val, by have := r.isLt; rw [show cfg0.N = 17 from N_0]; split <;> omega⟩
theorem tile_pt : ∀ r : Fin 16, tile (pt r) = r.val := by decide +kernel
theorem flush9 : ∀ r : Fin 16, (cfg0.win 9).flush (pt r) = true := by decide +kernel
theorem flush10 : ∀ r : Fin 16, (cfg0.win 10).flush (pt r) = true := by decide +kernel
theorem inj9 : ∀ t t' : Fin cfg0.N, (cfg0.win 9).flush t = true → (cfg0.win 9).flush t' = true → (cfg0.win 9).index t = (cfg0.win 9).index t' → t = t' := by decide +kernel
theorem inj10 : ∀ t t' : Fin cfg0.N, (cfg0.win 10).flush t = true → (cfg0.win 10).flush t' = true → (cfg0.win 10).index t = (cfg0.win 10).index t' → t = t' := by decide +kernel
theorem disjoint9 : ∀ t t' : Fin cfg0.N, (cfg0.win 9).flush t = true → (cfg0.win 9).flush t' = true → t ≠ t' →
    Disjoint ((cfg0.win 9).blk t).view.set ((cfg0.win 9).blk t').view.set :=
  fun t t' h h' hne => (cfg0.win 9).disjoint_blk fun e => hne (inj9 t t' h h' e)
theorem disjoint10 : ∀ t t' : Fin cfg0.N, (cfg0.win 10).flush t = true → (cfg0.win 10).flush t' = true → t ≠ t' →
    Disjoint ((cfg0.win 10).blk t).view.set ((cfg0.win 10).blk t').view.set :=
  fun t t' h h' hne => (cfg0.win 10).disjoint_blk fun e => hne (inj10 t t' h h' e)

/-- A block read from an array: its rows, and its columns. -/
theorem read9 (y : (⟨S4096x3200, .f32⟩ : BufTy).Contents (Elt Ideal)) (i : Fin 256) (j : Fin 3200) :
    ((cfg0.win 9).blk t).view.read (Elt Ideal) y (ix2 i j) = y (ix2 ⟨256 * tile t + i.val, row_lt t i⟩ j) := by
  blk_ext [idx9 t]
  show tile t * 256 + i.val = 256 * tile t + i.val
  omega
theorem read10 (y : (⟨S1024x4096, .bf16⟩ : BufTy).Contents (Elt Ideal)) (i : Fin 1024) (j : Fin 256) :
    ((cfg0.win 10).blk t).view.read (Elt Ideal) y (ix2 i j) = y (ix2 i ⟨256 * tile t + j.val, row_lt t j⟩) := by
  blk_ext [idx10 t]
  show tile t * 256 + j.val = 256 * tile t + j.val
  omega

variable {x : ℕ → ℕ → EReal} {w : ℕ → EReal} {W : ℕ → ℕ → EReal}
  (hx : E2 (m := 4096) (n := 1024) (m ((c : Thread nD τ).loc main_arg0)) x) (hw : E2 (m := 1) (n := 1024) (m ((c : Thread nD τ).loc main_arg1)) fun _ k => w k)
  (hW : E2 (m := 1024) (n := 3200) (m ((c : Thread nD τ).loc main_arg2)) W)
include hx hw

theorem x_ok : E2 (m := 256) (n := 1024) (iblk m c 0 t) fun i j => x (256 * tile t + i) j := fun i j => (blk0 m c t i j).trans (hx _ _)
theorem w_ok : E2 (m := 1) (n := 1024) (iblk m c 1 t) fun _ k => w k := fun i j => (blk1 m c t i j).trans (hw _ _)
omit hx hw in
include hW in
theorem W_ok : E2 (m := 1024) (n := 3200) (iblk m c 2 t) W := fun i j => (blk2 m c t i j).trans (hW _ _)

include hW in
/-- What a point writes back of the projection, and of the transposed normed rows. -/
theorem wrote9 (y : S256x3200.Idx) : (dats m 0 c).flushed 9 t y = at2 (m := 256) (n := 3200) (fun i j => prj x w W (256 * tile t + i) j) y := by
  by_cases h0 : t.val % 17 = 0
  · rw [flushed9_A m c t h0]
    exact out0_A_9_ok (x := fun i j => x (256 * tile t + i) j) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (x_ok m c t hx hw) (w_ok m c t hx hw) (W_ok m c t hW) ((hcond0_0 t).mpr h0) y
  · rw [flushed9_B m c t h0]
    exact out0_B_9_ok (x := fun i j => x (256 * tile t + i) j) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (x_ok m c t hx hw) (w_ok m c t hx hw) (W_ok m c t hW) (fun q => h0 ((hcond0_0 t).mp q)) y
theorem wrote10 (y : S1024x256.Idx) : (dats m 0 c).flushed 10 t y = at2 (m := 1024) (n := 256) (fun i j => nrm x w (256 * tile t + j) i) y := by
  by_cases h0 : t.val % 17 = 0
  · rw [flushed10_A m c t h0]
    exact out0_A_10_ok (x := fun i j => x (256 * tile t + i) j) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (x_ok m c t hx hw) (w_ok m c t hx hw) ((hcond0_0 t).mpr h0) y
  · rw [flushed10_B m c t h0]
    exact out0_B_10_ok (x := fun i j => x (256 * tile t + i) j) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (x_ok m c t hx hw) (w_ok m c t hx hw) (fun q => h0 ((hcond0_0 t).mp q)) y

include hW in
/-- The projection after the run. -/
theorem out9 : E2 (m := 4096) (n := 3200) ((dats m 0 c).arrAt 9 cfg0.N) (prj x w W) := fun i j => by
  have hr : i.val / 256 < 16 := by omega
  have e := congrFun ((dats m 0 c).read_blk_arrAt_eq_flushed 9 disjoint9 cfg0.N (pt ⟨i.val / 256, hr⟩) (Fin.isLt _) (flush9 _)) (ix2 (⟨i.val % 256, Nat.mod_lt _ (by decide)⟩ : Fin 256) j)
  have e1 := read9 (pt ⟨i.val / 256, hr⟩) ((dats m 0 c).arrAt 9 cfg0.N) ⟨i.val % 256, Nat.mod_lt _ (by decide)⟩ j
  have en : 256 * tile (pt ⟨i.val / 256, hr⟩) + i.val % 256 = i.val := by rw [tile_pt]; exact Nat.div_add_mod _ _
  have e2 : (⟨256 * tile (pt ⟨i.val / 256, hr⟩) + i.val % 256, row_lt (pt ⟨i.val / 256, hr⟩) ⟨i.val % 256, Nat.mod_lt _ (by decide)⟩⟩ : Fin 4096) = i := Fin.ext en
  dsimp only at e1
  rw [e2] at e1
  refine e1.symm.trans (e.trans ((wrote9 m c _ hx hw hW _).trans ?_))
  show prj x w W (256 * tile (pt ⟨i.val / 256, hr⟩) + i.val % 256) j.val = _
  rw [en]

/-- The transposed normed rows after the run. -/
theorem out10 : E2 (m := 1024) (n := 4096) ((dats m 0 c).arrAt 10 cfg0.N) (fun i j => nrm x w j i) := fun j i => by
  have hr : i.val / 256 < 16 := by omega
  have e := congrFun ((dats m 0 c).read_blk_arrAt_eq_flushed 10 disjoint10 cfg0.N (pt ⟨i.val / 256, hr⟩) (Fin.isLt _) (flush10 _)) (ix2 j (⟨i.val % 256, Nat.mod_lt _ (by decide)⟩ : Fin 256))
  have e1 := read10 (pt ⟨i.val / 256, hr⟩) ((dats m 0 c).arrAt 10 cfg0.N) j ⟨i.val % 256, Nat.mod_lt _ (by decide)⟩
  have en : 256 * tile (pt ⟨i.val / 256, hr⟩) + i.val % 256 = i.val := by rw [tile_pt]; exact Nat.div_add_mod _ _
  have e2 : (⟨256 * tile (pt ⟨i.val / 256, hr⟩) + i.val % 256, row_lt (pt ⟨i.val / 256, hr⟩) ⟨i.val % 256, Nat.mod_lt _ (by decide)⟩⟩ : Fin 4096) = i := Fin.ext en
  dsimp only at e1
  rw [e2] at e1
  refine e1.symm.trans (e.trans ((wrote10 m c _ hx hw _).trans ?_))
  show nrm x w (256 * tile (pt ⟨i.val / 256, hr⟩) + i.val % 256) j.val = _
  rw [en]
end
end Frt
end
-- ==== Proof.Frt.Main.lean ====
/-
  The two programs: both results of the kernel are the reference's, entry by entry.
-/
module

public import proofs.«01_k».proof.Defs
public import proofs.«01_k».proof.Proof.Frt.Blocks
public import proofs.«01_k».proof.Proof.Gen.Reference4Ideal.Run
public import proofs.«01_k».proof.Proof.Gen.Reference4Ideal.Read

@[expose] public section

set_option maxRecDepth 16384

noncomputable section

open scoped BigOperators
open Idealize.ShloMosaic Idealize.ShloMosaic.ValueIdx Idealize.SL.Sem
open Win (E2 valAt E2_valAt)

namespace Frt

section
open Cert.Reference4Ideal Cert.Reference4Ideal.Read
variable {x0 : (⟨S4096x1024, .f32⟩ : BufTy).Contents (Elt Ideal)} {x1 : (⟨S1x1024, .f32⟩ : BufTy).Contents (Elt Ideal)} {x2 : (⟨S1024x3200, .f32⟩ : BufTy).Contents (Elt Ideal)}
  {x : ℕ → ℕ → EReal} {w : ℕ → EReal} {W : ℕ → ℕ → EReal}
  (hx : E2 (m := 4096) (n := 1024) x0 x) (hw : E2 (m := 1) (n := 1024) x1 fun _ k => w k) (hW : E2 (m := 1024) (n := 3200) x2 W)

/-- The literal 0. -/
theorem zeroC : FloatOps.ofBits (F := Ideal) .f32 0x00000000#32 = (0 : EReal) := by
  show Ideal.ofBits .f32 0x00000000#32 = 0
  simp [Ideal.ofBits, Ideal.ieee]

include hx in
/-- The reference's sum of squares of a row. -/
theorem ref_sum (i : Fin 4096) (y : S4096.Idx) (hy : (y 0).val = i.val) : val_main_v1 (F := Ideal) x0 y = ∑ j : Fin 1024, x i.val j.val * x i.val j.val := by
  rw [val_main_v1_apply, val_main_cst_apply]
  refine (congrArg (· + _) zeroC).trans ((zero_add _).trans (Finset.sum_congr rfl fun k _ => ?_))
  have e : idx_main_v1 y k = ix2 i k := funext fun a => Fin.ext (match a with | ⟨0, _⟩ => hy | ⟨1, _⟩ => rfl)
  rw [val_main_v0_apply, e]
  exact congrArg₂ (fun a b : EReal => a * b) (hx i k) (hx i k)

include hx hw in
/-- The reference's normed rows. -/
theorem ref_nrm : E2 (m := 4096) (n := 1024) (val_main_v11 (F := Ideal) x0 x1) (nrm x w) := fun i j => by
  have h0 : val_main_v7 (F := Ideal) x0 (idx_main_v8 (ix2 i j)) = FloatOps.rsqrt (F := Ideal) (φ := .f32)
      (FloatOps.addf (F := Ideal) (φ := .f32)
        (FloatOps.divf (F := Ideal) (φ := .f32) (∑ j : Fin 1024, x i.val j.val * x i.val j.val) (FloatOps.ofBits (F := Ideal) .f32 0x44800000#32))
        (FloatOps.ofBits (F := Ideal) .f32 0x358637BD#32)) := by
    rw [val_main_v7_apply, val_main_v6_apply, val_main_v4_apply, val_main_v2_apply, val_main_v3_apply, val_main_v5_apply, val_main_cst_0_apply, val_main_cst_1_apply,
      ref_sum hx i _ rfl]
    rfl
  have h1 : val_main_v10 (F := Ideal) x1 (ix2 i j) = w j.val := by
    rw [val_main_v10_apply]
    exact hw.at (idx_main_v10 (ix2 i j))
  rw [val_main_v11_apply, val_main_v9_apply, val_main_v8_apply, h0, h1, hx i j]
  rfl

include hx hw hW in
/-- Its projection, and its transposed rows. -/
theorem ref_prj : E2 (m := 4096) (n := 3200) (val_main_v12 (F := Ideal) x0 x1 x2) (prj x w W) := fun i j => by
  rw [val_main_v12_apply]
  refine Finset.sum_congr rfl fun k _ => ?_
  exact congrArg₂ (fun a b : EReal => a * b) ((ref_nrm hx hw).at (lidx_main_v12 (ix2 i j) k)) (hW.at (ridx_main_v12 (ix2 i j) k))
include hx hw in
theorem ref_tr : E2 (m := 1024) (n := 4096) (val_main_v14 (F := Ideal) x0 x1) (fun i j => nrm x w j i) := fun i j => by
  rw [val_main_v14_apply, val_main_v13_apply]
  exact (ref_nrm hx hw).at (idx_main_v13 (ix2 i j))
end

section
variable (m : (ℓ : Loc Cert.Kernel4Ideal.nD Cert.Kernel4Ideal.τ Cert.Kernel4Ideal.sig) → Buf (Elt Ideal) ℓ) (c : Dev Cert.Kernel4Ideal.nD)

/-- The launch array, and the functions that it and the two others hold. -/
abbrev arr0 : Cert.Kernel4Ideal.S4096x1024.Idx → EReal := m ((c.tc : Thread Cert.Kernel4Ideal.nD Cert.Kernel4Ideal.τ).loc Cert.Kernel4Ideal.main_arg0)
abbrev arr1 : Cert.Kernel4Ideal.S1x1024.Idx → EReal := m ((c.tc : Thread Cert.Kernel4Ideal.nD Cert.Kernel4Ideal.τ).loc Cert.Kernel4Ideal.main_arg1)
abbrev arr2 : Cert.Kernel4Ideal.S1024x3200.Idx → EReal := m ((c.tc : Thread Cert.Kernel4Ideal.nD Cert.Kernel4Ideal.τ).loc Cert.Kernel4Ideal.main_arg2)

theorem holds0 : E2 (m := 4096) (n := 1024) (arr0 m c) (valAt (m := 4096) (n := 1024) (arr0 m c)) := E2_valAt (m := 4096) (n := 1024) _
theorem holds1 : E2 (m := 1) (n := 1024) (arr1 m c) (fun _ k => valAt (m := 1) (n := 1024) (arr1 m c) 0 k) := fun i j => by
  have hi : i.val = 0 := by omega
  have e := E2_valAt (m := 1) (n := 1024) (arr1 m c) i j
  rw [hi] at e
  exact e
theorem holds2 : E2 (m := 1024) (n := 3200) (arr2 m c) (valAt (m := 1024) (n := 3200) (arr2 m c)) := E2_valAt (m := 1024) (n := 3200) _

/-- Two arrays that hold the same function are the same. -/
theorem ext2 {a b : ℕ} {u v : (Win.Sh a b).Idx → EReal} {f : ℕ → ℕ → EReal} (hu : E2 u f) (hv : E2 v f) : u = v :=
  funext fun y => (hu.at y).trans (hv.at y).symm

theorem same9 : ((Cert.Kernel4Ideal.Gen.dats m 0 c).arrAt 9 Cert.Kernel4Ideal.cfg0.N : Cert.Kernel4Ideal.S4096x3200.Idx → EReal)
    = Cert.Reference4Ideal.Read.val_main_v12 (F := Ideal) (arr0 m c) (arr1 m c) (arr2 m c) :=
  ext2 (a := 4096) (b := 3200) (out9 m c (holds0 m c) (holds1 m c) (holds2 m c)) (ref_prj (holds0 m c) (holds1 m c) (holds2 m c))
theorem same10 : ((Cert.Kernel4Ideal.Gen.dats m 0 c).arrAt 10 Cert.Kernel4Ideal.cfg0.N : Cert.Kernel4Ideal.S1024x4096.Idx → EReal)
    = Cert.Reference4Ideal.Read.val_main_v14 (F := Ideal) (arr0 m c) (arr1 m c) :=
  ext2 (a := 1024) (b := 4096) (out10 m c (holds0 m c) (holds1 m c)) (ref_tr (holds0 m c) (holds1 m c))
end

/-- The frame of the reference: its arguments end unchanged, and it declares no semaphore. -/
theorem frameR : Cert.quiescent_Reference4Ideal (hReference4Ideal := Cert.Reference4Ideal.Gen.facts) := fun m g _ =>
  (θ_run Cert.Reference4Ideal.defs _ _).mono (fun r h => ⟨fun c => (h c).2.2, sem_eq_zero_of_no_sems (by decide) r.2⟩)
    (Cert.Reference4Ideal.Value.run (F := Ideal) m g)

theorem algebraic : Cert.algebraic_Kernel4Ideal_Reference4Ideal (hKernel4Ideal := Cert.Kernel4Ideal.Gen.facts) (hReference4Ideal := Cert.Reference4Ideal.Gen.facts) := by
  intro m g m' g' _ hm
  refine ⟨fun c => (Cert.Kernel4Ideal.Gen.dats m 0 c).arrAt 9 Cert.Kernel4Ideal.cfg0.N, fun c => (Cert.Kernel4Ideal.Gen.dats m 0 c).arrAt 10 Cert.Kernel4Ideal.cfg0.N,
    (θ_run Cert.Kernel4Ideal.defs _ _).mono (fun _ h c => ?_) (Cert.Kernel4Ideal.Value.run_blocks m g),
    (θ_run Cert.Reference4Ideal.defs _ _).mono (fun _ h c => ?_) (Cert.Reference4Ideal.Value.run (F := Ideal) m' g')⟩
  · obtain ⟨q9, q10, _, _, _, _, _, _, _, _, _, qa⟩ := h c
    exact ⟨q9, q10, qa⟩
  · obtain ⟨q0, q1, qa⟩ := h c
    obtain ⟨e0, e1, e2, e3, e4, e5, e6, e7⟩ := hm c
    have p0 := q0.trans (Cert.Reference4Ideal.Read.val_main_v12_eq (F := Ideal) _ _ _)
    have p1 := q1.trans (Cert.Reference4Ideal.Read.val_main_v14_eq (F := Ideal) _ _)
    rw [e0, e1, e2] at p0
    rw [e0, e1] at p1
    exact ⟨p0.trans (same9 m c).symm, p1.trans (same10 m c).symm, qa⟩

end Frt

end
-- ==== Proof.Adam.Tiles.lean ====
/-
  The optimiser's step in tiles: every entry of the three results goes through the same operations in the kernel and in
  the reference, so each array of the one is that of the other.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

open Idealize.ShloMosaic Idealize.SL.Sem

namespace Adam

/-- The frame of the reference for the first weight: its arguments end unchanged, and it declares no semaphore. -/
theorem frameR5 : Cert.quiescent_Reference5Ideal (hReference5Ideal := Cert.Reference5Ideal.Gen.facts) := fun m g _ =>
  (θ_run Cert.Reference5Ideal.defs _ _).mono (fun r h => ⟨fun c => (h c).2.2.2, sem_eq_zero_of_no_sems (by decide) r.2⟩)
    (Cert.Reference5Ideal.Value.run (F := Ideal) m g)

section
open Cert.Kernel5Ideal.Value Cert.Reference5Ideal.Read
variable (w g m v : Cert.Kernel5Ideal.S770x8x128.Idx → EReal)

theorem step5 : G4 (F := Ideal) g m v w = val_main_v23 (F := Ideal) w g m v := funext fun _ => rfl
theorem first5 : G5 (F := Ideal) g m = val_main_v4 (F := Ideal) g m := funext fun _ => rfl
theorem second5 : G6 (F := Ideal) g v = val_main_v10 (F := Ideal) g v := funext fun _ => rfl
end

theorem algebraic5 : Cert.algebraic_Kernel5Ideal_Reference5Ideal (hKernel5Ideal := Cert.Kernel5Ideal.Gen.facts) (hReference5Ideal := Cert.Reference5Ideal.Gen.facts) := by
  intro m g m' g' _ hm
  refine ⟨_, _, _, Cert.Kernel5Ideal.Value.run (F := Ideal) m g,
    (θ_run Cert.Reference5Ideal.defs _ _).mono (fun _ h c => ?_) (Cert.Reference5Ideal.Value.run (F := Ideal) m' g')⟩
  obtain ⟨q0, q1, q2, qa⟩ := h c
  obtain ⟨e0, e1, e2, e3⟩ := hm c
  have p0 := q0.trans (Cert.Reference5Ideal.Read.val_main_v23_eq (F := Ideal) _ _ _ _)
  have p1 := q1.trans (Cert.Reference5Ideal.Read.val_main_v4_eq (F := Ideal) _ _)
  have p2 := q2.trans (Cert.Reference5Ideal.Read.val_main_v10_eq (F := Ideal) _ _)
  rw [e0, e1, e2, e3] at p0
  rw [e1, e2] at p1
  rw [e1, e3] at p2
  exact ⟨p0.trans (step5 _ _ _ _).symm, p1.trans (first5 _ _).symm, p2.trans (second5 _ _).symm, qa⟩

/-- The frame of the reference for the second: its arguments end unchanged, and it declares no semaphore. -/
theorem frameR6 : Cert.quiescent_Reference6Ideal (hReference6Ideal := Cert.Reference6Ideal.Gen.facts) := fun m g _ =>
  (θ_run Cert.Reference6Ideal.defs _ _).mono (fun r h => ⟨fun c => (h c).2.2.2, sem_eq_zero_of_no_sems (by decide) r.2⟩)
    (Cert.Reference6Ideal.Value.run (F := Ideal) m g)

section
open Cert.Kernel6Ideal.Value Cert.Reference6Ideal.Read
variable (w g m v : Cert.Kernel6Ideal.S1x8x128.Idx → EReal)

theorem step6 : G4 (F := Ideal) g m v w = val_main_v23 (F := Ideal) w g m v := funext fun _ => rfl
theorem first6 : G5 (F := Ideal) g m = val_main_v4 (F := Ideal) g m := funext fun _ => rfl
theorem second6 : G6 (F := Ideal) g v = val_main_v10 (F := Ideal) g v := funext fun _ => rfl
end

theorem algebraic6 : Cert.algebraic_Kernel6Ideal_Reference6Ideal (hKernel6Ideal := Cert.Kernel6Ideal.Gen.facts) (hReference6Ideal := Cert.Reference6Ideal.Gen.facts) := by
  intro m g m' g' _ hm
  refine ⟨_, _, _, Cert.Kernel6Ideal.Value.run (F := Ideal) m g,
    (θ_run Cert.Reference6Ideal.defs _ _).mono (fun _ h c => ?_) (Cert.Reference6Ideal.Value.run (F := Ideal) m' g')⟩
  obtain ⟨q0, q1, q2, qa⟩ := h c
  obtain ⟨e0, e1, e2, e3⟩ := hm c
  have p0 := q0.trans (Cert.Reference6Ideal.Read.val_main_v23_eq (F := Ideal) _ _ _ _)
  have p1 := q1.trans (Cert.Reference6Ideal.Read.val_main_v4_eq (F := Ideal) _ _)
  have p2 := q2.trans (Cert.Reference6Ideal.Read.val_main_v10_eq (F := Ideal) _ _)
  rw [e0, e1, e2, e3] at p0
  rw [e1, e2] at p1
  rw [e1, e3] at p2
  exact ⟨p0.trans (step6 _ _ _ _).symm, p1.trans (first6 _ _).symm, p2.trans (second6 _ _).symm, qa⟩

end Adam

end
-- ==== Proof.Adam.Step.lean ====
/-
  One entry of the optimiser's step, at the ideal values.
-/
module

public import proofs.«01_k».proof.Proof.Win.Ref

@[expose] public section

set_option maxRecDepth 16384

noncomputable section

open Idealize.ShloMosaic

namespace Adam

/-- An entry of the gradient: from the half that the device holds, if it is half `k`, else from the one it was sent. -/
def pick (w : BitVec 32) (k : ℕ) (own got : EReal) : EReal := Scalar.select (IntOp.cmpi .eq w (BitVec.ofNat 32 k)) own got

/-- The two averages and the step, of one entry. -/
def avg1 (g m : EReal) : EReal := FloatOps.addf (F := Ideal) (φ := .f32) (FloatOps.mulf (FloatOps.ofBits .f32 0x3F666666#32) m) (FloatOps.mulf (FloatOps.ofBits .f32 0x3DCCCCCD#32) g)
def avg2 (g v : EReal) : EReal := FloatOps.addf (F := Ideal) (φ := .f32) (FloatOps.mulf (FloatOps.ofBits .f32 0x3F7FBE77#32) v) (FloatOps.mulf (FloatOps.ofBits .f32 0x3A83126F#32) (FloatOps.mulf g g))
def move (g m v w : EReal) : EReal := FloatOps.mulf (F := Ideal) (φ := .f32) (FloatOps.ofBits .f32 0xBA83126F#32) (FloatOps.addf (FloatOps.divf (FloatOps.divf (avg1 g m) (FloatOps.ofBits .f32 0x3F26BD02#32)) (FloatOps.addf (FloatOps.sqrt (FloatOps.divf (avg2 g v) (FloatOps.ofBits .f32 0x3C231ACC#32))) (FloatOps.ofBits .f32 0x322BCC77#32))) (FloatOps.mulf (FloatOps.ofBits .f32 0x3C23D70A#32) w))

theorem cmpi_swap (a b : BitVec 32) : IntOp.cmpi .eq a b = IntOp.cmpi .eq b a := by
  show BitVec.ofBool (a == b) = BitVec.ofBool (b == a)
  rw [Bool.beq_comm]

end Adam

end
-- ==== Proof.Adam.Half.lean ====
/-
  What a point of the split weight's step writes, entry by entry.
-/
module

public import proofs.«01_k».proof.Proof.Adam.Step
public import proofs.«01_k».proof.Proof.Gen.Kernel8Ideal.Frame

@[expose] public section

set_option maxRecDepth 16384

noncomputable section

open Idealize.ShloMosaic Idealize.ShloMosaic.TcCoe Idealize.ShloMosaic.ValueIdx Cert.Kernel8Ideal Cert.Kernel8Ideal.Gen

namespace Adam

theorem hz3 : (![0, 0, 0] : Fin 3 → Nat) = fun _ => 0 := funext fun a => by fin_cases a <;> rfl
theorem hz2 : (![0, 0] : Fin 2 → Nat) = fun _ => 0 := funext fun a => by fin_cases a <;> rfl

section
variable (w : BitVec 32) (x0 x3 x4 : Vec Ideal S1x128x1024 .f32) (x1 x2 : Vec Ideal S128x1024 .f32) (r : Fin 128) (l : Fin 1024)

theorem lift3 (v : Vec Ideal S128x1024 .f32) : (shapeCast S1x128x1024 v shapeCasts_S128x1024_S1x128x1024) (ix3 (n0 := 1) (n1 := 128) (n2 := 1024) 0 r l) = v (ix2 r l) :=
  shapeCast_apply _ _ _ _ (by rw [Shape.rowMajor_val_two, Shape.rowMajor_val_three]; show r.val * 1024 + l.val = (0 * 128 + r.val) * 1024 + l.val; omega)
theorem drop3 (v : Vec Ideal S1x128x1024 .f32) : (shapeCast S128x1024 v shapeCasts_S1x128x1024_S128x1024) (ix2 (n0 := 128) (n1 := 1024) r l) = v (ix3 0 r l) :=
  shapeCast_apply _ _ _ _ (by rw [Shape.rowMajor_val_two, Shape.rowMajor_val_three]; show (0 * 128 + r.val) * 1024 + l.val = r.val * 1024 + l.val; omega)

theorem part_of : ∀ n : Fin 2, (Scalar.select
      (Scalar.andi (Scalar.cmpi .ne (Scalar.subi (Scalar.extui (Scalar.cmpi .sgt (BitVec.ofNat 32 n.val) 0#32)) (Scalar.extui (Scalar.cmpi .slt (BitVec.ofNat 32 n.val) 0#32)))
          (Scalar.subi (Scalar.extui (Scalar.cmpi .sgt 1#32 0#32)) (Scalar.extui (Scalar.cmpi .slt 1#32 0#32))))
        (Scalar.cmpi .ne (Scalar.remsi (BitVec.ofNat 32 n.val) 1#32) 0#32))
      (Scalar.subi (Scalar.divsi (BitVec.ofNat 32 n.val) 1#32) 1#32) (Scalar.divsi (BitVec.ofNat 32 n.val) 1#32) : BitVec 32) = BitVec.ofNat 32 n.val := by
  decide

theorem half (i : grid0.Coords) : k0_pay5 (F := Ideal) i w x1 x2 (ix2 r l) = pick w (i 0).val (x1 (ix2 r l)) (x2 (ix2 r l)) := by
  unfold k0_pay5 pick
  dsimp only
  rw [cmpi_swap w]
  have e := part_of (i 0)
  rw [e]
  unfold Scalar.select Scalar.cmpi
  split <;> rfl

variable (i : grid0.Coords)
theorem pay6_at : k0_pay6 (F := Ideal) i w x1 x2 (ix3 0 r l) = pick w (i 0).val (x1 (ix2 r l)) (x2 (ix2 r l)) :=
  (lift3 r l _).trans (half w x1 x2 r l i)
theorem pay7_at : k0_pay7 (F := Ideal) i w x1 x2 x3 (ix2 r l) = avg1 (pick w (i 0).val (x1 (ix2 r l)) (x2 (ix2 r l))) (x3 (ix3 0 r l)) := by
  rw [← half, ← drop3 r l x3]
  rfl
theorem pay1_at : k0_pay1 (F := Ideal) (k0_pay5 (F := Ideal) i w x1 x2) (k0_pay8 x4) (Scalar.ofBits .f32 0x3F7FBE77#32) (ix2 r l) = avg2 (pick w (i 0).val (x1 (ix2 r l)) (x2 (ix2 r l))) (x4 (ix3 0 r l)) := by
  rw [← half, ← drop3 r l x4]
  rfl
theorem pay2_at : k0_pay2 (F := Ideal) (k0_pay5 (F := Ideal) i w x1 x2) (k0_pay7 (F := Ideal) i w x1 x2 x3) (k0_pay8 x4) (Scalar.ofBits .f32 0x3F7FBE77#32) x0 (ix3 0 r l)
    = move (pick w (i 0).val (x1 (ix2 r l)) (x2 (ix2 r l))) (x3 (ix3 0 r l)) (x4 (ix3 0 r l)) (x0 (ix3 0 r l)) := by
  unfold move
  rw [← pay7_at, ← pay1_at, ← drop3 r l x0]
  unfold k0_pay2
  exact (lift3 r l _).trans rfl
end

section
variable (c : Dev nD) (i : grid0.Coords) (arg2 : Memref sig .tc .vmem S1x128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S1x128x1024 .f32) (harg10 : arg10.IsWhole)
  (x0 x3 x4 : Vec Ideal S1x128x1024 .f32) (x1 x2 : Vec Ideal S128x1024 .f32) (xt0 : TbBuf0 (F := Ideal) c tbM0_0) (r : Fin 128) (l : Fin 1024)

/-- The word of the table. -/
def word : BitVec 32 := kernelRun0_A.sl.r (F := Ideal) c xt0
theorem word_eq : word c xt0 = xt0 (ix1 (n := 1) 0) := by
  have e : ∀ k : (⟨1, ![1]⟩ : Shape).Idx, k = ix1 0 := fun k => by
    funext d
    exact Subsingleton.elim (α := Fin 1) (k 0) 0 |> fun h => by fin_cases d; exact h
  unfold word kernelRun0_A.sl.r
  exact congrArg xt0 (e _)

theorem out5 : out0_A_5 (F := Ideal) c i arg2 harg2 arg3 harg3 arg4 harg4 arg5 harg5 arg6 harg6 arg7 harg7 arg8 harg8 arg9 harg9 arg10 harg10 x0 x1 x2 x3 x4 xt0 (ix3 0 r l)
    = pick (xt0 (ix1 (n := 1) 0)) (i 0).val (x1 (ix2 r l)) (x2 (ix2 r l)) := by
  have e : out0_A_5 (F := Ideal) c i arg2 harg2 arg3 harg3 arg4 harg4 arg5 harg5 arg6 harg6 arg7 harg7 arg8 harg8 arg9 harg9 arg10 harg10 x0 x1 x2 x3 x4 xt0 = k0_pay6 (F := Ideal) i (word c xt0) x1 x2 := by
    unfold out0_A_5
    rw [View.read_writes_junk_eq_canon]
    unfold kernelRun0_A
    dsimp only
    rw [View.canon_unit_zero hz3]
    (try unfold kernelRun0_A.sl.r_1); (try unfold kernelRun0_A.sl.r_2); (try unfold kernelRun0_A.sl.r_3)
    simp only [View.readAt_eq_ld, Memref.IsWhole.read_unread, View.ld_unit_zero (S := S1x128x1024) hz3, View.ld_unit_zero (S := S128x1024) hz2]
    rfl
  rw [e, ← word_eq c xt0]
  exact pay6_at _ x1 x2 r l i

theorem out6 : out0_A_6 (F := Ideal) c i arg2 harg2 arg3 harg3 arg4 harg4 arg5 harg5 arg6 harg6 arg7 harg7 arg8 harg8 arg9 harg9 arg10 harg10 x0 x1 x2 x3 x4 xt0 (ix3 0 r l)
    = move (pick (xt0 (ix1 (n := 1) 0)) (i 0).val (x1 (ix2 r l)) (x2 (ix2 r l))) (x3 (ix3 0 r l)) (x4 (ix3 0 r l)) (x0 (ix3 0 r l)) := by
  have e : out0_A_6 (F := Ideal) c i arg2 harg2 arg3 harg3 arg4 harg4 arg5 harg5 arg6 harg6 arg7 harg7 arg8 harg8 arg9 harg9 arg10 harg10 x0 x1 x2 x3 x4 xt0 = k0_pay2 (F := Ideal) (k0_pay5 i (word c xt0) x1 x2) (k0_pay7 i (word c xt0) x1 x2 x3) (k0_pay8 x4) (Scalar.ofBits .f32 0x3F7FBE77#32) x0 := by
    unfold out0_A_6
    rw [View.read_writes_junk_eq_canon]
    unfold kernelRun0_A
    dsimp only
    rw [View.canon_unit_zero hz3]
    (try unfold kernelRun0_A.sl.r_1); (try unfold kernelRun0_A.sl.r_2); (try unfold kernelRun0_A.sl.r_3)
    simp only [View.readAt_eq_ld, Memref.IsWhole.read_unread, View.ld_unit_zero (S := S1x128x1024) hz3, View.ld_unit_zero (S := S128x1024) hz2]
    rfl
  rw [e, ← word_eq c xt0]
  exact pay2_at _ x0 x3 x4 x1 x2 r l i

theorem out7 : out0_A_7 (F := Ideal) c i arg2 harg2 arg3 harg3 arg4 harg4 arg5 harg5 arg6 harg6 arg7 harg7 arg8 harg8 arg9 harg9 arg10 harg10 x0 x1 x2 x3 x4 xt0 (ix3 0 r l)
    = avg1 (pick (xt0 (ix1 (n := 1) 0)) (i 0).val (x1 (ix2 r l)) (x2 (ix2 r l))) (x3 (ix3 0 r l)) := by
  have e : out0_A_7 (F := Ideal) c i arg2 harg2 arg3 harg3 arg4 harg4 arg5 harg5 arg6 harg6 arg7 harg7 arg8 harg8 arg9 harg9 arg10 harg10 x0 x1 x2 x3 x4 xt0 = k0_pay3 (F := Ideal) (k0_pay7 i (word c xt0) x1 x2 x3) := by
    unfold out0_A_7
    rw [View.read_writes_junk_eq_canon]
    unfold kernelRun0_A
    dsimp only
    rw [View.canon_unit_zero hz3]
    (try unfold kernelRun0_A.sl.r_1); (try unfold kernelRun0_A.sl.r_2); (try unfold kernelRun0_A.sl.r_3)
    simp only [View.readAt_eq_ld, Memref.IsWhole.read_unread, View.ld_unit_zero (S := S1x128x1024) hz3, View.ld_unit_zero (S := S128x1024) hz2]
    rfl
  rw [e, ← word_eq c xt0]
  exact (lift3 r l _).trans (pay7_at _ x3 x1 x2 r l i)

theorem out8 : out0_A_8 (F := Ideal) c i arg2 harg2 arg3 harg3 arg4 harg4 arg5 harg5 arg6 harg6 arg7 harg7 arg8 harg8 arg9 harg9 arg10 harg10 x0 x1 x2 x3 x4 xt0 (ix3 0 r l)
    = avg2 (pick (xt0 (ix1 (n := 1) 0)) (i 0).val (x1 (ix2 r l)) (x2 (ix2 r l))) (x4 (ix3 0 r l)) := by
  have e : out0_A_8 (F := Ideal) c i arg2 harg2 arg3 harg3 arg4 harg4 arg5 harg5 arg6 harg6 arg7 harg7 arg8 harg8 arg9 harg9 arg10 harg10 x0 x1 x2 x3 x4 xt0 = k0_pay4 (F := Ideal) (k0_pay5 i (word c xt0) x1 x2) (k0_pay8 x4) (Scalar.ofBits .f32 0x3F7FBE77#32) := by
    unfold out0_A_8
    rw [View.read_writes_junk_eq_canon]
    unfold kernelRun0_A
    dsimp only
    rw [View.canon_unit_zero hz3]
    (try unfold kernelRun0_A.sl.r_1); (try unfold kernelRun0_A.sl.r_2); (try unfold kernelRun0_A.sl.r_3)
    simp only [View.readAt_eq_ld, Memref.IsWhole.read_unread, View.ld_unit_zero (S := S1x128x1024) hz3, View.ld_unit_zero (S := S128x1024) hz2]
    rfl
  rw [e, ← word_eq c xt0]
  exact (lift3 r l _).trans (pay1_at _ x4 x1 x2 r l i)
end
end Adam

end
-- ==== Proof.Adam.Shard.lean ====
/-
  The split weight's step: the two programs leave the same gradient, step and averages.
-/
module

public import proofs.«01_k».proof.Defs
public import proofs.«01_k».proof.Proof.Adam.Half
public import proofs.«01_k».proof.Proof.Gen.Reference8Ideal.Run
public import proofs.«01_k».proof.Proof.Gen.Reference8Ideal.Read

@[expose] public section

set_option maxRecDepth 16384

noncomputable section

open Idealize.ShloMosaic Idealize.ShloMosaic.TcCoe Idealize.ShloMosaic.ValueIdx Idealize.SL.Sem

namespace Adam

/-- A row's half, and the row in it. -/
theorem row_lt {t : ℕ} (ht : t < 2) (r : Fin 128) : 128 * t + r.val < 256 := by omega
def row (t : Fin 2) (r : Fin 128) : Fin 256 := ⟨128 * t.val + r.val, row_lt t.isLt r⟩
theorem row_of (R : Fin 256) : ∃ (t : Fin 2) (r : Fin 128), row t r = R :=
  ⟨⟨R.val / 128, by omega⟩, ⟨R.val % 128, Nat.mod_lt _ (by decide)⟩, Fin.ext (Nat.div_add_mod _ _)⟩

section
open Cert.Reference8Ideal Cert.Reference8Ideal.Gen Cert.Reference8Ideal.Read
variable (x0 : (⟨S1, .i32⟩ : BufTy).Contents (Elt Ideal)) (x2 x3 : (⟨S128x1024, .f32⟩ : BufTy).Contents (Elt Ideal)) (x1 x4 x5 : (⟨S1x256x1024, .f32⟩ : BufTy).Contents (Elt Ideal))

theorem only (k : S1.Idx) : k = ix1 (n := 1) 0 := by
  funext d
  fin_cases d
  exact Subsingleton.elim (α := Fin 1) (k 0) 0

/-- The reference's two halves of the gradient, and the whole. -/
theorem ref_first (i : S128x1024.Idx) : val_main_v2 (F := Ideal) x0 x2 x3 i = pick (x0 (ix1 (n := 1) 0)) 0 (x2 i) (x3 i) := by
  rw [val_main_v2_apply, val_main_call0_v0_apply, val_main_v1_apply, val_main_v0_apply, val_main_c_apply, only (idx_main_call0_v0 i)]
  rfl
theorem ref_second (i : S128x1024.Idx) : val_main_v5 (F := Ideal) x0 x2 x3 i = pick (x0 (ix1 (n := 1) 0)) 1 (x2 i) (x3 i) := by
  rw [val_main_v5_apply, val_main_call1_v0_apply, val_main_v4_apply, val_main_v3_apply, val_main_c_0_apply, only (idx_main_call1_v0 i)]
  rfl
theorem ref_grad (t : Fin 2) (r : Fin 128) (l : Fin 1024) :
    val_main_v7 (F := Ideal) x0 x2 x3 (ix3 0 (row t r) l) = pick (x0 (ix1 (n := 1) 0)) t.val (x2 (ix2 r l)) (x3 (ix2 r l)) := by
  rw [val_main_v7_apply]
  unfold val_main_v6
  fin_cases t
  · rw [concatenate_pair_apply_left (s₁ := S128x1024) (s₂ := S128x1024) (t := S256x1024) 0 _ _ concatenates_S128x1024_S128x1024_S256x1024_d0 _ rfl (ix2 (n0 := 128) (n1 := 1024) r l) (fun b => by
      match b with
      | ⟨0, _⟩ => show r.val = 128 * 0 + r.val; omega
      | ⟨1, _⟩ => rfl)]
    exact ref_first x0 x2 x3 _
  · rw [concatenate_pair_apply_right (s₁ := S128x1024) (s₂ := S128x1024) (t := S256x1024) 0 _ _ concatenates_S128x1024_S128x1024_S256x1024_d0 _ rfl rfl (ix2 (n0 := 128) (n1 := 1024) r l) (fun b hb => by
      match b with
      | ⟨0, _⟩ => exact absurd rfl hb
      | ⟨1, _⟩ => rfl) (by show r.val + 128 = 128 * 1 + r.val; omega)]
    exact ref_second x0 x2 x3 _

/-- The reference's step and averages of an entry. -/
theorem ref_first_avg (i : S1x256x1024.Idx) : val_main_v12 (F := Ideal) x0 x2 x3 x4 i = avg1 (val_main_v7 (F := Ideal) x0 x2 x3 i) (x4 i) := rfl
theorem ref_second_avg (i : S1x256x1024.Idx) : val_main_v18 (F := Ideal) x0 x2 x3 x5 i = avg2 (val_main_v7 (F := Ideal) x0 x2 x3 i) (x5 i) := rfl
theorem ref_move (i : S1x256x1024.Idx) : val_main_v31 (F := Ideal) x0 x1 x2 x3 x4 x5 i = move (val_main_v7 (F := Ideal) x0 x2 x3 i) (x4 i) (x5 i) (x1 i) := rfl
end

/-- Two arrays that agree at every row of the two halves are the same. -/
theorem ext_half {u v : Cert.Kernel8Ideal.S1x256x1024.Idx → EReal} (h : ∀ t r l, u (ix3 0 (row t r) l) = v (ix3 0 (row t r) l)) : u = v := funext fun y => by
  obtain ⟨t, r, e⟩ := row_of (y 1)
  have hy : y = ix3 (n0 := 1) (n1 := 256) (n2 := 1024) 0 (row t r) (y 2) := by
    funext d
    fin_cases d
    · exact Subsingleton.elim (α := Fin 1) (y 0) 0
    · exact e.symm
    · rfl
  rw [hy]
  exact h t r (y 2)

section
open Cert.Kernel8Ideal Cert.Kernel8Ideal.Gen
variable (m : (ℓ : Loc nD τ sig) → Buf (Elt Ideal) ℓ) (hO : Ok m) (c : Dev nD)

theorem part (t : Fin 2) : ((grid0.coords t) 0).val = t.val := (by decide +kernel : ∀ t : Fin grid0.N, ((grid0.coords t) 0).val = t.val) t

section
variable (t : Fin (cfgM m hO).N) (r : Fin 128) (l : Fin 1024)
theorem at0 : ((cfgM m hO).win 0).index t (0 : Fin 3) = 0 ∧ ((cfgM m hO).win 0).index t (1 : Fin 3) = t.val ∧ ((cfgM m hO).win 0).index t (2 : Fin 3) = 0 :=
  (by decide +kernel : ∀ t : Fin grid0.N, cc0_transform_0 (grid0.coords t) 0 = 0 ∧ cc0_transform_0 (grid0.coords t) 1 = t.val ∧ cc0_transform_0 (grid0.coords t) 2 = 0) t
theorem at3 : ((cfgM m hO).win 3).index t (0 : Fin 3) = 0 ∧ ((cfgM m hO).win 3).index t (1 : Fin 3) = t.val ∧ ((cfgM m hO).win 3).index t (2 : Fin 3) = 0 :=
  (by decide +kernel : ∀ t : Fin grid0.N, cc0_transform_3 (grid0.coords t) 0 = 0 ∧ cc0_transform_3 (grid0.coords t) 1 = t.val ∧ cc0_transform_3 (grid0.coords t) 2 = 0) t
theorem at4 : ((cfgM m hO).win 4).index t (0 : Fin 3) = 0 ∧ ((cfgM m hO).win 4).index t (1 : Fin 3) = t.val ∧ ((cfgM m hO).win 4).index t (2 : Fin 3) = 0 :=
  (by decide +kernel : ∀ t : Fin grid0.N, cc0_transform_4 (grid0.coords t) 0 = 0 ∧ cc0_transform_4 (grid0.coords t) 1 = t.val ∧ cc0_transform_4 (grid0.coords t) 2 = 0) t
theorem at5 : ((cfgM m hO).win 5).index t (0 : Fin 3) = 0 ∧ ((cfgM m hO).win 5).index t (1 : Fin 3) = t.val ∧ ((cfgM m hO).win 5).index t (2 : Fin 3) = 0 :=
  (by decide +kernel : ∀ t : Fin grid0.N, cc0_transform_5 (grid0.coords t) 0 = 0 ∧ cc0_transform_5 (grid0.coords t) 1 = t.val ∧ cc0_transform_5 (grid0.coords t) 2 = 0) t
theorem at6 : ((cfgM m hO).win 6).index t (0 : Fin 3) = 0 ∧ ((cfgM m hO).win 6).index t (1 : Fin 3) = t.val ∧ ((cfgM m hO).win 6).index t (2 : Fin 3) = 0 :=
  (by decide +kernel : ∀ t : Fin grid0.N, cc0_transform_6 (grid0.coords t) 0 = 0 ∧ cc0_transform_6 (grid0.coords t) 1 = t.val ∧ cc0_transform_6 (grid0.coords t) 2 = 0) t
theorem at7 : ((cfgM m hO).win 7).index t (0 : Fin 3) = 0 ∧ ((cfgM m hO).win 7).index t (1 : Fin 3) = t.val ∧ ((cfgM m hO).win 7).index t (2 : Fin 3) = 0 :=
  (by decide +kernel : ∀ t : Fin grid0.N, cc0_transform_7 (grid0.coords t) 0 = 0 ∧ cc0_transform_7 (grid0.coords t) 1 = t.val ∧ cc0_transform_7 (grid0.coords t) 2 = 0) t
theorem at8 : ((cfgM m hO).win 8).index t (0 : Fin 3) = 0 ∧ ((cfgM m hO).win 8).index t (1 : Fin 3) = t.val ∧ ((cfgM m hO).win 8).index t (2 : Fin 3) = 0 :=
  (by decide +kernel : ∀ t : Fin grid0.N, cc0_transform_8 (grid0.coords t) 0 = 0 ∧ cc0_transform_8 (grid0.coords t) 1 = t.val ∧ cc0_transform_8 (grid0.coords t) 2 = 0) t
theorem at1 : ((cfgM m hO).win 1).index t (0 : Fin 2) = 0 ∧ ((cfgM m hO).win 1).index t (1 : Fin 2) = 0 :=
  (by decide +kernel : ∀ t : Fin grid0.N, cc0_transform_1 (grid0.coords t) 0 = 0 ∧ cc0_transform_1 (grid0.coords t) 1 = 0) t
theorem at2 : ((cfgM m hO).win 2).index t (0 : Fin 2) = 0 ∧ ((cfgM m hO).win 2).index t (1 : Fin 2) = 0 :=
  (by decide +kernel : ∀ t : Fin grid0.N, cc0_transform_2 (grid0.coords t) 0 = 0 ∧ cc0_transform_2 (grid0.coords t) 1 = 0) t
theorem blk0 : iblk m hO c 0 t (ix3 0 r l) = m ((c : Thread nD τ).loc main_arg1) (ix3 0 (row t r) l) := by
  blk_ext [iblk, V_main_arg1, at0 m hO t]
  show t.val * 128 + r.val = 128 * t.val + r.val
  omega
theorem blk3 : iblk m hO c 3 t (ix3 0 r l) = m ((c : Thread nD τ).loc main_arg4) (ix3 0 (row t r) l) := by
  blk_ext [iblk, V_main_arg4, at3 m hO t]
  show t.val * 128 + r.val = 128 * t.val + r.val
  omega
theorem blk4 : iblk m hO c 4 t (ix3 0 r l) = m ((c : Thread nD τ).loc main_arg5) (ix3 0 (row t r) l) := by
  blk_ext [iblk, V_main_arg5, at4 m hO t]
  show t.val * 128 + r.val = 128 * t.val + r.val
  omega
theorem blk1 : iblk m hO c 1 t (ix2 r l) = m ((c : Thread nD τ).loc main_arg2) (ix2 r l) := by
  blk_ext [iblk, V_main_arg2, at1 m hO t]
theorem blk2 : iblk m hO c 2 t (ix2 r l) = m ((c : Thread nD τ).loc main_arg3) (ix2 r l) := by
  blk_ext [iblk, V_main_arg3, at2 m hO t]

/-- The word of the table, and the entry of the gradient that it picks. -/
theorem word_at : tbl m 0 (ix1 (n := 1) 0) = m ((c : Thread nD τ).loc main_arg0) (ix1 (n := 1) 0) := by
  obtain rfl : c = 0 := Subsingleton.elim _ _
  rfl
def gat : EReal := pick (m ((c : Thread nD τ).loc main_arg0) (ix1 (n := 1) 0)) t.val (m ((c : Thread nD τ).loc main_arg2) (ix2 r l)) (m ((c : Thread nD τ).loc main_arg3) (ix2 r l))
theorem gat_eq : pick (tbl m 0 (ix1 (n := 1) 0)) ((grid0.coords t) 0).val (iblk m hO c 1 t (ix2 r l)) (iblk m hO c 2 t (ix2 r l)) = gat m hO c t r l := by
  rw [word_at m c, part t, blk1, blk2]
  rfl

/-- What a point writes back. -/
theorem wrote5 : (dats m hO 0 c).flushed 5 t (ix3 0 r l) = gat m hO c t r l := by
  have e : (dats m hO 0 c).flushed 5 t (ix3 0 r l) = (dats m hO 0 c).after 5 t (ix3 0 r l) := rfl
  rw [e, after0_5]
  unfold outsAt0
  dsimp only
  refine (out5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 3 t) (iblk m hO c 4 t) (iblk m hO c 1 t) (iblk m hO c 2 t) (tbl m 0) r l).trans ?_
  rw [gat_eq]
theorem wrote6 : (dats m hO 0 c).flushed 6 t (ix3 0 r l) = move (gat m hO c t r l) (m ((c : Thread nD τ).loc main_arg4) (ix3 0 (row t r) l)) (m ((c : Thread nD τ).loc main_arg5) (ix3 0 (row t r) l)) (m ((c : Thread nD τ).loc main_arg1) (ix3 0 (row t r) l)) := by
  have e : (dats m hO 0 c).flushed 6 t (ix3 0 r l) = (dats m hO 0 c).after 6 t (ix3 0 r l) := rfl
  rw [e, after0_6]
  unfold outsAt0
  dsimp only
  refine (out6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 3 t) (iblk m hO c 4 t) (iblk m hO c 1 t) (iblk m hO c 2 t) (tbl m 0) r l).trans ?_
  rw [gat_eq, blk3, blk4, blk0]
theorem wrote7 : (dats m hO 0 c).flushed 7 t (ix3 0 r l) = avg1 (gat m hO c t r l) (m ((c : Thread nD τ).loc main_arg4) (ix3 0 (row t r) l)) := by
  have e : (dats m hO 0 c).flushed 7 t (ix3 0 r l) = (dats m hO 0 c).after 7 t (ix3 0 r l) := rfl
  rw [e, after0_7]
  unfold outsAt0
  dsimp only
  refine (out7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 3 t) (iblk m hO c 4 t) (iblk m hO c 1 t) (iblk m hO c 2 t) (tbl m 0) r l).trans ?_
  rw [gat_eq, blk3]
theorem wrote8 : (dats m hO 0 c).flushed 8 t (ix3 0 r l) = avg2 (gat m hO c t r l) (m ((c : Thread nD τ).loc main_arg5) (ix3 0 (row t r) l)) := by
  have e : (dats m hO 0 c).flushed 8 t (ix3 0 r l) = (dats m hO 0 c).after 8 t (ix3 0 r l) := rfl
  rw [e, after0_8]
  unfold outsAt0
  dsimp only
  refine (out8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 3 t) (iblk m hO c 4 t) (iblk m hO c 1 t) (iblk m hO c 2 t) (tbl m 0) r l).trans ?_
  rw [gat_eq, blk4]
end

/-- The arrays after the run. -/
theorem inj5 (t t' : Fin (cfgM m hO).N) (e : ((cfgM m hO).win 5).index t = ((cfgM m hO).win 5).index t') : t = t' := by
  have e' := congrFun e (1 : Fin 3)
  rw [(at5 m hO t).2.1, (at5 m hO t').2.1] at e'
  exact Fin.ext e'
theorem left5 (t : Fin 2) (r : Fin 128) (l : Fin 1024) : (dats m hO 0 c).arrAt 5 (cfgM m hO).N (ix3 0 (row t r) l) = gat m hO c t r l := by
  have e := congrFun ((dats m hO 0 c).read_blk_arrAt_eq_flushed 5 (fun t t' _ _ hne => ((cfgM m hO).win 5).disjoint_blk fun e => hne (inj5 m hO t t' e)) (cfgM m hO).N t (Fin.isLt _) (flush0_5 (adm m hO) t)) (ix3 0 r l)
  refine Eq.trans ?_ (e.trans (wrote5 m hO c t r l))
  generalize (dats m hO 0 c).arrAt 5 (cfgM m hO).N = y
  blk_ext [at5 m hO t]
  show 128 * t.val + r.val = t.val * 128 + r.val
  omega
theorem inj6 (t t' : Fin (cfgM m hO).N) (e : ((cfgM m hO).win 6).index t = ((cfgM m hO).win 6).index t') : t = t' := by
  have e' := congrFun e (1 : Fin 3)
  rw [(at6 m hO t).2.1, (at6 m hO t').2.1] at e'
  exact Fin.ext e'
theorem left6 (t : Fin 2) (r : Fin 128) (l : Fin 1024) : (dats m hO 0 c).arrAt 6 (cfgM m hO).N (ix3 0 (row t r) l) = move (gat m hO c t r l) (m ((c : Thread nD τ).loc main_arg4) (ix3 0 (row t r) l)) (m ((c : Thread nD τ).loc main_arg5) (ix3 0 (row t r) l)) (m ((c : Thread nD τ).loc main_arg1) (ix3 0 (row t r) l)) := by
  have e := congrFun ((dats m hO 0 c).read_blk_arrAt_eq_flushed 6 (fun t t' _ _ hne => ((cfgM m hO).win 6).disjoint_blk fun e => hne (inj6 m hO t t' e)) (cfgM m hO).N t (Fin.isLt _) (flush0_6 (adm m hO) t)) (ix3 0 r l)
  refine Eq.trans ?_ (e.trans (wrote6 m hO c t r l))
  generalize (dats m hO 0 c).arrAt 6 (cfgM m hO).N = y
  blk_ext [at6 m hO t]
  show 128 * t.val + r.val = t.val * 128 + r.val
  omega
theorem inj7 (t t' : Fin (cfgM m hO).N) (e : ((cfgM m hO).win 7).index t = ((cfgM m hO).win 7).index t') : t = t' := by
  have e' := congrFun e (1 : Fin 3)
  rw [(at7 m hO t).2.1, (at7 m hO t').2.1] at e'
  exact Fin.ext e'
theorem left7 (t : Fin 2) (r : Fin 128) (l : Fin 1024) : (dats m hO 0 c).arrAt 7 (cfgM m hO).N (ix3 0 (row t r) l) = avg1 (gat m hO c t r l) (m ((c : Thread nD τ).loc main_arg4) (ix3 0 (row t r) l)) := by
  have e := congrFun ((dats m hO 0 c).read_blk_arrAt_eq_flushed 7 (fun t t' _ _ hne => ((cfgM m hO).win 7).disjoint_blk fun e => hne (inj7 m hO t t' e)) (cfgM m hO).N t (Fin.isLt _) (flush0_7 (adm m hO) t)) (ix3 0 r l)
  refine Eq.trans ?_ (e.trans (wrote7 m hO c t r l))
  generalize (dats m hO 0 c).arrAt 7 (cfgM m hO).N = y
  blk_ext [at7 m hO t]
  show 128 * t.val + r.val = t.val * 128 + r.val
  omega
theorem inj8 (t t' : Fin (cfgM m hO).N) (e : ((cfgM m hO).win 8).index t = ((cfgM m hO).win 8).index t') : t = t' := by
  have e' := congrFun e (1 : Fin 3)
  rw [(at8 m hO t).2.1, (at8 m hO t').2.1] at e'
  exact Fin.ext e'
theorem left8 (t : Fin 2) (r : Fin 128) (l : Fin 1024) : (dats m hO 0 c).arrAt 8 (cfgM m hO).N (ix3 0 (row t r) l) = avg2 (gat m hO c t r l) (m ((c : Thread nD τ).loc main_arg5) (ix3 0 (row t r) l)) := by
  have e := congrFun ((dats m hO 0 c).read_blk_arrAt_eq_flushed 8 (fun t t' _ _ hne => ((cfgM m hO).win 8).disjoint_blk fun e => hne (inj8 m hO t t' e)) (cfgM m hO).N t (Fin.isLt _) (flush0_8 (adm m hO) t)) (ix3 0 r l)
  refine Eq.trans ?_ (e.trans (wrote8 m hO c t r l))
  generalize (dats m hO 0 c).arrAt 8 (cfgM m hO).N = y
  blk_ext [at8 m hO t]
  show 128 * t.val + r.val = t.val * 128 + r.val
  omega

/-- Each is the reference's. -/
theorem same5 : ((dats m hO 0 c).arrAt 5 (cfgM m hO).N : S1x256x1024.Idx → EReal) = Cert.Reference8Ideal.Read.val_main_v7 (F := Ideal) (m ((c : Thread nD τ).loc main_arg0)) (m ((c : Thread nD τ).loc main_arg2)) (m ((c : Thread nD τ).loc main_arg3)) :=
  ext_half fun t r l => by
    rw [left5, ref_grad]
    rfl
theorem same6 : ((dats m hO 0 c).arrAt 6 (cfgM m hO).N : S1x256x1024.Idx → EReal) = Cert.Reference8Ideal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ext_half fun t r l => by
    rw [left6, ref_move, ref_grad]
    rfl
theorem same7 : ((dats m hO 0 c).arrAt 7 (cfgM m hO).N : S1x256x1024.Idx → EReal) = Cert.Reference8Ideal.Read.val_main_v12 (F := Ideal) (m ((c : Thread nD τ).loc main_arg0)) (m ((c : Thread nD τ).loc main_arg2)) (m ((c : Thread nD τ).loc main_arg3)) (m ((c : Thread nD τ).loc main_arg4)) :=
  ext_half fun t r l => by
    rw [left7, ref_first_avg, ref_grad]
    rfl
theorem same8 : ((dats m hO 0 c).arrAt 8 (cfgM m hO).N : S1x256x1024.Idx → EReal) = Cert.Reference8Ideal.Read.val_main_v18 (F := Ideal) (m ((c : Thread nD τ).loc main_arg0)) (m ((c : Thread nD τ).loc main_arg2)) (m ((c : Thread nD τ).loc main_arg3)) (m ((c : Thread nD τ).loc main_arg5)) :=
  ext_half fun t r l => by
    rw [left8, ref_second_avg, ref_grad]
    rfl
end

/-- The frame of the reference: its arguments end unchanged, and it declares no semaphore. -/
theorem frameR8 : Cert.quiescent_Reference8Ideal (hReference8Ideal := Cert.Reference8Ideal.Gen.facts) := fun m g _ =>
  (θ_run Cert.Reference8Ideal.defs _ _).mono (fun r h => ⟨fun c => (h c).2.2.2.2, sem_eq_zero_of_no_sems (by decide) r.2⟩)
    (Cert.Reference8Ideal.Value.run (F := Ideal) m g)

theorem algebraic8 : Cert.algebraic_Kernel8Ideal_Reference8Ideal (hKernel8Ideal := Cert.Kernel8Ideal.Gen.facts) (hReference8Ideal := Cert.Reference8Ideal.Gen.facts) := by
  intro m g m' g' _ hm
  refine ⟨fun c => (Cert.Kernel8Ideal.Gen.dats m trivial 0 c).arrAt 5 (Cert.Kernel8Ideal.Gen.cfgM m trivial).N, fun c => (Cert.Kernel8Ideal.Gen.dats m trivial 0 c).arrAt 6 (Cert.Kernel8Ideal.Gen.cfgM m trivial).N, fun c => (Cert.Kernel8Ideal.Gen.dats m trivial 0 c).arrAt 7 (Cert.Kernel8Ideal.Gen.cfgM m trivial).N, fun c => (Cert.Kernel8Ideal.Gen.dats m trivial 0 c).arrAt 8 (Cert.Kernel8Ideal.Gen.cfgM m trivial).N,
    (θ_run Cert.Kernel8Ideal.defs _ _).mono (fun _ h c => ⟨(h.1 c).1 5, (h.1 c).1 6, (h.1 c).1 7, (h.1 c).1 8, h.2 c⟩)
      (θ_run_and (Cert.Kernel8Ideal.Gen.run_main (F := Ideal) m g trivial) (Cert.Kernel8Ideal.Gen.unchanged (F := Ideal) m g trivial)),
    (θ_run Cert.Reference8Ideal.defs _ _).mono (fun _ h c => ?_) (Cert.Reference8Ideal.Value.run (F := Ideal) m' g')⟩
  obtain ⟨q0, q1, q2, q3, qa⟩ := h c
  obtain ⟨e0, e1, e2, e3, e4, e5⟩ := hm c
  have p0 := q0.trans (Cert.Reference8Ideal.Read.val_main_v7_eq (F := Ideal) _ _ _)
  have p1 := q1.trans (Cert.Reference8Ideal.Read.val_main_v31_eq (F := Ideal) _ _ _ _ _ _)
  have p2 := q2.trans (Cert.Reference8Ideal.Read.val_main_v12_eq (F := Ideal) _ _ _ _)
  have p3 := q3.trans (Cert.Reference8Ideal.Read.val_main_v18_eq (F := Ideal) _ _ _ _)
  rw [e0, e2, e3] at p0
  rw [e0, e1, e2, e3, e4, e5] at p1
  rw [e0, e2, e3, e4] at p2
  rw [e0, e2, e3, e5] at p3
  exact ⟨p0.trans (same5 m trivial c).symm, p1.trans (same6 m trivial c).symm, p2.trans (same7 m trivial c).symm, p3.trans (same8 m trivial c).symm, qa⟩

end Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Out.Main
public import proofs.«01_k».proof.Proof.Win.Main
public import proofs.«01_k».proof.Proof.Inb.Both
public import proofs.«01_k».proof.Proof.Inb.Main
public import proofs.«01_k».proof.Proof.Frt.Main
public import proofs.«01_k».proof.Proof.Adam.Tiles
public import proofs.«01_k».proof.Proof.Adam.Shard
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel8.Gen.facts, Cert.Kernel8Ideal.Gen.facts, Cert.Reference8Ideal.Gen.facts,
  Cert.Pre_finite.Gen.facts, Cert.Pre_finite3.Gen.facts,
  fun m ρ _ => Cert.Kernel.Gen.frame m ρ, fun m ρ _ => Cert.KernelIdeal.Gen.frame m ρ, fun m ρ _ => Cert.KernelIdeal.Gen.frame m ρ,
  Out.frameR, fun m ρ _ => Out.frameR m ρ trivial,
  fun m ρ _ => Cert.Kernel2.Gen.frame m ρ, fun m ρ _ => Cert.Kernel2Ideal.Gen.frame m ρ, Win.frameR,
  Inb.frame_kernel3, fun m ρ _ => Inb.frame m ρ, fun m ρ _ => Inb.frame m ρ, Inb.frameR, fun m ρ _ => Inb.frameR m ρ trivial,
  fun m ρ _ => Cert.Kernel4.Gen.frame m ρ, fun m ρ _ => Cert.Kernel4Ideal.Gen.frame m ρ, Frt.frameR,
  fun m ρ _ => Cert.Kernel5.Gen.frame m ρ, fun m ρ _ => Cert.Kernel5Ideal.Gen.frame m ρ, Adam.frameR5,
  fun m ρ _ => Cert.Kernel6.Gen.frame m ρ, fun m ρ _ => Cert.Kernel6Ideal.Gen.frame m ρ, Adam.frameR6,
  fun m ρ _ => Cert.Kernel8.Gen.frame m ρ trivial, fun m ρ _ => Cert.Kernel8Ideal.Gen.frame m ρ trivial, Adam.frameR8,
  trivial, Out.algebraic, trivial, Win.algebraic, trivial, Inb.algebraic, trivial, Frt.algebraic,
  trivial, Adam.algebraic5, trivial, Adam.algebraic6, trivial, Adam.algebraic8⟩

end Cert.Proof

end
